-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norms_bounded_KernelIdeal [hPre_norms_bounded_KernelIdeal : Cert.Pre_norms_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_norms_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_norms_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norms_bounded_ReferenceIdeal [hPre_norms_bounded_ReferenceIdeal : Cert.Pre_norms_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norms_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_norms_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_norms_bounded_KernelIdeal [hKernelIdeal : Cert.KernelIdeal.Facts] [hPre_norms_bounded_KernelIdeal : Cert.Pre_norms_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norms_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_norms_bounded_ReferenceIdeal [hReferenceIdeal : Cert.ReferenceIdeal.Facts] [hPre_norms_bounded_ReferenceIdeal : Cert.Pre_norms_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norms_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_norms_bounded_KernelIdeal [hKernelIdeal : Cert.KernelIdeal.Facts] [hReferenceIdeal : Cert.ReferenceIdeal.Facts] [hPre_norms_bounded_KernelIdeal : Cert.Pre_norms_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norms_bounded_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![1024, 65536]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![16384, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_norms_bounded_KernelIdeal : Cert.Pre_norms_bounded_KernelIdeal.Facts) (hPre_norms_bounded_ReferenceIdeal : Cert.Pre_norms_bounded_ReferenceIdeal.Facts),
    quiescent_Kernel (hKernel := hKernel)
    ∧ quiescent_KernelIdeal (hKernelIdeal := hKernelIdeal)
    ∧ quiescent_KernelIdeal_pre_norms_bounded_KernelIdeal (hKernelIdeal := hKernelIdeal) (hPre_norms_bounded_KernelIdeal := hPre_norms_bounded_KernelIdeal)
    ∧ quiescent_ReferenceIdeal (hReferenceIdeal := hReferenceIdeal)
    ∧ quiescent_ReferenceIdeal_pre_norms_bounded_ReferenceIdeal (hReferenceIdeal := hReferenceIdeal) (hPre_norms_bounded_ReferenceIdeal := hPre_norms_bounded_ReferenceIdeal)
    ∧ preserves_Kernel_KernelIdeal
    ∧ algebraic_KernelIdeal_ReferenceIdeal_pre_norms_bounded_KernelIdeal (hKernelIdeal := hKernelIdeal) (hReferenceIdeal := hReferenceIdeal) (hPre_norms_bounded_KernelIdeal := hPre_norms_bounded_KernelIdeal)
-- ==== Pre_norms_bounded_KernelIdeal.lean ====
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S1024 : Shape := ⟨1, ![1024]⟩
abbrev S4096 : Shape := ⟨1, ![4096]⟩

class Facts : Prop where
  reducesTo_S1024x1024_S1024_d1 : S1024x1024.ReducesTo [1] S1024
  h_S_ : 0 < S_.numel
  bcast_S_S1024 : S_.BroadcastsInDim S1024 (![] : Fin 0 → Fin S1024.rank)
  reducesTo_S1024x4096_S4096_d0 : S1024x4096.ReducesTo [0] S4096
  bcast_S_S4096 : S_.BroadcastsInDim S4096 (![] : Fin 0 → Fin S4096.rank)

variable [Facts]

def fn {F : FTy → Type} [FloatOps F] (main_arg0 : FVec F S1024x1024 .f32) (main_arg1 : FVec F S1024x4096 .f32) (main_arg2 : FVec F S4096x1024 .f32) : IVec S1024 1 × IVec S4096 1 :=
  let main_v0 : FVec F S1024x1024 .f32 := mulf main_arg0 main_arg0
  let main_cst : FVec F S_ .f32 := constant S_ .f32 0x00000000#32
  let main_v1 : FVec F S1024 .f32 := (fun x v => Host.reduceAdd x v reducesTo_S1024x1024_S1024_d1 h_S_) main_v0 main_cst
  let main_cst_0 : FVec F S_ .f32 := constant S_ .f32 0x44E10000#32
  let main_v2 : FVec F S1024 .f32 := broadcastInDim S1024 ![] bcast_S_S1024 main_cst_0
  let main_v3 : IVec S1024 1 := cmpf .ole main_v1 main_v2
  let main_v4 : FVec F S1024x4096 .f32 := mulf main_arg1 main_arg1
  let main_cst_1 : FVec F S_ .f32 := constant S_ .f32 0x00000000#32
  let main_v5 : FVec F S4096 .f32 := (fun x v => Host.reduceAdd x v reducesTo_S1024x4096_S4096_d0 h_S_) main_v4 main_cst_1
  let main_cst_2 : FVec F S_ .f32 := constant S_ .f32 0x40000000#32
  let main_v6 : FVec F S4096 .f32 := broadcastInDim S4096 ![] bcast_S_S4096 main_cst_2
  let main_v7 : IVec S4096 1 := cmpf .ole main_v5 main_v6
  (main_v3, main_v7)
-- ==== Pre_norms_bounded_ReferenceIdeal.lean ====
abbrev S16384x1024 : Shape := ⟨2, ![16384, 1024]⟩
abbrev S1024x65536 : Shape := ⟨2, ![1024, 65536]⟩
abbrev S65536x1024 : Shape := ⟨2, ![65536, 1024]⟩
abbrev S_ : Shape := ⟨0, ![]⟩
abbrev S16384 : Shape := ⟨1, ![16384]⟩
abbrev S65536 : Shape := ⟨1, ![65536]⟩

class Facts : Prop where
  reducesTo_S16384x1024_S16384_d1 : S16384x1024.ReducesTo [1] S16384
  h_S_ : 0 < S_.numel
  bcast_S_S16384 : S_.BroadcastsInDim S16384 (![] : Fin 0 → Fin S16384.rank)
  reducesTo_S1024x65536_S65536_d0 : S1024x65536.ReducesTo [0] S65536
  bcast_S_S65536 : S_.BroadcastsInDim S65536 (![] : Fin 0 → Fin S65536.rank)

variable [Facts]

def fn {F : FTy → Type} [FloatOps F] (main_arg0 : FVec F S16384x1024 .f32) (main_arg1 : FVec F S1024x65536 .f32) (main_arg2 : FVec F S65536x1024 .f32) : IVec S16384 1 × IVec S65536 1 :=
  let main_v0 : FVec F S16384x1024 .f32 := mulf main_arg0 main_arg0
  let main_cst : FVec F S_ .f32 := constant S_ .f32 0x00000000#32
  let main_v1 : FVec F S16384 .f32 := (fun x v => Host.reduceAdd x v reducesTo_S16384x1024_S16384_d1 h_S_) main_v0 main_cst
  let main_cst_0 : FVec F S_ .f32 := constant S_ .f32 0x44E10000#32
  let main_v2 : FVec F S16384 .f32 := broadcastInDim S16384 ![] bcast_S_S16384 main_cst_0
  let main_v3 : IVec S16384 1 := cmpf .ole main_v1 main_v2
  let main_v4 : FVec F S1024x65536 .f32 := mulf main_arg1 main_arg1
  let main_cst_1 : FVec F S_ .f32 := constant S_ .f32 0x00000000#32
  let main_v5 : FVec F S65536 .f32 := (fun x v => Host.reduceAdd x v reducesTo_S1024x65536_S65536_d0 h_S_) main_v4 main_cst_1
  let main_cst_2 : FVec F S_ .f32 := constant S_ .f32 0x40000000#32
  let main_v6 : FVec F S65536 .f32 := broadcastInDim S65536 ![] bcast_S_S65536 main_cst_2
  let main_v7 : IVec S65536 1 := cmpf .ole main_v5 main_v6
  (main_v3, main_v7)
-- ==== Kernel.lean ====
abbrev S1024x1024 : Shape := ⟨2, ![1024, 1024]⟩
abbrev S1024x4096 : Shape := ⟨2, ![1024, 4096]⟩
abbrev S4096x1024 : Shape := ⟨2, ![4096, 1024]⟩
abbrev S2x512x1024 : Shape := ⟨3, ![2, 512, 1024]⟩
abbrev S2x1024x1024 : Shape := ⟨3, ![2, 1024, 1024]⟩
abbrev S2 : Shape := ⟨1, ![2]⟩
abbrev S_ : Shape := ⟨0, ![]⟩
abbrev S512x1024 : Shape := ⟨2, ![512, 1024]⟩
abbrev S1x512x1024 : Shape := ⟨3, ![1, 512, 1024]⟩
abbrev S1 : Shape := ⟨1, ![1]⟩
abbrev S1x1024x1024 : Shape := ⟨3, ![1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S4096x1024, .f32⟩
  | .hbm, ⟨3, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S2x512x1024, .f32⟩
  | .local _ .vmem, ⟨3, _⟩ => ⟨S2x512x1024, .f32⟩
  | .local _ .vmem, ⟨4, _⟩ => ⟨S2x512x1024, .f32⟩
  | .local _ .vmem, ⟨5, _⟩ => ⟨S2x512x1024, .f32⟩
  | .local _ .vmem, ⟨6, _⟩ => ⟨S2x1024x1024, .f32⟩
  | .local _ .vmem, ⟨7, _⟩ => ⟨S2x1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 9 22 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 8

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_6 : BitVec 32 := 1#32
  let v10 : BitVec 32 := Scalar.muli v6 c1_i32_6
  let v11 : BitVec 32 := Scalar.addi c0_i32_7 v10
  v11.toNat
def k0_off1 (c0_i32_20 : BitVec 32) : Fin 1 → Nat :=
  let c2_i32_21 : BitVec 32 := 2#32
  let v24 : BitVec 32 := Scalar.remsi c0_i32_20 c2_i32_21
  ![v24.toNat]
def k0_off1_at (r : Fin 4) : BitVec 32 :=
  if r.val < 2 then
    if r.val < 1 then
      0#32
    else
      1#32
  else
    if r.val < 3 then
      15#32
    else
      14#32
def k0_off2 (c1_i32_18 : BitVec 32) : Fin 3 → Nat :=
  let c2_i32_19 : BitVec 32 := 2#32
  let v23 : BitVec 32 := Scalar.remsi c1_i32_18 c2_i32_19
  let c0_i32_26 : BitVec 32 := 0#32
  let c0_i32_27 : BitVec 32 := 0#32
  ![v23.toNat, 0, 0]
def k0_off2_at (r : Fin 4) : BitVec 32 :=
  if r.val < 2 then
    if r.val < 1 then
      1#32
    else
      0#32
  else
    if r.val < 3 then
      15#32
    else
      14#32
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_24 : BitVec 32 := 1#32
  let v26 : BitVec 32 := Scalar.muli v6 c1_i32_24
  let v27 : BitVec 32 := Scalar.addi c0_i32_25 v26
  v27.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_38 : BitVec 32 := 1#32
  let v40 : BitVec 32 := Scalar.muli v4 c1_i32_38
  let v41 : BitVec 32 := Scalar.addi c0_i32_39 v40
  v41.toNat
@[reducible] def k0_t1_loop : Scf.Loop 32 :=
  let c0_i32_65 : BitVec 32 := 0#32
  let c15_i32_66 : BitVec 32 := 15#32
  let v70 : BitVec 32 := Scalar.addi c0_i32_65 c15_i32_66
  let c1_i32_67 : BitVec 32 := 1#32
  ⟨c0_i32_65, v70, c1_i32_67⟩
def k0_off3 (k0_t1 : Fin k0_t1_loop.trips) : Fin 1 → Nat :=
  let c0_i32_65 : BitVec 32 := 0#32
  let c1_i32_67 : BitVec 32 := 1#32
  let arg24 : BitVec 32 := Scf.iv c0_i32_65 c1_i32_67 k0_t1
  let c2_i32_129 : BitVec 32 := 2#32
  let v126 : BitVec 32 := Scalar.remsi arg24 c2_i32_129
  ![v126.toNat]
def k0_off4 (k0_t1 : Fin k0_t1_loop.trips) : Fin 3 → Nat :=
  let c0_i32_65 : BitVec 32 := 0#32
  let c1_i32_67 : BitVec 32 := 1#32
  let arg24 : BitVec 32 := Scf.iv c0_i32_65 c1_i32_67 k0_t1
  let c2_i32_126 : BitVec 32 := 2#32
  let v123 : BitVec 32 := Scalar.remsi arg24 c2_i32_126
  let c0_i32_133 : BitVec 32 := 0#32
  let c0_i32_134 : BitVec 32 := 0#32
  ![v123.toNat, 0, 0]
def k0_off5 (k0_t1 : Fin k0_t1_loop.trips) : Fin 3 → Nat :=
  let c0_i32_65 : BitVec 32 := 0#32
  let c1_i32_67 : BitVec 32 := 1#32
  let arg24 : BitVec 32 := Scf.iv c0_i32_65 c1_i32_67 k0_t1
  let c1_i32_127 : BitVec 32 := 1#32
  let v124 : BitVec 32 := Scalar.addi arg24 c1_i32_127
  let c2_i32_128 : BitVec 32 := 2#32
  let v125 : BitVec 32 := Scalar.remsi v124 c2_i32_128
  let c0_i32_135 : BitVec 32 := 0#32
  let c0_i32_136 : BitVec 32 := 0#32
  ![v125.toNat, 0, 0]
def k0_off6 (k0_t1 : Fin k0_t1_loop.trips) : Fin 1 → Nat :=
  let c0_i32_65 : BitVec 32 := 0#32
  let c1_i32_67 : BitVec 32 := 1#32
  let arg24 : BitVec 32 := Scf.iv c0_i32_65 c1_i32_67 k0_t1
  let c1_i32_130 : BitVec 32 := 1#32
  let v127 : BitVec 32 := Scalar.addi arg24 c1_i32_130
  let c2_i32_131 : BitVec 32 := 2#32
  let v128 : BitVec 32 := Scalar.remsi v127 c2_i32_131
  ![v128.toNat]
def k0_cond1 (k0_t1 : Fin k0_t1_loop.trips) : BitVec 1 :=
  let c0_i32_65 : BitVec 32 := 0#32
  let c1_i32_67 : BitVec 32 := 1#32
  let arg24 : BitVec 32 := Scf.iv c0_i32_65 c1_i32_67 k0_t1
  let c13_i32 : BitVec 32 := 13#32
  let v163 : BitVec 1 := Scalar.cmpi .sle arg24 c13_i32
  let v164 : BitVec 32 := Scalar.extui v163
  let c0_i32_160 : BitVec 32 := 0#32
  let v165 : BitVec 1 := Scalar.cmpi .ne v164 c0_i32_160
  v165

def k0_off7 (k0_t1 : Fin k0_t1_loop.trips) : Fin 1 → Nat :=
  let c0_i32_65 : BitVec 32 := 0#32
  let c1_i32_67 : BitVec 32 := 1#32
  let arg24 : BitVec 32 := Scf.iv c0_i32_65 c1_i32_67 k0_t1
  let c2_i32_123 : BitVec 32 := 2#32
  let v120 : BitVec 32 := Scalar.remsi arg24 c2_i32_123
  ![v120.toNat]
def k0_dev5 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_198 : BitVec 32 := 1#32
  let v213 : BitVec 32 := Scalar.muli v4 c1_i32_198
  let v214 : BitVec 32 := Scalar.addi c0_i32_199 v213
  v214.toNat
def k0_dev6 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_201 : BitVec 32 := 1#32
  let v217 : BitVec 32 := Scalar.muli v6 c1_i32_201
  let v218 : BitVec 32 := Scalar.addi c0_i32_202 v217
  v218.toNat
def k0_cond2 (k0_t1 : Fin k0_t1_loop.trips) : BitVec 1 :=
  let c0_i32_65 : BitVec 32 := 0#32
  let c1_i32_67 : BitVec 32 := 1#32
  let arg24 : BitVec 32 := Scf.iv c0_i32_65 c1_i32_67 k0_t1
  let c13_i32_161 : BitVec 32 := 13#32
  let v166 : BitVec 1 := Scalar.cmpi .sle arg24 c13_i32_161
  let v167 : BitVec 32 := Scalar.extui v166
  let c0_i32_162 : BitVec 32 := 0#32
  let v168 : BitVec 1 := Scalar.cmpi .ne v167 c0_i32_162
  v168

def k0_off8 (k0_t1 : Fin k0_t1_loop.trips) : Fin 1 → Nat :=
  let c0_i32_65 : BitVec 32 := 0#32
  let c1_i32_67 : BitVec 32 := 1#32
  let arg24 : BitVec 32 := Scf.iv c0_i32_65 c1_i32_67 k0_t1
  let c2_i32_123 : BitVec 32 := 2#32
  let v120 : BitVec 32 := Scalar.remsi arg24 c2_i32_123
  ![v120.toNat]
def k0_off9 (k0_t1 : Fin k0_t1_loop.trips) : Fin 1 → Nat :=
  let c0_i32_65 : BitVec 32 := 0#32
  let c1_i32_67 : BitVec 32 := 1#32
  let arg24 : BitVec 32 := Scf.iv c0_i32_65 c1_i32_67 k0_t1
  let c1_i32_201 : BitVec 32 := 1#32
  let v215 : BitVec 32 := Scalar.addi arg24 c1_i32_201
  let c2_i32_205 : BitVec 32 := 2#32
  let v219 : BitVec 32 := Scalar.remsi v215 c2_i32_205
  ![v219.toNat]
def k0_off10 (k0_t1 : Fin k0_t1_loop.trips) : Fin 1 → Nat :=
  let c0_i32_65 : BitVec 32 := 0#32
  let c1_i32_67 : BitVec 32 := 1#32
  let arg24 : BitVec 32 := Scf.iv c0_i32_65 c1_i32_67 k0_t1
  let c1_i32_201 : BitVec 32 := 1#32
  let v215 : BitVec 32 := Scalar.addi arg24 c1_i32_201
  let c1_i32_206 : BitVec 32 := 1#32
  let v220 : BitVec 32 := Scalar.addi v215 c1_i32_206
  let c2_i32_207 : BitVec 32 := 2#32
  let v221 : BitVec 32 := Scalar.remsi v220 c2_i32_207
  ![v221.toNat]
def k0_off11 (k0_t1 : Fin k0_t1_loop.trips) : Fin 3 → Nat :=
  let c0_i32_65 : BitVec 32 := 0#32
  let c1_i32_67 : BitVec 32 := 1#32
  let arg24 : BitVec 32 := Scf.iv c0_i32_65 c1_i32_67 k0_t1
  let c1_i32_201 : BitVec 32 := 1#32
  let v215 : BitVec 32 := Scalar.addi arg24 c1_i32_201
  let c1_i32_203 : BitVec 32 := 1#32
  let v217 : BitVec 32 := Scalar.addi v215 c1_i32_203
  let c2_i32_204 : BitVec 32 := 2#32
  let v218 : BitVec 32 := Scalar.remsi v217 c2_i32_204
  let c0_i32_210 : BitVec 32 := 0#32
  let c0_i32_211 : BitVec 32 := 0#32
  ![v218.toNat, 0, 0]
def k0_off12 (k0_t1 : Fin k0_t1_loop.trips) : Fin 3 → Nat :=
  let c0_i32_65 : BitVec 32 := 0#32
  let c1_i32_67 : BitVec 32 := 1#32
  let arg24 : BitVec 32 := Scf.iv c0_i32_65 c1_i32_67 k0_t1
  let c1_i32_201 : BitVec 32 := 1#32
  let v215 : BitVec 32 := Scalar.addi arg24 c1_i32_201
  let c2_i32_202 : BitVec 32 := 2#32
  let v216 : BitVec 32 := Scalar.remsi v215 c2_i32_202
  let c0_i32_212 : BitVec 32 := 0#32
  let c0_i32_213 : BitVec 32 := 0#32
  ![v216.toNat, 0, 0]
def k0_dev7 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_208 : BitVec 32 := 1#32
  let v222 : BitVec 32 := Scalar.muli v6 c1_i32_208
  let v223 : BitVec 32 := Scalar.addi c0_i32_209 v222
  v223.toNat
def k0_dev8 (d0 : Dev nD) : Nat :=
  let c0_i32_222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_221 : BitVec 32 := 1#32
  let v239 : BitVec 32 := Scalar.muli v4 c1_i32_221
  let v240 : BitVec 32 := Scalar.addi c0_i32_222 v239
  v240.toNat
def k0_cond3 (k0_t1 : Fin k0_t1_loop.trips) : BitVec 1 :=
  let c0_i32_65 : BitVec 32 := 0#32
  let c1_i32_67 : BitVec 32 := 1#32
  let arg24 : BitVec 32 := Scf.iv c0_i32_65 c1_i32_67 k0_t1
  let c1_i32_163 : BitVec 32 := 1#32
  let v169 : BitVec 1 := Scalar.cmpi .sge arg24 c1_i32_163
  let v170 : BitVec 32 := Scalar.extui v169
  let c0_i32_164 : BitVec 32 := 0#32
  let v171 : BitVec 1 := Scalar.cmpi .ne v170 c0_i32_164
  v171

def k0_off13 (k0_t1 : Fin k0_t1_loop.trips) : Fin 1 → Nat :=
  let c0_i32_65 : BitVec 32 := 0#32
  let c1_i32_67 : BitVec 32 := 1#32
  let arg24 : BitVec 32 := Scf.iv c0_i32_65 c1_i32_67 k0_t1
  let c1_i32_197 : BitVec 32 := 1#32
  let v211 : BitVec 32 := Scalar.subi arg24 c1_i32_197
  let c1_i32_201 : BitVec 32 := 1#32
  let v215 : BitVec 32 := Scalar.addi v211 c1_i32_201
  let c2_i32_202 : BitVec 32 := 2#32
  let v216 : BitVec 32 := Scalar.remsi v215 c2_i32_202
  ![v216.toNat]
def k0_off14 (k0_t1 : Fin k0_t1_loop.trips) : Fin 3 → Nat :=
  let c0_i32_65 : BitVec 32 := 0#32
  let c1_i32_67 : BitVec 32 := 1#32
  let arg24 : BitVec 32 := Scf.iv c0_i32_65 c1_i32_67 k0_t1
  let c1_i32_197 : BitVec 32 := 1#32
  let v211 : BitVec 32 := Scalar.subi arg24 c1_i32_197
  let c1_i32_198 : BitVec 32 := 1#32
  let v212 : BitVec 32 := Scalar.addi v211 c1_i32_198
  let c2_i32_199 : BitVec 32 := 2#32
  let v213 : BitVec 32 := Scalar.remsi v212 c2_i32_199
  let c0_i32_205 : BitVec 32 := 0#32
  let c0_i32_206 : BitVec 32 := 0#32
  ![v213.toNat, 0, 0]
def k0_off15 (k0_t1 : Fin k0_t1_loop.trips) : Fin 3 → Nat :=
  let c0_i32_65 : BitVec 32 := 0#32
  let c1_i32_67 : BitVec 32 := 1#32
  let arg24 : BitVec 32 := Scf.iv c0_i32_65 c1_i32_67 k0_t1
  let c1_i32_197 : BitVec 32 := 1#32
  let v211 : BitVec 32 := Scalar.subi arg24 c1_i32_197
  let c2_i32_200 : BitVec 32 := 2#32
  let v214 : BitVec 32 := Scalar.remsi v211 c2_i32_200
  let c0_i32_207 : BitVec 32 := 0#32
  let c0_i32_208 : BitVec 32 := 0#32
  ![v214.toNat, 0, 0]
def k0_off16 (k0_t1 : Fin k0_t1_loop.trips) : Fin 1 → Nat :=
  let c0_i32_65 : BitVec 32 := 0#32
  let c1_i32_67 : BitVec 32 := 1#32
  let arg24 : BitVec 32 := Scf.iv c0_i32_65 c1_i32_67 k0_t1
  let c1_i32_197 : BitVec 32 := 1#32
  let v211 : BitVec 32 := Scalar.subi arg24 c1_i32_197
  let c2_i32_203 : BitVec 32 := 2#32
  let v217 : BitVec 32 := Scalar.remsi v211 c2_i32_203
  ![v217.toNat]
def k0_cond4 (k0_t1 : Fin k0_t1_loop.trips) : BitVec 1 :=
  let c0_i32_65 : BitVec 32 := 0#32
  let c1_i32_67 : BitVec 32 := 1#32
  let arg24 : BitVec 32 := Scf.iv c0_i32_65 c1_i32_67 k0_t1
  let c1_i32_165 : BitVec 32 := 1#32
  let v172 : BitVec 1 := Scalar.cmpi .sge arg24 c1_i32_165
  let v173 : BitVec 32 := Scalar.extui v172
  let c0_i32_166 : BitVec 32 := 0#32
  let v174 : BitVec 1 := Scalar.cmpi .ne v173 c0_i32_166
  v174

def k0_off17 (k0_t1 : Fin k0_t1_loop.trips) : Fin 1 → Nat :=
  let c0_i32_65 : BitVec 32 := 0#32
  let c1_i32_67 : BitVec 32 := 1#32
  let arg24 : BitVec 32 := Scf.iv c0_i32_65 c1_i32_67 k0_t1
  let c2_i32_123 : BitVec 32 := 2#32
  let v120 : BitVec 32 := Scalar.remsi arg24 c2_i32_123
  ![v120.toNat]
def k0_dev9 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_198 : BitVec 32 := 1#32
  let v213 : BitVec 32 := Scalar.muli v4 c1_i32_198
  let v214 : BitVec 32 := Scalar.addi c0_i32_199 v213
  v214.toNat
def k0_dev10 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_201 : BitVec 32 := 1#32
  let v217 : BitVec 32 := Scalar.muli v6 c1_i32_201
  let v218 : BitVec 32 := Scalar.addi c0_i32_202 v217
  v218.toNat
@[reducible] def k0_t2_loop : Scf.Loop 32 :=
  let c0_i32_167 : BitVec 32 := 0#32
  let c4_i32_168 : BitVec 32 := 4#32
  let v175 : BitVec 32 := Scalar.addi c0_i32_167 c4_i32_168
  let c1_i32_169 : BitVec 32 := 1#32
  ⟨c0_i32_167, v175, c1_i32_169⟩
def k0_cond5 (k0_t2 : Fin k0_t2_loop.trips) : BitVec 1 :=
  let c0_i32_167 : BitVec 32 := 0#32
  let c1_i32_169 : BitVec 32 := 1#32
  let arg25 : BitVec 32 := Scf.iv c0_i32_167 c1_i32_169 k0_t2
  let c1_i32_198 : BitVec 32 := 1#32
  let v212 : BitVec 32 := Scalar.addi arg25 c1_i32_198
  let c4_i32_199 : BitVec 32 := 4#32
  let v213 : BitVec 1 := Scalar.cmpi .slt v212 c4_i32_199
  let v214 : BitVec 32 := Scalar.extui v213
  let c0_i32_200 : BitVec 32 := 0#32
  let v215 : BitVec 1 := Scalar.cmpi .ne v214 c0_i32_200
  v215

def k0_off18 (k0_t2 : Fin k0_t2_loop.trips) : Fin 1 → Nat :=
  let c0_i32_167 : BitVec 32 := 0#32
  let c1_i32_169 : BitVec 32 := 1#32
  let arg25 : BitVec 32 := Scf.iv c0_i32_167 c1_i32_169 k0_t2
  let c1_i32_236 : BitVec 32 := 1#32
  let v275 : BitVec 32 := Scalar.addi arg25 c1_i32_236
  let c2_i32_237 : BitVec 32 := 2#32
  let v276 : BitVec 32 := Scalar.remsi v275 c2_i32_237
  ![v276.toNat]
def k0_off19 (k0_t2 : Fin k0_t2_loop.trips) : Fin 3 → Nat :=
  let c0_i32_167 : BitVec 32 := 0#32
  let c1_i32_169 : BitVec 32 := 1#32
  let arg25 : BitVec 32 := Scf.iv c0_i32_167 c1_i32_169 k0_t2
  let c1_i32_236 : BitVec 32 := 1#32
  let v275 : BitVec 32 := Scalar.addi arg25 c1_i32_236
  let c2_i32_237 : BitVec 32 := 2#32
  let v276 : BitVec 32 := Scalar.remsi v275 c2_i32_237
  let c0_i32_240 : BitVec 32 := 0#32
  let c0_i32_241 : BitVec 32 := 0#32
  ![v276.toNat, 0, 0]
def k0_off20 (k0_t2 : Fin k0_t2_loop.trips) : Fin 2 → Nat :=
  let c0_i32_242 : BitVec 32 := 0#32
  let c0_i32_167 : BitVec 32 := 0#32
  let c1_i32_169 : BitVec 32 := 1#32
  let arg25 : BitVec 32 := Scf.iv c0_i32_167 c1_i32_169 k0_t2
  let c1_i32_235 : BitVec 32 := 1#32
  let v274 : BitVec 32 := Scalar.addi arg25 c1_i32_235
  let c1024_i32_238 : BitVec 32 := 1024#32
  let v277 : BitVec 32 := Scalar.muli v274 c1024_i32_238
  ![0, v277.toNat]
def k0_off21 (k0_t2 : Fin k0_t2_loop.trips) : Fin 2 → Nat :=
  let c0_i32_167 : BitVec 32 := 0#32
  let c1_i32_169 : BitVec 32 := 1#32
  let arg25 : BitVec 32 := Scf.iv c0_i32_167 c1_i32_169 k0_t2
  let c1_i32_235 : BitVec 32 := 1#32
  let v274 : BitVec 32 := Scalar.addi arg25 c1_i32_235
  let c1024_i32_239 : BitVec 32 := 1024#32
  let v278 : BitVec 32 := Scalar.muli v274 c1024_i32_239
  let c0_i32_245 : BitVec 32 := 0#32
  ![v278.toNat, 0]
def k0_off22 (k0_t2 : Fin k0_t2_loop.trips) : Fin 1 → Nat :=
  let c0_i32_167 : BitVec 32 := 0#32
  let c1_i32_169 : BitVec 32 := 1#32
  let arg25 : BitVec 32 := Scf.iv c0_i32_167 c1_i32_169 k0_t2
  let c2_i32_197 : BitVec 32 := 2#32
  let v211 : BitVec 32 := Scalar.remsi arg25 c2_i32_197
  ![v211.toNat]
def k0_off23 (k0_t2 : Fin k0_t2_loop.trips) : Fin 3 → Nat :=
  let c0_i32_167 : BitVec 32 := 0#32
  let c1_i32_169 : BitVec 32 := 1#32
  let arg25 : BitVec 32 := Scf.iv c0_i32_167 c1_i32_169 k0_t2
  let c2_i32_197 : BitVec 32 := 2#32
  let v211 : BitVec 32 := Scalar.remsi arg25 c2_i32_197
  let c0_i32_205 : BitVec 32 := 0#32
  let c0_i32_206 : BitVec 32 := 0#32
  ![v211.toNat, 0, 0]
def k0_off24 (k0_t2 : Fin k0_t2_loop.trips) : Fin 2 → Nat :=
  let c0_i32_207 : BitVec 32 := 0#32
  let c0_i32_167 : BitVec 32 := 0#32
  let c1_i32_169 : BitVec 32 := 1#32
  let arg25 : BitVec 32 := Scf.iv c0_i32_167 c1_i32_169 k0_t2
  let c1024_i32 : BitVec 32 := 1024#32
  let v220 : BitVec 32 := Scalar.muli arg25 c1024_i32
  ![0, v220.toNat]
def k0_off25 (k0_t2 : Fin k0_t2_loop.trips) : Fin 2 → Nat :=
  let c0_i32_167 : BitVec 32 := 0#32
  let c1_i32_169 : BitVec 32 := 1#32
  let arg25 : BitVec 32 := Scf.iv c0_i32_167 c1_i32_169 k0_t2
  let c1024_i32_204 : BitVec 32 := 1024#32
  let v221 : BitVec 32 := Scalar.muli arg25 c1024_i32_204
  let c0_i32_210 : BitVec 32 := 0#32
  ![v221.toNat, 0]
def k0_off26 (k0_t1 : Fin k0_t1_loop.trips) : Fin 3 → Nat :=
  let c0_i32_65 : BitVec 32 := 0#32
  let c1_i32_67 : BitVec 32 := 1#32
  let arg24 : BitVec 32 := Scf.iv c0_i32_65 c1_i32_67 k0_t1
  let c1_i32_124 : BitVec 32 := 1#32
  let v121 : BitVec 32 := Scalar.addi arg24 c1_i32_124
  let c2_i32_125 : BitVec 32 := 2#32
  let v122 : BitVec 32 := Scalar.remsi v121 c2_i32_125
  let v232 : Index := Scalar.indexCast v122
  let c0_211 : Index := 0#32
  let c0_212 : Index := 0#32
  ![v232.toNat, 0, 0]
def k0_off27 (k0_t2 : Fin k0_t2_loop.trips) : Fin 3 → Nat :=
  let c0_i32_167 : BitVec 32 := 0#32
  let c1_i32_169 : BitVec 32 := 1#32
  let arg25 : BitVec 32 := Scf.iv c0_i32_167 c1_i32_169 k0_t2
  let c2_i32_197 : BitVec 32 := 2#32
  let v211 : BitVec 32 := Scalar.remsi arg25 c2_i32_197
  let v235 : Index := Scalar.indexCast v211
  let c0_213 : Index := 0#32
  let c0_214 : Index := 0#32
  ![v235.toNat, 0, 0]
def k0_cond7 (k0_t1 : Fin k0_t1_loop.trips) : BitVec 1 :=
  let c0_i32_65 : BitVec 32 := 0#32
  let c1_i32_67 : BitVec 32 := 1#32
  let arg24 : BitVec 32 := Scf.iv c0_i32_65 c1_i32_67 k0_t1
  let c1_i32_171 : BitVec 32 := 1#32
  let v176 : BitVec 1 := Scalar.cmpi .sge arg24 c1_i32_171
  let v177 : BitVec 32 := Scalar.extui v176
  let c0_i32_172 : BitVec 32 := 0#32
  let v178 : BitVec 1 := Scalar.cmpi .ne v177 c0_i32_172
  v178

def k0_off28 (k0_t1 : Fin k0_t1_loop.trips) : Fin 1 → Nat :=
  let c0_i32_65 : BitVec 32 := 0#32
  let c1_i32_67 : BitVec 32 := 1#32
  let arg24 : BitVec 32 := Scf.iv c0_i32_65 c1_i32_67 k0_t1
  let c2_i32_123 : BitVec 32 := 2#32
  let v120 : BitVec 32 := Scalar.remsi arg24 c2_i32_123
  ![v120.toNat]
def k0_dev11 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v5 : BitVec 32 := Scalar.addi v2 c1_i32_1
  let c16_i32_2 : BitVec 32 := 16#32
  let v6 : BitVec 32 := Scalar.remsi v5 c16_i32_2
  let c1_i32_179 : BitVec 32 := 1#32
  let v185 : BitVec 32 := Scalar.muli v6 c1_i32_179
  let v186 : BitVec 32 := Scalar.addi c0_i32_180 v185
  v186.toNat
def k0_dev12 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3 : BitVec 32 := Scalar.addi v2 c15_i32
  let c16_i32_0 : BitVec 32 := 16#32
  let v4 : BitVec 32 := Scalar.remsi v3 c16_i32_0
  let c1_i32_191 : BitVec 32 := 1#32
  let v201 : BitVec 32 := Scalar.muli v4 c1_i32_191
  let v202 : BitVec 32 := Scalar.addi c0_i32_192 v201
  v202.toNat
@[reducible] def k0_t3_loop : Scf.Loop 32 :=
  let c0_i32_69 : BitVec 32 := 0#32
  let c4_i32 : BitVec 32 := 4#32
  let v71 : BitVec 32 := Scalar.addi c0_i32_69 c4_i32
  let c1_i32_70 : BitVec 32 := 1#32
  ⟨c0_i32_69, v71, c1_i32_70⟩
def k0_cond8 (k0_t3 : Fin k0_t3_loop.trips) : BitVec 1 :=
  let c0_i32_69 : BitVec 32 := 0#32
  let c1_i32_70 : BitVec 32 := 1#32
  let arg24 : BitVec 32 := Scf.iv c0_i32_69 c1_i32_70 k0_t3
  let c1_i32_124 : BitVec 32 := 1#32
  let v121 : BitVec 32 := Scalar.addi arg24 c1_i32_124
  let c4_i32_125 : BitVec 32 := 4#32
  let v122 : BitVec 1 := Scalar.cmpi .slt v121 c4_i32_125
  let v123 : BitVec 32 := Scalar.extui v122
  let c0_i32_126 : BitVec 32 := 0#32
  let v124 : BitVec 1 := Scalar.cmpi .ne v123 c0_i32_126
  v124

def k0_off29 (k0_t3 : Fin k0_t3_loop.trips) : Fin 1 → Nat :=
  let c0_i32_69 : BitVec 32 := 0#32
  let c1_i32_70 : BitVec 32 := 1#32
  let arg24 : BitVec 32 := Scf.iv c0_i32_69 c1_i32_70 k0_t3
  let c1_i32_159 : BitVec 32 := 1#32
  let v170 : BitVec 32 := Scalar.addi arg24 c1_i32_159
  let c2_i32_160 : BitVec 32 := 2#32
  let v171 : BitVec 32 := Scalar.remsi v170 c2_i32_160
  ![v171.toNat]
def k0_off30 (k0_t3 : Fin k0_t3_loop.trips) : Fin 3 → Nat :=
  let c0_i32_69 : BitVec 32 := 0#32
  let c1_i32_70 : BitVec 32 := 1#32
  let arg24 : BitVec 32 := Scf.iv c0_i32_69 c1_i32_70 k0_t3
  let c1_i32_159 : BitVec 32 := 1#32
  let v170 : BitVec 32 := Scalar.addi arg24 c1_i32_159
  let c2_i32_160 : BitVec 32 := 2#32
  let v171 : BitVec 32 := Scalar.remsi v170 c2_i32_160
  let c0_i32_163 : BitVec 32 := 0#32
  let c0_i32_164 : BitVec 32 := 0#32
  ![v171.toNat, 0, 0]
def k0_off31 (k0_t3 : Fin k0_t3_loop.trips) : Fin 2 → Nat :=
  let c0_i32_165 : BitVec 32 := 0#32
  let c0_i32_69 : BitVec 32 := 0#32
  let c1_i32_70 : BitVec 32 := 1#32
  let arg24 : BitVec 32 := Scf.iv c0_i32_69 c1_i32_70 k0_t3
  let c1_i32_158 : BitVec 32 := 1#32
  let v169 : BitVec 32 := Scalar.addi arg24 c1_i32_158
  let c1024_i32_161 : BitVec 32 := 1024#32
  let v172 : BitVec 32 := Scalar.muli v169 c1024_i32_161
  ![0, v172.toNat]
def k0_off32 (k0_t3 : Fin k0_t3_loop.trips) : Fin 2 → Nat :=
  let c0_i32_69 : BitVec 32 := 0#32
  let c1_i32_70 : BitVec 32 := 1#32
  let arg24 : BitVec 32 := Scf.iv c0_i32_69 c1_i32_70 k0_t3
  let c1_i32_158 : BitVec 32 := 1#32
  let v169 : BitVec 32 := Scalar.addi arg24 c1_i32_158
  let c1024_i32_162 : BitVec 32 := 1024#32
  let v173 : BitVec 32 := Scalar.muli v169 c1024_i32_162
  let c0_i32_168 : BitVec 32 := 0#32
  ![v173.toNat, 0]
def k0_off33 (k0_t3 : Fin k0_t3_loop.trips) : Fin 1 → Nat :=
  let c0_i32_69 : BitVec 32 := 0#32
  let c1_i32_70 : BitVec 32 := 1#32
  let arg24 : BitVec 32 := Scf.iv c0_i32_69 c1_i32_70 k0_t3
  let c2_i32_123 : BitVec 32 := 2#32
  let v120 : BitVec 32 := Scalar.remsi arg24 c2_i32_123
  ![v120.toNat]
def k0_off34 (k0_t3 : Fin k0_t3_loop.trips) : Fin 3 → Nat :=
  let c0_i32_69 : BitVec 32 := 0#32
  let c1_i32_70 : BitVec 32 := 1#32
  let arg24 : BitVec 32 := Scf.iv c0_i32_69 c1_i32_70 k0_t3
  let c2_i32_123 : BitVec 32 := 2#32
  let v120 : BitVec 32 := Scalar.remsi arg24 c2_i32_123
  let c0_i32_128 : BitVec 32 := 0#32
  let c0_i32_129 : BitVec 32 := 0#32
  ![v120.toNat, 0, 0]
def k0_off35 (k0_t3 : Fin k0_t3_loop.trips) : Fin 2 → Nat :=
  let c0_i32_130 : BitVec 32 := 0#32
  let c0_i32_69 : BitVec 32 := 0#32
  let c1_i32_70 : BitVec 32 := 1#32
  let arg24 : BitVec 32 := Scf.iv c0_i32_69 c1_i32_70 k0_t3
  let c1024_i32 : BitVec 32 := 1024#32
  let v125 : BitVec 32 := Scalar.muli arg24 c1024_i32
  ![0, v125.toNat]
def k0_off36 (k0_t3 : Fin k0_t3_loop.trips) : Fin 2 → Nat :=
  let c0_i32_69 : BitVec 32 := 0#32
  let c1_i32_70 : BitVec 32 := 1#32
  let arg24 : BitVec 32 := Scf.iv c0_i32_69 c1_i32_70 k0_t3
  let c1024_i32_127 : BitVec 32 := 1024#32
  let v126 : BitVec 32 := Scalar.muli arg24 c1024_i32_127
  let c0_i32_133 : BitVec 32 := 0#32
  ![v126.toNat, 0]
def k0_off37 (k0_t3 : Fin k0_t3_loop.trips) : Fin 3 → Nat :=
  let c0_i32_69 : BitVec 32 := 0#32
  let c1_i32_70 : BitVec 32 := 1#32
  let arg24 : BitVec 32 := Scf.iv c0_i32_69 c1_i32_70 k0_t3
  let c2_i32_123 : BitVec 32 := 2#32
  let v120 : BitVec 32 := Scalar.remsi arg24 c2_i32_123
  let v139 : Index := Scalar.indexCast v120
  let c0_136 : Index := 0#32
  let c0_137 : Index := 0#32
  ![v139.toNat, 0, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S1024x65536 : Shape := ⟨2, ![1024, 65536]⟩
abbrev S65536x1024 : Shape := ⟨2, ![65536, 1024]⟩
abbrev S16384x65536 : Shape := ⟨2, ![16384, 65536]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x65536, .f32⟩
  | .hbm, ⟨2, _⟩ => ⟨S65536x1024, .f32⟩
  | .hbm, ⟨3, _⟩ => ⟨S16384x65536, .f32⟩
  | .hbm, ⟨4, _⟩ => ⟨S_, .i32⟩
  | .hbm, ⟨5, _⟩ => ⟨S_, .i32⟩
  | .hbm, ⟨6, _⟩ => ⟨S_, .f32⟩
  | .hbm, ⟨7, _⟩ => ⟨S16384x65536, .f32⟩
  | .hbm, ⟨8, _⟩ => ⟨S16384x65536, .f32⟩
  | .hbm, ⟨9, _⟩ => ⟨S_, .f32⟩
  | .hbm, ⟨10, _⟩ => ⟨S16384x65536, .f32⟩
  | .hbm, ⟨11, _⟩ => ⟨S16384x65536, .f32⟩
  | .hbm, ⟨12, _⟩ => ⟨S16384x65536, .f32⟩
  | .hbm, ⟨13, _⟩ => ⟨S16384x65536, .f32⟩
  | .hbm, ⟨14, _⟩ => ⟨S_, .f32⟩
  | .hbm, ⟨15, _⟩ => ⟨S16384x65536, .f32⟩
  | .hbm, ⟨16, _⟩ => ⟨S16384x65536, .f32⟩
  | .hbm, ⟨17, _⟩ => ⟨S16384x65536, .f32⟩
  | .hbm, ⟨18, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Proof.Ring.lean ====
/-
  The ring of sixteen devices, the kernel's buffers and its semaphores, named.

  The kernel moves four rings of blocks: the halves of `x` and the halves of the accumulator, each to the right and to the left. A ring is named by two
  Booleans: whether it carries accumulators, and whether it moves right. Each ring has a double buffer and three pairs of semaphores (the sender's, the
  receiver's, the credits); the two weight matrices have a double buffer and a pair of semaphores each; one barrier semaphore is shared with the neighbours.
  The uses of a pair of semaphores are numbered as EVENTS: event `j` is on one of the two by the parity of `j`, and is that one's round `j / 2`.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.TalkSites
public import Idealize.ShloMosaic.Lib.Rounds.Family
public import Idealize.ShloMosaic.Lib.Tactic

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The ring -/

set_option backward.proofsInPublic true in
/-- The device a step further in direction `d` (`true` is right). -/
def nx (d : Bool) (c : Dev nD) : Dev nD := ⟨(c.val + (if d then 1 else 15)) % 16, Nat.mod_lt _ (by decide)⟩

/-- The device a step back. -/
abbrev pv (d : Bool) (c : Dev nD) : Dev nD := nx (!d) c

theorem pv_nx (d : Bool) (c : Dev nD) : pv d (nx d c) = c := by revert d c; decide
theorem nx_pv (d : Bool) (c : Dev nD) : nx d (pv d c) = c := by revert d c; decide
theorem nx_ne_pv (d : Bool) (c : Dev nD) : nx d c ≠ pv d c := by revert d c; decide

/-- The device `i` steps back in direction `d`. -/
def back (d : Bool) : ℕ → Dev nD → Dev nD
  | 0, c => c
  | i + 1, c => back d i (pv d c)

/-- A step in direction `d` is a bijection. -/
def nxEquiv (d : Bool) : Dev nD ≃ Dev nD := ⟨nx d, pv d, pv_nx d, nx_pv d⟩

/-- A ring: whether it carries accumulators, and whether it moves right. -/
abbrev Rg : Type := Bool × Bool

/-! ## Buffers -/

/-- A ring's double buffer. -/
def buf : Rg → Memref sig .tc .vmem S2x512x1024 .f32
  | (false, true) => Memref.whole cc0_scratch0
  | (false, false) => Memref.whole cc0_scratch1
  | (true, true) => Memref.whole cc0_scratch2
  | (true, false) => Memref.whole cc0_scratch3

/-- The double buffer of the first weights (`false`) and of the second (`true`). -/
def wbuf : Bool → Memref sig .tc .vmem S2x1024x1024 .f32
  | false => Memref.whole cc0_scratch4
  | true => Memref.whole cc0_scratch5

/-- The block of a ring's double buffer at an offset. -/
abbrev slotAt (M : Memref sig .tc .vmem S2x512x1024 .f32) (off : Fin 3 → ℕ) (h : ∀ a, off a + S1x512x1024.size a ≤ S2x512x1024.size a) :
    Memref sig .tc .vmem S512x1024 .f32 :=
  (M.slice (Rect.unit (s := S2x512x1024) off S1x512x1024.size h) (fun _ => rfl)).squeeze S512x1024 squeezes_S1x512x1024_S512x1024

/-- The block of a weight buffer at an offset. -/
abbrev wslotAt (M : Memref sig .tc .vmem S2x1024x1024 .f32) (off : Fin 3 → ℕ) (h : ∀ a, off a + S1x1024x1024.size a ≤ S2x1024x1024.size a) :
    Memref sig .tc .vmem S1024x1024 .f32 :=
  (M.slice (Rect.unit (s := S2x1024x1024) off S1x1024x1024.size h) (fun _ => rfl)).squeeze S1024x1024 squeezes_S1x1024x1024_S1024x1024

theorem slot_inb (p : Fin 2) : ∀ a, (![p.val, 0, 0] : Fin 3 → ℕ) a + S1x512x1024.size a ≤ S2x512x1024.size a := by revert p; decide
theorem wslot_inb (p : Fin 2) : ∀ a, (![p.val, 0, 0] : Fin 3 → ℕ) a + S1x1024x1024.size a ≤ S2x1024x1024.size a := by revert p; decide

/-- Block `p` of a ring's double buffer. -/
def slot (r : Rg) (p : Fin 2) : Memref sig .tc .vmem S512x1024 .f32 := slotAt (buf r) ![p.val, 0, 0] (slot_inb p)

/-- Block `p` of a weight buffer. -/
def wslot (b : Bool) (p : Fin 2) : Memref sig .tc .vmem S1024x1024 .f32 := wslotAt (wbuf b) ![p.val, 0, 0] (wslot_inb p)

theorem chunk1_inb (k : Fin 4) : ∀ a, (![0, 1024 * k.val] : Fin 2 → ℕ) a + S1024x1024.size a ≤ S1024x4096.size a := by revert k; decide
theorem chunk2_inb (k : Fin 4) : ∀ a, (![1024 * k.val, 0] : Fin 2 → ℕ) a + S1024x1024.size a ≤ S4096x1024.size a := by revert k; decide

/-- Chunk `k` of the device's first weights, in HBM. -/
def wsrc1 (k : Fin 4) : Memref sig .tc .hbm S1024x1024 .f32 :=
  (Memref.whole main_arg1).slice (Rect.unit (s := S1024x4096) ![0, 1024 * k.val] S1024x1024.size (chunk1_inb k)) (fun _ => rfl)

/-- Chunk `k` of the device's second weights, in HBM. -/
def wsrc2 (k : Fin 4) : Memref sig .tc .hbm S1024x1024 .f32 :=
  (Memref.whole main_arg2).slice (Rect.unit (s := S4096x1024) ![1024 * k.val, 0] S1024x1024.size (chunk2_inb k)) (fun _ => rfl)

/-- Chunk `k` of the first (`false`) or the second weights. -/
def wsrc : Bool → Fin 4 → Memref sig .tc .hbm S1024x1024 .f32
  | false => wsrc1
  | true => wsrc2

/-! ## Semaphores -/

/-- The kinds of semaphores, each a pair: a ring's send, receive and credit semaphores, and the weights'. -/
inductive K where
  | send (r : Rg) | recv (r : Rg) | cred (r : Rg) | wt (b : Bool)
deriving DecidableEq

/-- The kinds, as a sum of finite types. -/
def K.equiv : Rg ⊕ Rg ⊕ Rg ⊕ Bool ≃ K where
  toFun := fun | .inl r => .send r | .inr (.inl r) => .recv r | .inr (.inr (.inl r)) => .cred r | .inr (.inr (.inr b)) => .wt b
  invFun := fun | .send r => .inl r | .recv r => .inr (.inl r) | .cred r => .inr (.inr (.inl r)) | .wt b => .inr (.inr (.inr b))
  left_inv := by rintro (r | r | r | b) <;> rfl
  right_inv := by rintro (r | r | r | b) <;> rfl

instance : Fintype K := Fintype.ofEquiv _ K.equiv

/-- A ring's number: right x, left x, right accumulators, left accumulators. -/
def num (r : Rg) : ℕ := (if r.1 then 2 else 0) + (if r.2 then 0 else 1)

theorem num_lt (r : Rg) : num r < 4 := by revert r; decide

set_option backward.proofsInPublic true in
/-- Semaphore `p` of a kind, in the core's semaphore files. -/
def csem : K → Fin 2 → SemLoc sig
  | .send r, p => .dma (⟨2 + 4 * num r + p.val, by have := num_lt r; show _ < 22; omega⟩ : Fin 22)
  | .recv r, p => .dma (⟨4 + 4 * num r + p.val, by have := num_lt r; show _ < 22; omega⟩ : Fin 22)
  | .cred r, p => .reg (⟨2 * num r + p.val, by have := num_lt r; show _ < 9; omega⟩ : Fin 9)
  | .wt b, p => .dma (⟨18 + (if b then 2 else 0) + p.val, by show _ < 22; split <;> omega⟩ : Fin 22)

/-- A ring by its number. -/
def rgOf (n : ℕ) : Rg := (decide (2 ≤ n), decide (n % 2 = 0))

/-- Which semaphore of which kind a semaphore is. -/
def dec : SemLoc sig → Option (K × Fin 2)
  | .dma q =>
    let n := q.val
    if n < 2 then none
    else if n < 18 then some (if (n - 2) % 4 < 2 then .send (rgOf ((n - 2) / 4)) else .recv (rgOf ((n - 2) / 4)), ⟨n % 2, Nat.mod_lt _ (by decide)⟩)
    else some (.wt (decide (20 ≤ n)), ⟨n % 2, Nat.mod_lt _ (by decide)⟩)
  | .reg q => if q.val < 8 then some (.cred (rgOf (q.val / 2)), ⟨q.val % 2, Nat.mod_lt _ (by decide)⟩) else none

theorem dec_csem : ∀ k p, dec (csem k p) = some (k, p) := by rintro (r | r | r | b) p <;> revert p <;> first | revert r; decide | revert b; decide

/-- The semaphore of a kind and a parity, on a device. -/
def cell (c : Dev nD) (k : K) (p : Fin 2) : GSem nD τ sig := ((c : Thread nD τ), csem k p)

/-- The barrier semaphore of a device. -/
def barCell (c : Dev nD) : GSem nD τ sig := ((c : Thread nD τ), .reg barrier0)

theorem cell_inj {c c' : Dev nD} {k k' : K} {p p' : Fin 2} (h : cell c k p = cell c' k' p') : c = c' ∧ k = k' ∧ p = p' := by
  have h1 : (c : Thread nD τ) = c' := congrArg Prod.fst h
  have h2 : csem k p = csem k' p' := congrArg Prod.snd h
  have h3 := (dec_csem k p).symm.trans ((congrArg dec h2).trans (dec_csem k' p'))
  have h4 := Option.some.inj h3
  exact ⟨congrArg Prod.fst h1, congrArg Prod.fst h4, congrArg Prod.snd h4⟩

theorem cell_ne_bar (c c' : Dev nD) (k : K) (p : Fin 2) : cell c k p ≠ barCell c' := fun h => by
  have h3 := (dec_csem k p).symm.trans (congrArg dec (congrArg Prod.snd h))
  exact absurd h3 (by show some (k, p) ≠ dec (.reg barrier0); rw [show dec (.reg barrier0) = none from by decide]; exact Option.some_ne_none _)

/-! ## Events -/

/-- The parity of a kind's event 0. -/
def off : K → ℕ
  | .send (a, _) => if a then 1 else 0
  | .recv (a, _) => if a then 0 else 1
  | .cred (a, _) => if a then 1 else 0
  | .wt _ => 0

set_option backward.proofsInPublic true in
/-- A number's parity. -/
def par (j : ℕ) : Fin 2 := ⟨j % 2, Nat.mod_lt _ (by decide)⟩

theorem par_val (j : ℕ) : (par j).val = j % 2 := rfl
theorem par_congr {i j : ℕ} (h : i % 2 = j % 2) : par i = par j := Fin.ext h

/-- How many events a kind has. -/
def cnt : K → ℕ
  | .send _ => 15
  | .recv _ => 15
  | .cred _ => 14
  | .wt _ => 64

/-- The semaphore event `j` is on. -/
def ev (c : Dev nD) (k : K) (j : ℕ) : GSem nD τ sig := cell c k (par (j + off k))

/-- The event that is round `r` of semaphore `p`. -/
def evOf (k : K) (p : Fin 2) (r : ℕ) : ℕ := 2 * r + (p.val + off k) % 2

theorem off_le (k : K) : off k ≤ 1 := by
  rcases k with ⟨⟨a, d⟩⟩ | ⟨⟨a, d⟩⟩ | ⟨⟨a, d⟩⟩ | b <;> simp only [off] <;> first | split <;> omega | omega

theorem evOf_ev (k : K) (j : ℕ) : evOf k (par (j + off k)) (j / 2) = j := by
  have := off_le k; simp only [evOf, par_val]; omega

theorem ev_evOf (c : Dev nD) (k : K) (p : Fin 2) (r : ℕ) : ev c k (evOf k p r) = cell c k p := by
  have := off_le k; have hp := p.isLt
  have h : par (evOf k p r + off k) = p := Fin.ext (by simp only [evOf, par_val]; omega)
  rw [ev, h]

theorem evOf_div (k : K) (p : Fin 2) (r : ℕ) : evOf k p r / 2 = r := by
  simp only [evOf]; omega

theorem ev_add_two (c : Dev nD) (k : K) (j : ℕ) : ev c k (j + 2) = ev c k j := by
  have h : par (j + 2 + off k) = par (j + off k) := par_congr (by omega)
  rw [ev, ev, h]

/-- The units of a ring block's transfer. -/
def amtR : ℕ := (slot (false, true) 0).view.dmaCredit
/-- The units of a weight chunk's transfer. -/
def amtW : ℕ := (wslot false 0).view.dmaCredit

theorem amtR_pos : 0 < amtR := View.dmaCredit_pos _ (by decide)
theorem amtW_pos : 0 < amtW := View.dmaCredit_pos _ (by decide)

theorem slot_amt (r : Rg) (p : Fin 2) : (slot r p).view.dmaCredit = amtR := by
  obtain ⟨a, d⟩ := r; cases a <;> cases d <;> rfl
theorem wslot_amt (b : Bool) (p : Fin 2) : (wslot b p).view.dmaCredit = amtW := by cases b <;> rfl

attribute [irreducible] amtR amtW

/-- The units of an event. -/
def amt : K → ℕ
  | .send _ => amtR
  | .recv _ => amtR
  | .cred _ => 1
  | .wt _ => amtW

theorem amt_pos (k : K) : 0 < amt k := by
  cases k
  · exact amtR_pos
  · exact amtR_pos
  · exact Nat.one_pos
  · exact amtW_pos

end Cert.Rings
-- ==== Proof.Schedule.lean ====
/-
  What the kernel's buffers hold, and what each semaphore's units hand over.

  `cont` is the contents of the block a ring's event `j` moves out of a device: a half of some device's `x`, or a half accumulator that has passed
  `j` devices. `pay` is what the units of an event hand to the device whose semaphore they raise: the block that was read or written, and with a landing or
  a credit the knowledge that the device across has come far enough for the next signal or transfer to be addressed to it.
-/
module

public import proofs.«01_k».proof.Proof.Ring

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Contents -/

/-- The launch's data: the halves of each device's `x` (`true` the upper), and the chunks of its two weight matrices (`false` the first). -/
structure Data (F : FTy → Type) where
  x : Bool → Dev nD → Vec F S512x1024 .f32
  w : Bool → Dev nD → Fin 4 → Vec F S1024x1024 .f32

set_option backward.proofsInPublic true in
/-- The chunk that is the `n`-th to be copied. -/
def ck (n : ℕ) : Fin 4 := ⟨n % 4, Nat.mod_lt _ (by decide)⟩

/-- The zero half block. -/
def zeroV : Vec F S512x1024 .f32 := broadcast S512x1024 (Scalar.ofBits .f32 0x00000000#32 : F .f32)

/-- The activation of `x` times a chunk of the first weights. -/
def actV (x : Vec F S512x1024 .f32) (w1 : Vec F S1024x1024 .f32) : Vec F S512x1024 .f32 :=
  mulf (matmul dot_S512x1024_S1024x1024_S512x1024_1_0_0_1_n_n none x w1 (constant S512x1024 .f32 0x00000000#32))
    (logistic (matmul dot_S512x1024_S1024x1024_S512x1024_1_0_0_1_n_n none x w1 (constant S512x1024 .f32 0x00000000#32)))

/-- One chunk's step: the accumulator plus the activation times the chunk of the second weights. -/
def stepV (x acc : Vec F S512x1024 .f32) (w1 w2 : Vec F S1024x1024 .f32) : Vec F S512x1024 .f32 :=
  addf acc (matmul dot_S512x1024_S1024x1024_S512x1024_1_0_0_1_n_n none (actV x w1) w2 (constant S512x1024 .f32 0x00000000#32))

variable (D : Data F)

/-- The accumulator after the first `n` chunks of device `c`'s weights. -/
def comp (c : Dev nD) (x acc : Vec F S512x1024 .f32) : ℕ → Vec F S512x1024 .f32
  | 0 => acc
  | n + 1 => stepV x (comp c x acc n) (D.w false c (ck n)) (D.w true c (ck n))

/-- The accumulator device `c` passes on after `i` devices before it have added to it. -/
def accV (d : Bool) : ℕ → Dev nD → Vec F S512x1024 .f32
  | 0, c => comp D c (D.x d (back d 1 c)) zeroV 4
  | i + 1, c => comp D c (D.x d (back d (i + 2) c)) (accV d i (pv d c)) 4

/-- The contents event `i` of a ring moves out of device `c`. -/
def cont : Rg → Dev nD → ℕ → Vec F S512x1024 .f32
  | (false, d), c, i => D.x d (back d i c)
  | (true, d), c, i => accV D d i c

theorem cont_x_succ (d : Bool) (c : Dev nD) (i : ℕ) : cont D (false, d) (pv d c) i = cont D (false, d) c (i + 1) := rfl

theorem cont_a_zero (d : Bool) (c : Dev nD) : cont D (true, d) c 0 = comp D c (cont D (false, d) c 1) zeroV 4 := rfl
theorem cont_a_succ (d : Bool) (c : Dev nD) (i : ℕ) :
    cont D (true, d) c (i + 1) = comp D c (cont D (false, d) c (i + 2)) (cont D (true, d) (pv d c) i) 4 := rfl

/-! ## Assertions -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-- The round of event `j`, and of the next, has been reached. -/
def Reach (c : Dev nD) (k : K) (j : ℕ) : sProp 𝕄 := iprop(reached (ER (F := F)) (ev c k j) (j / 2) ∗ reached (ER (F := F)) (ev c k (j + 1)) ((j + 1) / 2))

/-- Device `c` owns block `p` of a ring's buffer, at contents `X`. -/
def ownsR (c : Dev nD) (r : Rg) (p : ℕ) (q : PosShare TreeShare) (X : Vec F S512x1024 .f32) : sProp 𝕄 := owns (c : Thread nD τ) (slot r (par p)) q X

/-- Device `c` owns block `p` of a ring's buffer, at some contents. -/
def anyR (c : Dev nD) (r : Rg) (p : ℕ) : sProp 𝕄 := iprop(∃ X, ownsR (F := F) c r p fullShare X)

/-- The share of a block a ring's transfer reads: of an `x` block a half, for the other half is read meanwhile; of an accumulator the whole. -/
def shr (r : Rg) : PosShare TreeShare := if r.1 then fullShare else fullShare.left

/-- The share of the weights' arrays the copies read. -/
abbrev wq : PosShare TreeShare := fullShare.right

/-- Device `c` owns chunk `k` of its weights in HBM. -/
def ownsSrc (c : Dev nD) (b : Bool) (k : Fin 4) : sProp 𝕄 := owns (c : Thread nD τ) (wsrc b k) wq (D.w b c k)

/-- Device `c` owns block `p` of a weight buffer, at contents `X`. -/
def ownsW (c : Dev nD) (b : Bool) (p : ℕ) (X : Vec F S1024x1024 .f32) : sProp 𝕄 := owns (c : Thread nD τ) (wslot b (par p)) fullShare X

/-- What the units of event `j` of a kind hand to device `c`. -/
def pay (c : Dev nD) : K → ℕ → sProp 𝕄
  | .send r, j => ownsR c r (j + off (.send r)) (shr r) (cont D r c j)
  | .recv r, j => iprop(ownsR c r (j + off (.recv r)) fullShare (cont D r (pv r.2 c) j) ∗ Reach (pv r.2 c) (.cred r) j)
  | .cred r, j => iprop(anyR (nx r.2 c) r (j + 1 + off (.recv r)) ∗ Reach (nx r.2 c) (.recv r) (j + 1))
  | .wt b, n => iprop(ownsW c b n (D.w b c (ck n)) ∗ ownsSrc D c b (ck n))

theorem pay_send (c : Dev nD) (r : Rg) (j : ℕ) : pay D c (.send r) j = ownsR c r (j + off (.send r)) (shr r) (cont D r c j) := rfl
theorem pay_recv (c : Dev nD) (r : Rg) (j : ℕ) :
    pay D c (.recv r) j = iprop(ownsR c r (j + off (.recv r)) fullShare (cont D r (pv r.2 c) j) ∗ Reach (pv r.2 c) (.cred r) j) := rfl
theorem pay_cred (c : Dev nD) (r : Rg) (j : ℕ) :
    pay D c (.cred r) j = iprop(anyR (nx r.2 c) r (j + 1 + off (.recv r)) ∗ Reach (nx r.2 c) (.recv r) (j + 1)) := rfl
theorem pay_wt (c : Dev nD) (b : Bool) (n : ℕ) : pay D c (.wt b) n = iprop(ownsW c b n (D.w b c (ck n)) ∗ ownsSrc D c b (ck n)) := rfl

/-- What the barrier's unit from the device in direction `d` hands to device `c`: the blocks its first transfers in that direction write. -/
def barPay (c : Dev nD) (d : Bool) : sProp 𝕄 := iprop(anyR (F := F) (nx d c) (false, d) 1 ∗ anyR (nx d c) (true, d) 0)

instance ownsR_storable (c : Dev nD) (r : Rg) (p : ℕ) (q : PosShare TreeShare) (X : Vec F S512x1024 .f32) : Storable (upEmb : UEmb _ 𝕄) (ownsR c r p q X) := by
  unfold ownsR; infer_instance
instance anyR_storable (c : Dev nD) (r : Rg) (p : ℕ) : Storable (upEmb : UEmb _ 𝕄) (anyR (F := F) c r p) := by unfold anyR; infer_instance
instance ownsSrc_storable (c : Dev nD) (b : Bool) (k : Fin 4) : Storable (upEmb : UEmb _ 𝕄) (ownsSrc D c b k) := by unfold ownsSrc; infer_instance
instance ownsW_storable (c : Dev nD) (b : Bool) (p : ℕ) (X : Vec F S1024x1024 .f32) : Storable (upEmb : UEmb _ 𝕄) (ownsW c b p X) := by
  unfold ownsW; infer_instance
instance Reach_storable (c : Dev nD) (k : K) (j : ℕ) : Storable (upEmb : UEmb _ 𝕄) (Reach (F := F) c k j) := by unfold Reach; infer_instance
instance Reach_persistent (c : Dev nD) (k : K) (j : ℕ) : Persistent (Reach (F := F) c k j) := by unfold Reach; infer_instance

instance pay_storable (c : Dev nD) (k : K) (j : ℕ) : Storable (upEmb : UEmb _ 𝕄) (pay D c k j) := by
  cases k <;> (simp only [pay]; infer_instance)
instance barPay_storable (c : Dev nD) (d : Bool) : Storable (upEmb : UEmb _ 𝕄) (barPay (F := F) c d) := by unfold barPay; infer_instance

/-! ## The schedule -/

/-- The duties of a round of a semaphore. -/
def dut (g : GSem nD τ sig) (r : ℕ) : Finset Bool :=
  if g.1.2 = .tc then
    match dec g.2 with
    | some (k, p) => if evOf k p r < cnt k then {false} else ∅
    | none => if g.2 = .reg barrier0 ∧ r = 0 then {true, false} else ∅
  else ∅

/-- The units of a duty. -/
def amtOf (g : GSem nD τ sig) : ℕ :=
  match dec g.2 with
  | some (k, _) => amt k
  | none => 1

/-- What a duty hands over. -/
def payOf (g : GSem nD τ sig) (r : ℕ) (d : Bool) : sProp 𝕄 :=
  match dec g.2 with
  | some (k, p) => pay D g.1.1 k (evOf k p r)
  | none => barPay g.1.1 d

theorem amtOf_pos (g : GSem nD τ sig) : 0 < amtOf g := by
  unfold amtOf; split
  · exact amt_pos _
  · exact Nat.one_pos

/-- The round structure of the kernel's semaphores. -/
def Rd : Schedule (GSem nD τ sig) Bool 𝕄 where
  duties := dut
  amount g _ _ := amtOf g
  payload := payOf D
  amount_pos g _ _ _ := amtOf_pos g

instance Rd_storable (g : GSem nD τ sig) (r : ℕ) (d : Bool) : Storable (upEmb : UEmb _ 𝕄) ((Rd D).payload g r d) := by
  show Storable (upEmb : UEmb _ 𝕄) (payOf D g r d)
  unfold payOf; split <;> infer_instance

variable {D}

theorem duties_cell (c : Dev nD) (k : K) (p : Fin 2) (r : ℕ) : (Rd D).duties (cell c k p) r = if evOf k p r < cnt k then {false} else ∅ := by
  show dut (cell c k p) r = _
  unfold dut
  rw [if_pos (show (cell c k p).1.2 = .tc from rfl), show dec (cell c k p).2 = some (k, p) from dec_csem k p]

theorem duties_ev (c : Dev nD) {k : K} {j : ℕ} (h : j < cnt k) : (Rd D).duties (ev c k j) (j / 2) = {false} := by
  rw [ev, duties_cell, evOf_ev, if_pos h]

theorem duties_ev_last (c : Dev nD) {k : K} {j r : ℕ} (h : cnt k ≤ j) (hr : j / 2 ≤ r) : (Rd D).duties (ev c k j) r = ∅ := by
  rw [ev, duties_cell, if_neg]
  have := evOf_ev k j
  simp only [evOf] at this ⊢; omega

theorem amount_cell (c : Dev nD) (k : K) (p : Fin 2) (r : ℕ) (d : Bool) : (Rd D).amount (cell c k p) r d = amt k := by
  show amtOf (cell c k p) = _
  unfold amtOf
  rw [show dec (cell c k p).2 = some (k, p) from dec_csem k p]

theorem amount_ev (c : Dev nD) (k : K) (j r : ℕ) (d : Bool) : (Rd D).amount (ev c k j) r d = amt k := amount_cell c k _ r d

theorem expect_ev (c : Dev nD) {k : K} {j : ℕ} (h : j < cnt k) : (Rd D).expect (ev c k j) (j / 2) = amt k := by
  rw [Schedule.expect, Schedule.amountOf, duties_ev c h, Finset.sum_singleton, amount_ev]

theorem payload_ev (c : Dev nD) (k : K) (j : ℕ) (d : Bool) : (Rd D).payload (ev c k j) (j / 2) d = pay D c k j := by
  show payOf D (ev c k j) (j / 2) d = _
  unfold payOf
  rw [show dec (ev c k j).2 = some (k, par (j + off k)) from dec_csem k _]
  show pay D c k (evOf k (par (j + off k)) (j / 2)) = _
  rw [evOf_ev]

theorem dec_bar : dec (.reg barrier0) = none := by decide

theorem duties_bar (c : Dev nD) : (Rd D).duties (barCell c) 0 = {true, false} := by
  show dut (barCell c) 0 = _
  unfold dut
  rw [if_pos (show (barCell c).1.2 = .tc from rfl), show dec (barCell c).2 = none from dec_bar]
  exact if_pos ⟨rfl, rfl⟩

theorem duties_bar_last (c : Dev nD) {r : ℕ} (h : 1 ≤ r) : (Rd D).duties (barCell c) r = ∅ := by
  show dut (barCell c) r = _
  unfold dut
  rw [if_pos (show (barCell c).1.2 = .tc from rfl), show dec (barCell c).2 = none from dec_bar]
  exact if_neg fun h' => by omega

theorem amount_bar (c : Dev nD) (r : ℕ) (d : Bool) : (Rd D).amount (barCell c) r d = 1 := by
  show amtOf (barCell c) = _
  unfold amtOf
  rw [show dec (barCell c).2 = none from dec_bar]

theorem expect_bar (c : Dev nD) : (Rd D).expect (barCell c) 0 = 2 := by
  rw [Schedule.expect, Schedule.amountOf, duties_bar, Finset.sum_pair (by decide), amount_bar, amount_bar]

theorem payload_bar (c : Dev nD) (r : ℕ) (d : Bool) : (Rd D).payload (barCell c) r d = barPay c d := by
  show payOf D (barCell c) r d = _
  unfold payOf
  rw [show dec (barCell c).2 = none from dec_bar]
  rfl

end Cert.Rings
-- ==== Proof.Dues.lean ====
/-
  What each device owes, in the order it pays, and the order of the waits.

  A device owes the units it will raise on other devices' semaphores: the barrier's, the landings' and the credits'. Every event has an index, its place
  in an order of the whole run: a device only waits for an event whose index is below all it still owes, so no circle of waits can close.
-/
module

public import proofs.«01_k».proof.Proof.Schedule

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]

local notation "𝕄" => MT nD τ sig ℕ (Elt F) ℕ UU ℕ

/-- All indices are below this. -/
abbrev NIx : ℕ := 200

/-- An event's index. -/
def ix : K → ℕ → ℕ
  | .send _, _ => 0
  | .recv (false, _), j => 10 * j + 10
  | .recv (true, _), j => 10 * j + 22
  | .cred (false, _), j => 10 * j + 11
  | .cred (true, _), j => 10 * j + 23
  | .wt _, _ => 0

abbrev P1 : Type := Pay nD τ sig

/-- The payment of event `j` of a kind to device `c`. -/
def pEv (c : Dev nD) (k : K) (j : ℕ) : P1 := (ev c k j, ix k j, amt k)

/-- The payment of the barrier's unit to device `c`. -/
def pBar (c : Dev nD) : P1 := (barCell c, 1, 1)

/-- What step `s` of the ring pays. -/
def stepDue (c : Dev nD) (s : ℕ) : List P1 :=
  (if s ≤ 13 then
    [pEv (pv true c) (.cred (false, true)) s, pEv (pv false c) (.cred (false, false)) s,
     pEv (nx true c) (.recv (false, true)) (s + 1), pEv (nx false c) (.recv (false, false)) (s + 1)] else []) ++
  ((if 1 ≤ s then [pEv (pv true c) (.cred (true, true)) (s - 1), pEv (pv false c) (.cred (true, false)) (s - 1)] else []) ++
  [pEv (nx true c) (.recv (true, true)) s, pEv (nx false c) (.recv (true, false)) s])

/-- What the last `n` of the fifteen steps pay. -/
def lastDue (c : Dev nD) : ℕ → List P1
  | 0 => []
  | n + 1 => stepDue c (14 - n) ++ lastDue c n

/-- What the steps from `s` on pay. -/
def dueFrom (c : Dev nD) (s : ℕ) : List P1 := lastDue c (15 - s)

theorem dueFrom_step (c : Dev nD) {s : ℕ} (h : s < 15) : dueFrom c s = stepDue c s ++ dueFrom c (s + 1) := by
  unfold dueFrom
  obtain ⟨n, hn⟩ : ∃ n, 15 - s = n + 1 := ⟨14 - s, by omega⟩
  rw [hn, lastDue, show 15 - (s + 1) = n by omega, show 14 - n = s by omega]

theorem dueFrom_last (c : Dev nD) : dueFrom c 15 = [] := rfl

/-- What a device owes at the launch. -/
def dueL (c : Dev nD) : List P1 :=
  [pBar (pv true c), pBar (pv false c), pEv (nx true c) (.recv (false, true)) 0, pEv (nx false c) (.recv (false, false)) 0] ++ dueFrom c 0

/-- Everything in a list is owed at a TensorCore, at an index above `i`. -/
def AllAbove (i : ℕ) (l : List P1) : Prop := ∀ x ∈ l, x.1.1.2 = .tc ∧ i < x.2.1 ∧ x.2.1 < NIx

theorem allAbove_nil (i : ℕ) : AllAbove i [] := fun _ h => absurd h List.not_mem_nil
theorem allAbove_cons {i : ℕ} {x : P1} {l : List P1} (hx : x.1.1.2 = .tc ∧ i < x.2.1 ∧ x.2.1 < NIx) (hl : AllAbove i l) : AllAbove i (x :: l) :=
  fun y hy => by
    rcases List.mem_cons.mp hy with rfl | h
    · exact hx
    · exact hl y h
theorem allAbove_ev {i : ℕ} {c : Dev nD} {k : K} {j : ℕ} {l : List P1} (h1 : i < ix k j) (h2 : ix k j < NIx) (hl : AllAbove i l) :
    AllAbove i (pEv c k j :: l) := allAbove_cons ⟨rfl, h1, h2⟩ hl
theorem allAbove_append {i : ℕ} {l l' : List P1} (h : AllAbove i l) (h' : AllAbove i l') : AllAbove i (l ++ l') := fun x hx => by
  rcases List.mem_append.mp hx with hx | hx
  · exact h x hx
  · exact h' x hx

theorem allAbove_step (c : Dev nD) {i s : ℕ} (h : i ≤ 10 * s + 10) (hs : s < 15) : AllAbove i (stepDue c s) := by
  unfold stepDue
  refine allAbove_append ?_ (allAbove_append ?_ ?_)
  · split
    · refine allAbove_ev ?_ ?_ (allAbove_ev ?_ ?_ (allAbove_ev ?_ ?_ (allAbove_ev ?_ ?_ (allAbove_nil i)))) <;> simp only [ix, NIx] <;> omega
    · exact allAbove_nil i
  · split
    · refine allAbove_ev ?_ ?_ (allAbove_ev ?_ ?_ (allAbove_nil i)) <;> simp only [ix, NIx] <;> omega
    · exact allAbove_nil i
  · refine allAbove_ev ?_ ?_ (allAbove_ev ?_ ?_ (allAbove_nil i)) <;> simp only [ix, NIx] <;> omega

theorem allAbove_last (c : Dev nD) : ∀ (n : ℕ) {i : ℕ}, n ≤ 15 → i ≤ 10 * (15 - n) + 10 → AllAbove i (lastDue c n)
  | 0, i, _, _ => allAbove_nil i
  | n + 1, i, h, hi => allAbove_append (allAbove_step c (by omega) (by omega)) (allAbove_last c n (by omega) (by omega))

/-- What is owed from step `s` on lies above the step's first wait. -/
theorem allAbove_from (c : Dev nD) {i s : ℕ} (h : i ≤ 10 * s + 10) (hs : s ≤ 15) : AllAbove i (dueFrom c s) := by
  unfold dueFrom; exact allAbove_last c _ (by omega) (by omega)

/-- Before the barrier everything is owed. -/
theorem allAbove_launch (c : Dev nD) : AllAbove 0 (dueL c) := by
  unfold dueL
  refine allAbove_append (allAbove_cons ⟨rfl, Nat.one_pos, (by decide : 1 < 200)⟩ (allAbove_cons ⟨rfl, Nat.one_pos, (by decide : 1 < 200)⟩ (allAbove_ev ?_ ?_ (allAbove_ev ?_ ?_ (allAbove_nil 0))))) ?_
  all_goals first | exact allAbove_from c (by omega) (by omega) | (simp only [ix, NIx]; omega)

/-- A device that owes what lies above `i` may wait at `i`. -/
theorem mayWait_above {i : ℕ} (hi : i < NIx) (c : Dev nD) (sm : SemLoc sig) {l : List P1} (h : AllAbove i l) :
    (levAts (L NIx) lv : sProp 𝕄) ⊢ MayWait (c : Thread nD τ) sm i (tallyL l) :=
  mayWait_of hi c sm (tallyL l) fun g k hk => by
    obtain ⟨x, hx, rfl, rfl⟩ := tallyL_pos hk
    obtain ⟨h1, h2, h3⟩ := h x hx
    exact ⟨mem_L' h1 h3, h2⟩

/-- Device `c` owes a list of payments. -/
def Ow (c : Dev nD) (l : List P1) : sProp 𝕄 := iprop(∃ W, owes (c : Thread nD τ) (tallyL l) W)

/-- The payments that raise event `j` of a kind, and the tokens a wait for it takes. -/
def CredT (c : Dev nD) (k : K) (j : ℕ) : sProp 𝕄 := cred (tallyAt (ev c k j) (ix k j) (amt k))

/-- The duty of event `j` of a kind. -/
def Tok (c : Dev nD) (k : K) (j : ℕ) : sProp 𝕄 := dutyTok (ER (F := F)) (ev c k j) (j / 2) false

/-- Device `c` has waited for the events of a kind before `j`. -/
def Pos (c : Dev nD) (k : K) (j : ℕ) : sProp 𝕄 := iprop(atPos (ER (F := F)) (ev c k j) (j / 2) ∅ 0 ∗ atPos (ER (F := F)) (ev c k (j + 1)) ((j + 1) / 2) ∅ 0)

/-- The duties of the events of a kind from `j` on. -/
def Toks (c : Dev nD) (k : K) (j : ℕ) : sProp 𝕄 := bigSep (Finset.Ico j (cnt k)) fun i => Tok (F := F) c k i

/-- The tokens for the waits for the events of a kind from `j` on. -/
def Creds (c : Dev nD) (k : K) (j : ℕ) : sProp 𝕄 := bigSep (Finset.Ico j (cnt k)) fun i => CredT (F := F) c k i

theorem ico_insert {j n : ℕ} (h : j < n) : Finset.Ico j n = insert j (Finset.Ico (j + 1) n) := by
  ext i; simp only [Finset.mem_Ico, Finset.mem_insert]; omega

theorem Toks_take (c : Dev nD) {k : K} {j : ℕ} (h : j < cnt k) : Toks (F := F) c k j ⊢ iprop(Tok c k j ∗ Toks c k (j + 1)) := by
  unfold Toks
  rw [ico_insert h, bigSep_insert (by simp)]; exact BI.Entails.refl _

theorem Creds_take (c : Dev nD) {k : K} {j : ℕ} (h : j < cnt k) : Creds (F := F) c k j ⊢ iprop(CredT c k j ∗ Creds c k (j + 1)) := by
  unfold Creds
  rw [ico_insert h, bigSep_insert (by simp)]; exact BI.Entails.refl _

end Cert.Rings
-- ==== Proof.Steps.lean ====
/-
  The kernel's effects, one rule each: a wait for an event, a transfer along a ring, a credit or barrier signal, a copy of a weight chunk, a load and a
  store of a block of a double buffer. The rules are stated for the memory references and semaphores a program names, with equations saying which block or
  semaphore of the ring each is.
-/
module

public import proofs.«01_k».proof.Proof.Dues

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]

local notation "𝕄" => MT nD τ sig ℕ (Elt F) ℕ UU ℕ

abbrev 𝒱₀ : Variants := Variants.none

/-- The semaphores: each device's pairs and its barrier. -/
abbrev Ci : Type := Dev nD × Option (K × Fin 2)

/-- A semaphore by its name. -/
def cellOfI (i : Ci) : GSem nD τ sig :=
  match i.2 with
  | some kp => cell i.1 kp.1 kp.2
  | none => barCell i.1

variable (D : Data F)

/-- A semaphore follows the schedule. -/
def cinv (i : Ci) : sProp 𝕄 := iprop(∃ κ, cellInv (ER (F := F)) (Rd D) κ (cellOfI i))
/-- A semaphore's round 0 is reached. -/
def crch (i : Ci) : sProp 𝕄 := reached (ER (F := F)) (cellOfI i) 0
instance cinv_persistent (i : Ci) : Persistent (cinv D i) := by unfold cinv; infer_instance
instance crch_persistent (i : Ci) : Persistent (crch (F := F) i) := by unfold crch; infer_instance

/-- What every device knows throughout: every semaphore follows the schedule, its round 0 is reached, and the indices' order. -/
def Ctx : sProp 𝕄 :=
  iprop(bigSep Finset.univ (cinv D)
    ∗ bigSep Finset.univ (crch (F := F)) ∗ levAts (L NIx) lv)

instance Ctx_persistent : Persistent (Ctx D) := by unfold Ctx; infer_instance

theorem Ctx_cell (c : Dev nD) (k : K) (p : Fin 2) : Ctx D ⊢ iprop(∃ κ, cellInv (ER (F := F)) (Rd D) κ (cell c k p)) := by
  unfold Ctx
  iintro ⟨H, -, -⟩
  ihave H' := (show bigSep Finset.univ (cinv D) ⊢ iprop(∃ κ, cellInv (ER (F := F)) (Rd D) κ (cell c k p)) from BI.bigSep_elim (Finset.mem_univ ((c, some (k, p)) : Ci))) $$ H
  iexact H'

theorem Ctx_bar (c : Dev nD) : Ctx D ⊢ iprop(∃ κ, cellInv (ER (F := F)) (Rd D) κ (barCell c)) := by
  unfold Ctx
  iintro ⟨H, -, -⟩
  ihave H' := (show bigSep Finset.univ (cinv D) ⊢ iprop(∃ κ, cellInv (ER (F := F)) (Rd D) κ (barCell c)) from BI.bigSep_elim (Finset.mem_univ ((c, none) : Ci))) $$ H
  iexact H'

theorem Ctx_reach0 (c : Dev nD) (k : K) : Ctx D ⊢ Reach (F := F) c k 0 := by
  unfold Ctx Reach
  iintro ⟨-, #H, -⟩
  isplitr
  · ihave H' := (show bigSep Finset.univ (crch (F := F)) ⊢ reached (ER (F := F)) (ev c k 0) (0 / 2) from BI.bigSep_elim (Finset.mem_univ ((c, some (k, par (0 + off k))) : Ci))) $$ H
    iexact H'
  · ihave H' := (show bigSep Finset.univ (crch (F := F)) ⊢ reached (ER (F := F)) (ev c k (0 + 1)) ((0 + 1) / 2) from BI.bigSep_elim (Finset.mem_univ ((c, some (k, par (1 + off k))) : Ci))) $$ H
    iexact H'

theorem Ctx_reachBar (c : Dev nD) : Ctx D ⊢ reached (ER (F := F)) (barCell c) 0 := by
  unfold Ctx
  iintro ⟨-, H, -⟩
  ihave H' := (show bigSep Finset.univ (crch (F := F)) ⊢ reached (ER (F := F)) (barCell c) 0 from BI.bigSep_elim (Finset.mem_univ ((c, none) : Ci))) $$ H
  iexact H'

theorem Reach_fst (c : Dev nD) (k : K) (j : ℕ) : Reach (F := F) c k j ⊢ reached (ER (F := F)) (ev c k j) (j / 2) := by
  unfold Reach; iintro ⟨H, -⟩; iexact H

theorem Ctx_lev : Ctx D ⊢ (levAts (L NIx) lv : sProp 𝕄) := by
  unfold Ctx
  iintro ⟨-, -, H⟩
  iexact H

theorem Ctx_mayWait {i : ℕ} (hi : i < NIx) (c : Dev nD) (sm : SemLoc sig) {l : List P1} (h : AllAbove i l) :
    Ctx D ⊢ MayWait (c : Thread nD τ) sm i (tallyL l) := (@Ctx_lev F _ D).trans (mayWait_above hi c sm h)

/-- Waiting for event `j`, the device's semaphore positions move on. -/
theorem Pos_next (c : Dev nD) (k : K) (j : ℕ) :
    iprop(atPos (ER (F := F)) (ev c k j) (j / 2 + 1) ∅ 0 ∗ atPos (ER (F := F)) (ev c k (j + 1)) ((j + 1) / 2) ∅ 0) ⊢ Pos (F := F) c k (j + 1) := by
  unfold Pos
  rw [ev_add_two c k j, show (j + 1 + 1) / 2 = j / 2 + 1 by omega]
  iintro ⟨H1, H2⟩
  isplitl [H2] <;> iassumption

theorem ix_lt {k : K} {j : ℕ} (h : j < cnt k) : ix k j < NIx := by
  rcases k with ⟨⟨a, d⟩⟩ | ⟨⟨a, d⟩⟩ | ⟨⟨a, d⟩⟩ | b <;> simp only [cnt] at h <;> try cases a
  all_goals simp only [ix, NIx]; omega

/-- The WAIT for event `j` of a kind: the device may wait if it owes only what lies above; it gets what the event hands over. -/
theorem wp_waitEv (c : Dev nD) (k : K) (j : ℕ) (hj : j < cnt k) {sm : SemLoc sig} (hsm : sm = csem k (par (j + off k))) {k' : ℕ} (hk : k' = amt k)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ sm k' K')
    {l : List P1} (hl : AllAbove (ix k j) l) {α : Type} {Q : α → sProp 𝕄} {kk : PUnit → Prog (TpuEff nD τ sig (Elt F) Λ₀ .tc) α} :
    iprop(Ctx D ∗ Pos c k j ∗ Reach c k j ∗ CredT c k j ∗ Ow c l)
      ⊢ iprop(((Pos c k (j + 1) ∗ Reach c k (j + 1) ∗ pay D c k j ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hsm; subst hk
  unfold CredT Ow
  iintro ⟨#HC, Hp, #HR, Hc, ⟨%W, HO⟩⟩ Hk
  have hexp : 0 + amt k = (Rd D).expect ((c : Thread nD τ), csem k (par (j + off k))) (j / 2) := by
    rw [Nat.zero_add]; exact (expect_ev (D := D) c hj).symm
  ihave Hp' := (show Pos (F := F) c k j ⊢ iprop(atPos (ER (F := F)) (ev c k j) (j / 2) ∅ 0 ∗ atPos (ER (F := F)) (ev c k (j + 1)) ((j + 1) / 2) ∅ 0) from .rfl) $$ Hp
  icases Hp' with ⟨Hat, Hat'⟩
  ihave Hi := (Ctx_cell D c k (par (j + off k))) $$ HC
  icases Hi with ⟨%κ, #HI⟩
  iapply (Rounds.wp_wait_rest_token 𝒱₀ ER (Rd D) (c : Thread nD τ) none (κ := κ) hw (Set.mem_univ _) (ix k j) (O := tallyL l) (W := W) (R := j / 2) (m := 0) (T := ∅)
      hexp) $$ [Hc HO Hat]
  · isplitr; · iexact HI
    isplitl [Hc]; · iexact Hc
    isplitl [HO]; · iexact HO
    isplitr
    · iapply (Ctx_mayWait D (ix_lt hj) c _ hl); iexact HC
    iexact Hat
  iintro ⟨HO, Hat, #Hr, Hpay⟩
  iapply Hk
  isplitl [Hat Hat']
  · iapply (Pos_next c k j)
    isplitl [Hat]; · iexact Hat
    iexact Hat'
  isplitr
  · unfold Reach
    icases HR with ⟨-, HR2⟩
    rw [ev_add_two c k j, show (j + 1 + 1) / 2 = j / 2 + 1 by omega]
    isplitr; · iexact HR2
    iexact Hr
  isplitl [Hpay]
  · have e : bigSep ((Rd D).duties (ev c k j) (j / 2) \ ∅) (fun d => (Rd D).payload (ev c k j) (j / 2) d) = pay D c k j := by
      rw [Finset.sdiff_empty, duties_ev c hj, bigSep_singleton, payload_ev]
    iapply (Entails.of_eq e); iexact Hpay
  iexists _; iexact HO

/-- The wait for a transfer. -/
theorem wp_waitDma (c : Dev nD) (k : K) (j : ℕ) (hj : j < cnt k) {sem : DmaSem sig} (hsm : SemLoc.dma sem = csem k (par (j + off k)))
    {sp sp' : Space} {s s' : Shape} {e e' : EltTy} {src : Memref sig .tc sp' s' e'} {dst : Memref sig .tc sp s e}
    {hsrc : src.view.WordExact} {hdst : dst.view.WordExact} (hk : dst.view.dmaCredit = amt k)
    {l : List P1} (hl : AllAbove (ix k j) l) {α : Type} {Q : α → sProp 𝕄} {kk : PUnit → Prog (TpuEff nD τ sig (Elt F) Λ₀ .tc) α} :
    iprop(Ctx D ∗ Pos c k j ∗ Reach c k j ∗ CredT c k j ∗ Ow c l)
      ⊢ iprop(((Pos c k (j + 1) ∗ Reach c k (j + 1) ∗ pay D c k j ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) :=
  wp_waitEv D c k j hj hsm hk (wpE_waitDma2_eq 𝒱₀ (c : Thread nD τ) none Set.univ) hl

/-- The wait for a credit. -/
theorem wp_waitSem (c : Dev nD) (k : K) (j : ℕ) (hj : j < cnt k) {sem : Sem sig} (hsm : SemLoc.reg sem = csem k (par (j + off k)))
    {k' : ℕ} (hk : k' = amt k)
    {l : List P1} (hl : AllAbove (ix k j) l) {α : Type} {Q : α → sProp 𝕄} {kk : PUnit → Prog (TpuEff nD τ sig (Elt F) Λ₀ .tc) α} :
    iprop(Ctx D ∗ Pos c k j ∗ Reach c k j ∗ CredT c k j ∗ Ow c l)
      ⊢ iprop(((Pos c k (j + 1) ∗ Reach c k (j + 1) ∗ pay D c k j ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait sem k') kk) Q) :=
  wp_waitEv D c k j hj hsm hk (wpE_semWait_eq 𝒱₀ (c : Thread nD τ) none Set.univ) hl

/-- The TRANSFER of event `i` along a ring: the block is lent to the send semaphore's event, and lands in the next device's block. -/
theorem wp_ring (c n : Dev nD) (r : Rg) (hn : n = nx r.2 c) (i : ℕ) (hi : i < 15)
    {src : Memref sig .tc .vmem S512x1024 .f32} (hs : src = slot r (par (i + off (.send r))))
    {dst : Memref sig (Dev.tc n : Thread nD τ).2.kind .vmem S512x1024 .f32} (hd : dst = slot r (par (i + off (.recv r))))
    {sS sem : SemLoc sig} (hsS : sS = csem (.send r) (par (i + off (.send r)))) (hsem' : sem = csem (.recv r) (par (i + off (.recv r))))
    {hsc : dst.view.ref.isScScratch = false} {hsrc : src.view.WordExact} {hdst : dst.view.WordExact}
    {hsem : DmaTarget.Typed .vmem sem (.remote (Dev.tc n : Thread nD τ) dst sS hsc)} {l : List P1}
    {α : Type} {Q : α → sProp 𝕄} {kk : PUnit → Prog (TpuEff nD τ sig (Elt F) Λ₀ .tc) α} :
    iprop(Ctx D ∗ ownsR c r (i + off (.send r)) (shr r) (cont D r c i) ∗ anyR (F := F) (nx r.2 c) r (i + off (.recv r))
        ∗ Ow c (pEv (nx r.2 c) (.recv r) i :: l)
        ∗ Tok c (.send r) i ∗ Reach c (.send r) i ∗ Tok (nx r.2 c) (.recv r) i ∗ Reach (nx r.2 c) (.recv r) i ∗ Reach c (.cred r) i)
      ⊢ iprop(((CredT c (.send r) i ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst sS hsc) sem hsrc hdst hsem) kk) Q) := by
  subst hn; subst hs; subst hd; subst hsS; subst hsem'
  unfold anyR Ow Tok CredT
  iintro ⟨#HC, Hs, ⟨%X, Hd⟩, ⟨%W, HO⟩, HtS, #HrS, HtR, #HrR, #HrC⟩ Hk
  ihave Hi := (Ctx_cell D c (.send r) (par (i + off (.send r)))) $$ HC
  icases Hi with ⟨%κ₁, #HI1⟩
  ihave Hi := (Ctx_cell D (nx r.2 c) (.recv r) (par (i + off (.recv r)))) $$ HC
  icases Hi with ⟨%κ₂, #HI2⟩
  unfold ownsR owns
  icases Hs with ⟨%fs, %hfs, Hs⟩
  icases Hd with ⟨%fd, %hfd, Hd⟩
  iapply (Rounds.wp_send_pointsTo_with 𝒱₀ ER (Rd D) (c : Thread nD τ) none (κ₁ := κ₁) (κ₂ := κ₂) (r₁ := i / 2) (r₂ := i / 2) (d₁ := false) (d₂ := false)
      (q := shr r) (fs := fs) (fd := fd) (F := Reach (F := F) c (.cred r) i)
      (by rw [show (((c : Thread nD τ), csem (.send r) (par (i + off (.send r)))) : GSem nD τ sig) = ev c (.send r) i from rfl, duties_ev c hi]; exact Finset.mem_singleton_self _)
      (by rw [show (((nx r.2 c : Thread nD τ), csem (.recv r) (par (i + off (.recv r)))) : GSem nD τ sig) = ev (nx r.2 c) (.recv r) i from rfl, duties_ev _ hi]
          exact Finset.mem_singleton_self _)
      (ix (.recv r) i) 0 amtR (show (slot r (par (i + off (.recv r)))).view.amount (csem (.recv r) (par (i + off (.recv r)))) = amtR from slot_amt r _) (amount_ev c (.send r) i _ _) (amount_ev (nx r.2 c) (.recv r) i _ _) (tallyL l)
      (add_comm _ _) (W := W) ?_ ?_) $$ [Hs Hd HO HtS HtR]
  · rw [show (((c : Thread nD τ), csem (.send r) (par (i + off (.send r)))) : GSem nD τ sig) = ev c (.send r) i from rfl, payload_ev, pay_send]
    unfold ownsR owns
    iintro H
    iexists fs; isplitr; · ipureintro; exact hfs
    iexact H
  · rw [show (((nx r.2 c : Thread nD τ), csem (.recv r) (par (i + off (.recv r)))) : GSem nD τ sig) = ev (nx r.2 c) (.recv r) i from rfl, payload_ev, pay_recv]
    unfold ownsR owns
    rw [pv_nx, ← hfs]
    iintro ⟨H, HR⟩
    isplitl [H]
    · iexists _
      isplitr
      · ipureintro; exact View.read_write_univ fd _
      iexact H
    iexact HR
  · isplitr; · iexact HI1
    isplitr; · iexact HI2
    isplitl [Hs]; · iexact Hs
    isplitl [Hd]
    · isplitl [Hd]; · iexact Hd
      iexact HrC
    isplitl [HO]; · iexact HO
    isplitl [HtS]; · iexact HtS
    isplitr; · iapply (Reach_fst c (.send r) i); iexact HrS
    isplitl [HtR]; · iexact HtR
    iapply (Reach_fst (nx r.2 c) (.recv r) i); iexact HrR
  iintro ⟨Hc, HO⟩
  iapply Hk
  isplitl [Hc]; · iexact Hc
  iexists W; iexact HO

end Cert.Rings
-- ==== Proof.Access.lean ====
/-
  Loads and stores of the blocks of the double buffers, the copies of the weight chunks, and the signals: one rule each.
-/
module

public import proofs.«01_k».proof.Proof.Steps

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]

local notation "𝕄" => MT nD τ sig ℕ (Elt F) ℕ UU ℕ

variable (D : Data F)

/-! ## Loads and stores -/

section Access
variable (c : Dev nD)

/-- A LOAD of a slice seen without its axes of one: what is read is the contents, cast. -/
theorem wp_load_sq {α : Type} {s s' : Shape} {M : Memref sig .tc .vmem s .f32} {r : Rect s} (hr : ∀ a, r.stride a = 1) (hs : r.shape.Squeezes s')
    (hc : r.shape.ShapeCasts s') {q : PosShare TreeShare} {X : Vec F s' .f32} {hl : M.view.LoadsAt r.toLoadRect}
    {kk : (r.shape.Idx → Elt F .f32) → Prog (TpuEff nD τ sig (Elt F) Λ₀ .tc) α} {Q : α → sProp 𝕄} :
    (owns (c : Thread nD τ) ((M.slice r hr).squeeze s' hs) q X : sProp 𝕄)
      ⊢ iprop((∀ v : r.shape.Idx → Elt F .f32, ⌜shapeCast s' v hc = X⌝ -∗ owns (c : Thread nD τ) ((M.slice r hr).squeeze s' hs) q X
            -∗ wp frame (wpE (defs₀ (F := F)) 𝒱₀ (c : Thread nD τ) none) Set.univ (kk v) Q)
          -∗ wp frame (wpE (defs₀ (F := F)) 𝒱₀ (c : Thread nD τ) none) Set.univ (.op (.load M r.toLoadRect hl) kk) Q) := by
  unfold owns
  iintro ⟨%f, %hf, H⟩ Hk
  have hset : ((M.slice r hr).squeeze s' hs).view.set = (M.access r).set := View.set_reshape _ _
  iapply (wp_load_rect 𝒱₀ (c : Thread nD τ) none Set.univ (m := M) (r := r) (S := ((M.slice r hr).squeeze s' hs).view.set) (q := q) (f := f) (hset ▸ subset_rfl)) $$ [H]
  · iexact H
  iintro H
  iapply Hk $$ %((M.access r).read (Elt F) f)
  · ipureintro; rw [← hf]; rfl
  iexists f; isplitr; · ipureintro; exact hf
  iexact H

/-- A STORE of a slice seen without its axes of one. -/
theorem wp_store_sq {α : Type} {s s' : Shape} {M : Memref sig .tc .vmem s .f32} {r : Rect s} (hr : ∀ a, r.stride a = 1) (hs : r.shape.Squeezes s')
    (hc : r.shape.ShapeCasts s') {X : Vec F s' .f32} {w : r.shape.Idx → Elt F .f32}
    {hx : (M.access r).Stores Finset.univ} {hm : (Finset.univ : Finset r.shape.Idx) = Finset.univ ∨ ∀ a, r.stride a = 1}
    {kk : PUnit → Prog (TpuEff nD τ sig (Elt F) Λ₀ .tc) α} {Q : α → sProp 𝕄} :
    (owns (c : Thread nD τ) ((M.slice r hr).squeeze s' hs) fullShare X : sProp 𝕄)
      ⊢ iprop((owns (c : Thread nD τ) ((M.slice r hr).squeeze s' hs) fullShare (shapeCast s' w hc)
            -∗ wp frame (wpE (defs₀ (F := F)) 𝒱₀ (c : Thread nD τ) none) Set.univ (kk ⟨⟩) Q)
          -∗ wp frame (wpE (defs₀ (F := F)) 𝒱₀ (c : Thread nD τ) none) Set.univ (.op (.store M r w Finset.univ hx hm) kk) Q) := by
  unfold owns
  iintro ⟨%f, %hf, H⟩ Hk
  have hset : ((M.slice r hr).squeeze s' hs).view.set = (M.access r).set := View.set_reshape _ _
  iapply (wp_store 𝒱₀ (c : Thread nD τ) none Set.univ (m := M) (r := r) (S := ((M.slice r hr).squeeze s' hs).view.set) (f := f) (hset ▸ subset_rfl)) $$ [H]
  · iexact H
  iintro H
  iapply Hk
  iexists ((M.access r).write (Elt F) f w Finset.univ)
  isplitr
  · ipureintro
    exact congrArg (fun u => shapeCast s' u hc) (View.read_write_univ (v := M.access r) f w)
  iexact H

/-- A load through a rectangle. -/
theorem wp_load_part {α : Type} {s : Shape} {M : Memref sig .tc .vmem s .f32} {r : Rect s} {q : PosShare TreeShare} {X : Vec F s .f32}
    {hl : M.view.LoadsAt r.toLoadRect} {kk : (r.shape.Idx → Elt F .f32) → Prog (TpuEff nD τ sig (Elt F) Λ₀ .tc) α} {Q : α → sProp 𝕄} :
    (owns (c : Thread nD τ) M q X : sProp 𝕄)
      ⊢ iprop((owns (c : Thread nD τ) M q X
            -∗ wp frame (wpE (defs₀ (F := F)) 𝒱₀ (c : Thread nD τ) none) Set.univ (kk (fun i => X (r.emb i))) Q)
          -∗ wp frame (wpE (defs₀ (F := F)) 𝒱₀ (c : Thread nD τ) none) Set.univ (.op (.load M r.toLoadRect hl) kk) Q) := by
  unfold owns
  iintro ⟨%f, %hf, H⟩ Hk
  iapply (wp_load_rect 𝒱₀ (c : Thread nD τ) none Set.univ (m := M) (r := r) (S := M.view.set) (q := q) (f := f) (M.view.set_slice_subset _)) $$ [H]
  · iexact H
  iintro H
  subst hf
  iapply Hk
  iexists f; isplitr; · ipureintro; rfl
  iexact H

/-- A store through a rectangle. -/
theorem wp_store_part {α : Type} {s : Shape} {M : Memref sig .tc .vmem s .f32} {r : Rect s} {X : Vec F s .f32} {w : r.shape.Idx → Elt F .f32}
    {hx : (M.access r).Stores Finset.univ} {hm : (Finset.univ : Finset r.shape.Idx) = Finset.univ ∨ ∀ a, r.stride a = 1}
    {kk : PUnit → Prog (TpuEff nD τ sig (Elt F) Λ₀ .tc) α} {Q : α → sProp 𝕄} :
    (owns (c : Thread nD τ) M fullShare X : sProp 𝕄)
      ⊢ iprop((owns (c : Thread nD τ) M fullShare (r.overlay X w)
            -∗ wp frame (wpE (defs₀ (F := F)) 𝒱₀ (c : Thread nD τ) none) Set.univ (kk ⟨⟩) Q)
          -∗ wp frame (wpE (defs₀ (F := F)) 𝒱₀ (c : Thread nD τ) none) Set.univ (.op (.store M r w Finset.univ hx hm) kk) Q) := by
  unfold owns
  iintro ⟨%f, %hf, H⟩ Hk
  iapply (wp_store 𝒱₀ (c : Thread nD τ) none Set.univ (m := M) (r := r) (S := M.view.set) (f := f) (M.view.set_slice_subset _)) $$ [H]
  · iexact H
  iintro H
  iapply Hk
  iexists ((M.access r).write (Elt F) f w Finset.univ)
  isplitr
  · ipureintro
    subst hf
    funext j
    by_cases hj : j ∈ r.set
    · obtain ⟨i, rfl⟩ := r.exists_idx_of_mem hj
      change M.view.read (Elt F) _ (r.emb i) = r.overlay _ w (r.emb i)
      rw [Rect.overlay_emb]
      exact congrFun (View.read_write_univ (v := M.access r) f w) i
    · rw [Rect.overlay_of_not_mem _ _ _ hj, View.read_apply, View.read_apply]
      congr 1
      refine View.write_of_not_mem _ _ _ ?_
      show M.view.emb j ∉ (M.view.slice r).set
      rw [View.set_slice, Finset.mem_map' M.view.emb]; exact hj
  iexact H

end Access

end Cert.Rings
-- ==== Proof.Rules.lean ====
/-
  The kernel's effects on the bundles a device carries: for a kind of event, how far the device has waited, and the tokens it still has for it.
-/
module

public import proofs.«01_k».proof.Proof.Access

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]

local notation "𝕄" => MT nD τ sig ℕ (Elt F) ℕ UU ℕ

variable (D : Data F)

/-! ## Bundles -/

/-- Device `c` has waited for the events of a kind before `j`, and has the tokens to wait for the rest. -/
def Awaits (c : Dev nD) (k : K) (j : ℕ) : sProp 𝕄 := iprop(Pos (F := F) c k j ∗ Reach (F := F) c k j ∗ Creds (F := F) c k j)
/-- No transfer of a kind the device makes itself is under way; the next is the `j`-th. -/
def Idle (c : Dev nD) (k : K) (j : ℕ) : sProp 𝕄 := iprop(Pos (F := F) c k j ∗ Reach (F := F) c k j ∗ Toks (F := F) c k j)
/-- The `j`-th transfer of a kind the device makes itself is under way. -/
def Busy (c : Dev nD) (k : K) (j : ℕ) : sProp 𝕄 := iprop(Pos (F := F) c k j ∗ Reach (F := F) c k j ∗ CredT (F := F) c k j ∗ Toks (F := F) c k (j + 1))
/-- Device `c` owns a block of a weight buffer, at some contents. -/
def anyW (c : Dev nD) (b : Bool) (p : ℕ) : sProp 𝕄 := iprop(∃ X, ownsW (F := F) c b p X)

section Rules
variable {α : Type}

/-- The wait for a landing. -/
theorem wp_awaitDma (c : Dev nD) (k : K) (j : ℕ) (hj : j < cnt k) {sem : DmaSem sig} (hsm : SemLoc.dma sem = csem k (par (j + off k)))
    {sp sp' : Space} {s s' : Shape} {e e' : EltTy} {src : Memref sig .tc sp' s' e'} {dst : Memref sig .tc sp s e}
    {hsrc : src.view.WordExact} {hdst : dst.view.WordExact} (hk : dst.view.dmaCredit = amt k)
    {l : List P1} (hl : AllAbove (ix k j) l) {Q : α → sProp 𝕄} {kk : PUnit → Prog (TpuEff nD τ sig (Elt F) Λ₀ .tc) α} :
    iprop(Ctx D ∗ Awaits c k j ∗ Ow c l)
      ⊢ iprop(((Awaits c k (j + 1) ∗ pay D c k j ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  unfold Awaits
  iintro ⟨#HC, ⟨Hp, Hr, Hc⟩, HO⟩ Hk
  ihave H := (Creds_take c hj) $$ Hc
  icases H with ⟨Hc, Hc'⟩
  iapply (wp_waitDma D c k j hj hsm hk hl) $$ [Hp Hr Hc HO]
  · isplitr; · iexact HC
    isplitl [Hp]; · iexact Hp
    isplitl [Hr]; · iexact Hr
    isplitl [Hc]; · iexact Hc
    iexact HO
  iintro ⟨Hp, Hr, Hpay, HO⟩
  iapply Hk
  isplitr [Hpay HO]
  · isplitl [Hp]; · iexact Hp
    isplitl [Hr]; · iexact Hr
    iexact Hc'
  isplitl [Hpay]; · iexact Hpay
  iexact HO

/-- The wait for a credit. -/
theorem wp_awaitSem (c : Dev nD) (k : K) (j : ℕ) (hj : j < cnt k) {sem : Sem sig} (hsm : SemLoc.reg sem = csem k (par (j + off k)))
    {k' : ℕ} (hk : k' = amt k)
    {l : List P1} (hl : AllAbove (ix k j) l) {Q : α → sProp 𝕄} {kk : PUnit → Prog (TpuEff nD τ sig (Elt F) Λ₀ .tc) α} :
    iprop(Ctx D ∗ Awaits c k j ∗ Ow c l)
      ⊢ iprop(((Awaits c k (j + 1) ∗ pay D c k j ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait sem k') kk) Q) := by
  unfold Awaits
  iintro ⟨#HC, ⟨Hp, Hr, Hc⟩, HO⟩ Hk
  ihave H := (Creds_take c hj) $$ Hc
  icases H with ⟨Hc, Hc'⟩
  iapply (wp_waitSem D c k j hj hsm hk hl) $$ [Hp Hr Hc HO]
  · isplitr; · iexact HC
    isplitl [Hp]; · iexact Hp
    isplitl [Hr]; · iexact Hr
    isplitl [Hc]; · iexact Hc
    iexact HO
  iintro ⟨Hp, Hr, Hpay, HO⟩
  iapply Hk
  isplitr [Hpay HO]
  · isplitl [Hp]; · iexact Hp
    isplitl [Hr]; · iexact Hr
    iexact Hc'
  isplitl [Hpay]; · iexact Hpay
  iexact HO

/-- The wait for a transfer of the device's own. -/
theorem wp_busyDma (c : Dev nD) (k : K) (j : ℕ) (hj : j < cnt k) {sem : DmaSem sig} (hsm : SemLoc.dma sem = csem k (par (j + off k)))
    {sp sp' : Space} {s s' : Shape} {e e' : EltTy} {src : Memref sig .tc sp' s' e'} {dst : Memref sig .tc sp s e}
    {hsrc : src.view.WordExact} {hdst : dst.view.WordExact} (hk : dst.view.dmaCredit = amt k)
    {l : List P1} (hl : AllAbove (ix k j) l) {Q : α → sProp 𝕄} {kk : PUnit → Prog (TpuEff nD τ sig (Elt F) Λ₀ .tc) α} :
    iprop(Ctx D ∗ Busy c k j ∗ Ow c l)
      ⊢ iprop(((Idle c k (j + 1) ∗ pay D c k j ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  unfold Busy Idle
  iintro ⟨#HC, ⟨Hp, Hr, Hc, Ht⟩, HO⟩ Hk
  iapply (wp_waitDma D c k j hj hsm hk hl) $$ [Hp Hr Hc HO]
  · isplitr; · iexact HC
    isplitl [Hp]; · iexact Hp
    isplitl [Hr]; · iexact Hr
    isplitl [Hc]; · iexact Hc
    iexact HO
  iintro ⟨Hp, Hr, Hpay, HO⟩
  iapply Hk
  isplitr [Hpay HO]
  · isplitl [Hp]; · iexact Hp
    isplitl [Hr]; · iexact Hr
    iexact Ht
  isplitl [Hpay]; · iexact Hpay
  iexact HO

/-- The start of a ring's transfer `i`. -/
theorem wp_send (c n : Dev nD) (r : Rg) (hn : n = nx r.2 c) (i : ℕ) (hi : i < 15)
    {src : Memref sig .tc .vmem S512x1024 .f32} (hs : src = slot r (par (i + off (.send r))))
    {dst : Memref sig (Dev.tc n : Thread nD τ).2.kind .vmem S512x1024 .f32} (hd : dst = slot r (par (i + off (.recv r))))
    {sS sem : SemLoc sig} (hsS : sS = csem (.send r) (par (i + off (.send r)))) (hsem' : sem = csem (.recv r) (par (i + off (.recv r))))
    {hsc : dst.view.ref.isScScratch = false} {hsrc : src.view.WordExact} {hdst : dst.view.WordExact}
    {hsem : DmaTarget.Typed .vmem sem (.remote (Dev.tc n : Thread nD τ) dst sS hsc)} {l : List P1}
    {Q : α → sProp 𝕄} {kk : PUnit → Prog (TpuEff nD τ sig (Elt F) Λ₀ .tc) α} :
    iprop(Ctx D ∗ ownsR c r (i + off (.send r)) (shr r) (cont D r c i) ∗ anyR (F := F) (nx r.2 c) r (i + off (.recv r))
        ∗ Ow c (pEv (nx r.2 c) (.recv r) i :: l)
        ∗ Idle c (.send r) i ∗ Toks (nx r.2 c) (.recv r) i ∗ Reach (nx r.2 c) (.recv r) i ∗ Reach c (.cred r) i)
      ⊢ iprop(((Busy c (.send r) i ∗ Toks (nx r.2 c) (.recv r) (i + 1) ∗ Ow c l)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst sS hsc) sem hsrc hdst hsem) kk) Q) := by
  unfold Busy Idle
  iintro ⟨#HC, Hs, Hd, HO, ⟨Hp, #Hr, Ht⟩, HtR, #HrR, #HrC⟩ Hk
  ihave H := (Toks_take c (k := .send r) (j := i) hi) $$ Ht
  icases H with ⟨Ht, Ht'⟩
  ihave H := (Toks_take (nx r.2 c) (k := .recv r) (j := i) hi) $$ HtR
  icases H with ⟨HtR, HtR'⟩
  iapply (wp_ring D c n r hn i hi hs hd hsS hsem') $$ [Hs Hd HO Ht HtR]
  · isplitr; · iexact HC
    isplitl [Hs]; · iexact Hs
    isplitl [Hd]; · iexact Hd
    isplitl [HO]; · iexact HO
    isplitl [Ht]; · iexact Ht
    isplitr; · iexact Hr
    isplitl [HtR]; · iexact HtR
    isplitr; · iexact HrR
    iexact HrC
  iintro ⟨Hc, HO⟩
  iapply Hk
  isplitr [HtR' HO]
  · isplitl [Hp]; · iexact Hp
    isplitr; · iexact Hr
    isplitl [Hc]; · iexact Hc
    iexact Ht'
  isplitl [HtR']; · iexact HtR'
  iexact HO

/-- The CREDIT of event `j` of a ring: the device hands back a block that the next transfer to it may fill. -/
theorem wp_credit (c n : Dev nD) (r : Rg) (hn : n = pv r.2 c) (j : ℕ) (hj : j < 14) {sem : Sem sig}
    (hsm : SemLoc.reg sem = csem (.cred r) (par (j + off (.cred r)))) {l : List P1}
    {Q : α → sProp 𝕄} {kk : PUnit → Prog (TpuEff nD τ sig (Elt F) Λ₀ .tc) α} :
    iprop(Ctx D ∗ anyR c r (j + 1 + off (.recv r)) ∗ Reach c (.recv r) (j + 1) ∗ Toks (pv r.2 c) (.cred r) j ∗ Reach (pv r.2 c) (.cred r) j
        ∗ Ow c (pEv (pv r.2 c) (.cred r) j :: l))
      ⊢ iprop(((Toks (pv r.2 c) (.cred r) (j + 1) ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) sem 1) kk) Q) := by
  subst hn
  unfold Ow
  iintro ⟨#HC, Hb, #Hr, Ht, #HrC, ⟨%W, HO⟩⟩ Hk
  ihave H := (Toks_take (pv r.2 c) (k := .cred r) (j := j) hj) $$ Ht
  icases H with ⟨Ht, Ht'⟩
  ihave Hi := (Ctx_cell D (pv r.2 c) (.cred r) (par (j + off (.cred r)))) $$ HC
  icases Hi with ⟨%κ, #HI⟩
  have e : (((Dev.tc (pv r.2 c) : Thread nD τ), SemLoc.reg sem) : GSem nD τ sig) = ev (pv r.2 c) (.cred r) j := by rw [hsm]; rfl
  iapply (Rounds.wp_signal 𝒱₀ ER (Rd D) (c : Thread nD τ) none (κ := κ) (dst := (Dev.tc (pv r.2 c) : Thread nD τ)) (sem := sem) (r := j / 2) (d := false)
      (by rw [e, duties_ev _ hj]; exact Finset.mem_singleton_self _) (by rw [e]; exact amount_ev _ (.cred r) j _ _) (ix (.cred r) j) (tallyL l)
      (O₀ := tallyL (pEv (pv r.2 c) (.cred r) j :: l)) (by rw [e]; exact add_comm _ _) (W := W)) $$ [Hb Ht HO]
  · rw [e, payload_ev, pay_cred]
    unfold Tok
    isplitr; · iexact HI
    isplitl [HO]; · iexact HO
    isplitl [Ht]; · iexact Ht
    isplitl [Hb]
    · rw [nx_pv]
      isplitl [Hb]; · iexact Hb
      iexact Hr
    iapply (Reach_fst (pv r.2 c) (.cred r) j); iexact HrC
  iintro HO
  iapply Hk
  isplitl [Ht']; · iexact Ht'
  iexists W; iexact HO

/-- The barrier's SIGNAL to the device back in direction `d`: the device hands it the blocks its first transfers will fill. -/
theorem wp_barSignal (c n : Dev nD) (d : Bool) (hn : n = pv d c) {sem : Sem sig} (hsm : sem = barrier0) {l : List P1}
    {Q : α → sProp 𝕄} {kk : PUnit → Prog (TpuEff nD τ sig (Elt F) Λ₀ .tc) α} :
    iprop(Ctx D ∗ anyR c (false, d) 1 ∗ anyR c (true, d) 0 ∗ dutyTok (ER (F := F)) (barCell (pv d c)) 0 d ∗ Ow c (pBar (pv d c) :: l))
      ⊢ iprop((Ow c l -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) sem 1) kk) Q) := by
  subst hn; subst hsm
  unfold Ow
  iintro ⟨#HC, Hb, Hb', Ht, ⟨%W, HO⟩⟩ Hk
  ihave Hi := (Ctx_bar D (pv d c)) $$ HC
  icases Hi with ⟨%κ, #HI⟩
  ihave #Hr := (Ctx_reachBar D (pv d c)) $$ HC
  iapply (Rounds.wp_signal 𝒱₀ ER (Rd D) (c : Thread nD τ) none (κ := κ) (dst := (Dev.tc (pv d c) : Thread nD τ)) (sem := barrier0) (r := 0) (d := d)
      (by show d ∈ (Rd D).duties (barCell (pv d c)) 0; rw [duties_bar]; cases d <;> decide) (amount_bar (pv d c) 0 d) 1 (tallyL l)
      (add_comm _ _) (W := W)) $$ [Hb Hb' Ht HO]
  · rw [show (((Dev.tc (pv d c) : Thread nD τ), SemLoc.reg barrier0) : GSem nD τ sig) = barCell (pv d c) from rfl, payload_bar]
    unfold barPay
    rw [nx_pv]
    isplitr; · iexact HI
    isplitl [HO]; · iexact HO
    isplitl [Ht]; · iexact Ht
    isplitl [Hb Hb']
    · isplitl [Hb]; · iexact Hb
      iexact Hb'
    iexact Hr
  iintro HO
  iapply Hk
  iexists W; iexact HO

/-- The barrier's WAIT: both neighbours have come, each with the blocks the first transfers to it fill. -/
theorem wp_barWait (c : Dev nD) {sem : Sem sig} (hsm : sem = barrier0) {l : List P1} (hl : AllAbove 1 l)
    {Q : α → sProp 𝕄} {kk : PUnit → Prog (TpuEff nD τ sig (Elt F) Λ₀ .tc) α} :
    iprop(Ctx D ∗ atPos (ER (F := F)) (barCell c) 0 ∅ 0 ∗ cred (tallyAt (barCell c) 1 2) ∗ Ow c l)
      ⊢ iprop(((atPos (ER (F := F)) (barCell c) 1 ∅ 0 ∗ barPay c true ∗ barPay c false ∗ Ow c l)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait sem 2) kk) Q) := by
  subst hsm
  unfold Ow
  iintro ⟨#HC, Hat, Hc, ⟨%W, HO⟩⟩ Hk
  ihave Hi := (Ctx_bar D c) $$ HC
  icases Hi with ⟨%κ, #HI⟩
  iapply (Rounds.wp_wait_rest_token 𝒱₀ ER (Rd D) (c : Thread nD τ) none (κ := κ) (wpE_semWait_eq 𝒱₀ (c : Thread nD τ) none Set.univ) (Set.mem_univ _) 1
      (O := tallyL l) (W := W) (R := 0) (m := 0) (T := ∅) (show 0 + 2 = (Rd D).expect (barCell c) 0 by rw [expect_bar])) $$ [Hc HO Hat]
  · isplitr; · iexact HI
    isplitl [Hc]; · iexact Hc
    isplitl [HO]; · iexact HO
    isplitr
    · iapply (Ctx_mayWait D (by decide) c _ hl); iexact HC
    iexact Hat
  iintro ⟨HO, Hat, -, Hpay⟩
  have e : bigSep ((Rd D).duties (barCell c) 0 \ ∅) (fun d => (Rd D).payload (barCell c) 0 d) = iprop(barPay c true ∗ barPay (F := F) c false) := by
    rw [Finset.sdiff_empty, duties_bar, bigSep_insert (by decide), bigSep_singleton, payload_bar, payload_bar]; rfl
  ihave Hp := (show bigSep ((Rd D).duties ((c : Thread nD τ), SemLoc.reg barrier0) 0 \ ∅) (fun d => (Rd D).payload ((c : Thread nD τ), SemLoc.reg barrier0) 0 d) ⊢ iprop(barPay c true ∗ barPay (F := F) c false)
    from Entails.of_eq e) $$ Hpay
  icases Hp with ⟨H1, H2⟩
  iapply Hk
  isplitl [Hat]; · iexact Hat
  isplitl [H1]; · iexact H1
  isplitl [H2]; · iexact H2
  iexists _; iexact HO

/-- The COPY of a weight chunk out of HBM: the `n`-th. -/
theorem wp_wcopy (c : Dev nD) (b : Bool) (n : ℕ) (hn : n < 64)
    {src : Memref sig .tc .hbm S1024x1024 .f32} (hs : src = wsrc b (ck n)) {dst : Memref sig (Proc.tc : Proc τ).kind .vmem S1024x1024 .f32} (hd : dst = wslot b (par n))
    {sem : SemLoc sig} (hsm : sem = csem (.wt b) (par n)) {hsrc : src.view.WordExact} {hdst : dst.view.WordExact}
    {hsem : DmaTarget.Typed (nD := nD) .hbm sem (DmaTarget.here (p := (Proc.tc : Proc τ)) dst)}
    {Q : α → sProp 𝕄} {kk : PUnit → Prog (TpuEff nD τ sig (Elt F) Λ₀ .tc) α} :
    iprop(Ctx D ∗ Toks c (.wt b) n ∗ reached (ER (F := F)) (ev c (.wt b) n) (n / 2) ∗ anyW c b n ∗ ownsSrc D c b (ck n))
      ⊢ iprop(((CredT c (.wt b) n ∗ Toks c (.wt b) (n + 1)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.here dst) sem hsrc hdst hsem) kk) Q) := by
  subst hs; subst hd; subst hsm
  unfold anyW
  iintro ⟨#HC, Ht, #Hr, ⟨%X, Hd⟩, Hs⟩ Hk
  ihave H := (Toks_take c (k := .wt b) (j := n) hn) $$ Ht
  icases H with ⟨Ht, Ht'⟩
  ihave Hi := (Ctx_cell D c (.wt b) (par n)) $$ HC
  icases Hi with ⟨%κ, #HI⟩
  unfold ownsW ownsSrc owns Tok CredT
  icases Hs with ⟨%fs, %hfs, Hs⟩
  icases Hd with ⟨%fd, %hfd, Hd⟩
  iapply (Rounds.wp_copy_pointsTo 𝒱₀ ER (Rd D) (c : Thread nD τ) none (κ := κ) (r := n / 2) (d := false) (q := wq) (fs := fs) (fd := fd)
      (show false ∈ (Rd D).duties (ev c (.wt b) n) (n / 2) by rw [duties_ev c hn]; exact Finset.mem_singleton_self _) (ix (.wt b) n) amtW
      (show (wslot b (par n)).view.amount (csem (.wt b) (par n)) = amtW from wslot_amt b _) (amount_ev c (.wt b) n _ _) ?_) $$ [Hs Hd Ht]
  · rw [show (((c : Thread nD τ), csem (.wt b) (par (n + off (.wt b)))) : GSem nD τ sig) = ev c (.wt b) n from rfl, payload_ev, pay_wt]
    unfold ownsW ownsSrc owns
    iintro ⟨Hd, Hs⟩
    isplitl [Hd]
    · iexists _; isplitr
      · ipureintro; exact (View.read_write_univ fd _).trans hfs
      iexact Hd
    iexists fs; isplitr; · ipureintro; exact hfs
    iexact Hs
  · isplitr; · iexact HI
    isplitl [Hs]; · iexact Hs
    isplitl [Hd]; · iexact Hd
    isplitl [Ht]; · iexact Ht
    iexact Hr
  iintro Hc
  iapply Hk
  isplitl [Hc]; · iexact Hc
  iexact Ht'

end Rules

/-! ## What a program's memory references and semaphores are -/

/-- The arrays of DMA semaphores. -/
def darr : K → DmaSems sig S2
  | .send (false, true) => cc0_scratch6
  | .recv (false, true) => cc0_scratch7
  | .send (false, false) => cc0_scratch8
  | .recv (false, false) => cc0_scratch9
  | .send (true, true) => cc0_scratch10
  | .recv (true, true) => cc0_scratch11
  | .send (true, false) => cc0_scratch12
  | .recv (true, false) => cc0_scratch13
  | .wt false => cc0_scratch14
  | .wt true => cc0_scratch15
  | .cred _ => cc0_scratch6

/-- The arrays of credit semaphores. -/
def rarr : Rg → Sems sig S2
  | (false, true) => cc0_scratch16
  | (false, false) => cc0_scratch17
  | (true, true) => cc0_scratch18
  | (true, false) => cc0_scratch19

/-- The semaphore of an array at an offset. -/
abbrev semAt {β : Type} (A : SemArray β S2) (off : Fin 1 → ℕ) (h : ∀ a, off a + S1.size a ≤ S2.size a) : β :=
  ((A.slice (Rect.unit (s := S2) off S1.size h)).squeeze S_ squeezes_S1_S_).sem

theorem dsem_eq (k : K) (hk : ∀ r, k ≠ .cred r) (p : Fin 2) {off : Fin 1 → ℕ} {h : ∀ a, off a + S1.size a ≤ S2.size a} (e : off = ![p.val]) :
    SemLoc.dma (semAt (darr k) off h) = csem k p := by
  subst e
  rcases k with ⟨⟨a, d⟩⟩ | ⟨⟨a, d⟩⟩ | r | b
  · revert p; cases a <;> cases d <;> decide
  · revert p; cases a <;> cases d <;> decide
  · exact absurd rfl (hk r)
  · revert p; cases b <;> decide

theorem rsem_eq (r : Rg) (p : Fin 2) {off : Fin 1 → ℕ} {h : ∀ a, off a + S1.size a ≤ S2.size a} (e : off = ![p.val]) :
    SemLoc.reg (semAt (rarr r) off h) = csem (.cred r) p := by
  subst e
  obtain ⟨a, d⟩ := r
  revert p; cases a <;> cases d <;> decide

theorem slotAt_eq (r : Rg) (p : Fin 2) {off : Fin 3 → ℕ} {h : ∀ a, off a + S1x512x1024.size a ≤ S2x512x1024.size a} (e : off = ![p.val, 0, 0]) :
    slotAt (buf r) off h = slot r p := by subst e; rfl

theorem wslotAt_eq (b : Bool) (p : Fin 2) {off : Fin 3 → ℕ} {h : ∀ a, off a + S1x1024x1024.size a ≤ S2x1024x1024.size a} (e : off = ![p.val, 0, 0]) :
    wslotAt (wbuf b) off h = wslot b p := by subst e; rfl

theorem wsrc1_eq (k : Fin 4) {off : Fin 2 → ℕ} {h : ∀ a, off a + S1024x1024.size a ≤ S1024x4096.size a} (e : off = ![0, 1024 * k.val]) :
    (Memref.whole main_arg1 : Memref sig .tc .hbm S1024x4096 .f32).slice (Rect.unit (s := S1024x4096) off S1024x1024.size h) (fun _ => rfl) = wsrc false k := by
  subst e; rfl

theorem wsrc2_eq (k : Fin 4) {off : Fin 2 → ℕ} {h : ∀ a, off a + S1024x1024.size a ≤ S4096x1024.size a} (e : off = ![1024 * k.val, 0]) :
    (Memref.whole main_arg2 : Memref sig .tc .hbm S4096x1024 .f32).slice (Rect.unit (s := S4096x1024) off S1024x1024.size h) (fun _ => rfl) = wsrc true k := by
  subst e; rfl

theorem slotAt_amt (r : Rg) {off : Fin 3 → ℕ} {h : ∀ a, off a + S1x512x1024.size a ≤ S2x512x1024.size a} (p : Fin 2) (e : off = ![p.val, 0, 0]) :
    (slotAt (buf r) off h).view.dmaCredit = amtR := by rw [slotAt_eq r p e]; exact slot_amt r p

theorem wslotAt_amt (b : Bool) {off : Fin 3 → ℕ} {h : ∀ a, off a + S1x1024x1024.size a ≤ S2x1024x1024.size a} (p : Fin 2) (e : off = ![p.val, 0, 0]) :
    (wslotAt (wbuf b) off h).view.dmaCredit = amtW := by rw [wslotAt_eq b p e]; exact wslot_amt b p

end Cert.Rings
-- ==== Proof.Blocks.lean ====
/-
  Loads and stores of blocks by the name of the block, and the bundle of the weights on their way.
-/
module

public import proofs.«01_k».proof.Proof.Rules

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]
local notation "𝕄" => MT nD τ sig ℕ (Elt F) ℕ UU ℕ

variable (D : Data F)

section Rules
variable {α : Type}

theorem sc3 : S1x512x1024.ShapeCasts S512x1024 := rfl
theorem scW : S1x1024x1024.ShapeCasts S1024x1024 := rfl

/-- A LOAD of a block of a ring's buffer. -/
theorem wp_loadR (c : Dev nD) (r : Rg) (p : ℕ) {q : PosShare TreeShare} {X : Vec F S512x1024 .f32} {off : Fin 3 → ℕ} (e : off = ![(par p).val, 0, 0])
    {h : ∀ a, off a + S1x512x1024.size a ≤ S2x512x1024.size a} {M : Memref sig .tc .vmem S2x512x1024 .f32} (hM : M = buf r)
    {hl : M.view.LoadsAt (Rect.unit (s := S2x512x1024) off S1x512x1024.size h).toLoadRect}
    {kk : Vec F S1x512x1024 .f32 → Prog (TpuEff nD τ sig (Elt F) Λ₀ .tc) α} {Q : α → sProp 𝕄} :
    ownsR c r p q X
      ⊢ iprop((∀ v : Vec F S1x512x1024 .f32, ⌜shapeCast S512x1024 v sc3 = X⌝ -∗ ownsR c r p q X
            -∗ wp frame (wpE (defs₀ (F := F)) 𝒱₀ (c : Thread nD τ) none) Set.univ (kk v) Q)
          -∗ wp frame (wpE (defs₀ (F := F)) 𝒱₀ (c : Thread nD τ) none) Set.univ
            (.op (.load M (Rect.unit (s := S2x512x1024) off S1x512x1024.size h).toLoadRect hl) kk) Q) := by
  subst e; subst hM
  exact wp_load_sq c (fun _ => rfl) squeezes_S1x512x1024_S512x1024 sc3

/-- A STORE of a block of a ring's buffer. -/
theorem wp_storeR (c : Dev nD) (r : Rg) (p : ℕ) {X : Vec F S512x1024 .f32} {off : Fin 3 → ℕ} (e : off = ![(par p).val, 0, 0])
    {h : ∀ a, off a + S1x512x1024.size a ≤ S2x512x1024.size a} {M : Memref sig .tc .vmem S2x512x1024 .f32} (hM : M = buf r)
    {w : Vec F S1x512x1024 .f32} {hx : (M.access (Rect.unit (s := S2x512x1024) off S1x512x1024.size h)).Stores Finset.univ} {hm}
    {kk : PUnit → Prog (TpuEff nD τ sig (Elt F) Λ₀ .tc) α} {Q : α → sProp 𝕄} :
    ownsR c r p fullShare X
      ⊢ iprop((ownsR c r p fullShare (shapeCast S512x1024 w sc3) -∗ wp frame (wpE (defs₀ (F := F)) 𝒱₀ (c : Thread nD τ) none) Set.univ (kk ⟨⟩) Q)
          -∗ wp frame (wpE (defs₀ (F := F)) 𝒱₀ (c : Thread nD τ) none) Set.univ
            (.op (.store M (Rect.unit (s := S2x512x1024) off S1x512x1024.size h) w Finset.univ hx hm) kk) Q) := by
  subst e; subst hM
  exact wp_store_sq c (fun _ => rfl) squeezes_S1x512x1024_S512x1024 sc3

/-- A LOAD of a block of a weight buffer. -/
theorem wp_loadW (c : Dev nD) (b : Bool) (p : ℕ) {X : Vec F S1024x1024 .f32} {off : Fin 3 → ℕ} (e : off = ![(par p).val, 0, 0])
    {h : ∀ a, off a + S1x1024x1024.size a ≤ S2x1024x1024.size a} {M : Memref sig .tc .vmem S2x1024x1024 .f32} (hM : M = wbuf b)
    {hl : M.view.LoadsAt (Rect.unit (s := S2x1024x1024) off S1x1024x1024.size h).toLoadRect}
    {kk : Vec F S1x1024x1024 .f32 → Prog (TpuEff nD τ sig (Elt F) Λ₀ .tc) α} {Q : α → sProp 𝕄} :
    ownsW c b p X
      ⊢ iprop((∀ v : Vec F S1x1024x1024 .f32, ⌜shapeCast S1024x1024 v scW = X⌝ -∗ ownsW c b p X
            -∗ wp frame (wpE (defs₀ (F := F)) 𝒱₀ (c : Thread nD τ) none) Set.univ (kk v) Q)
          -∗ wp frame (wpE (defs₀ (F := F)) 𝒱₀ (c : Thread nD τ) none) Set.univ
            (.op (.load M (Rect.unit (s := S2x1024x1024) off S1x1024x1024.size h).toLoadRect hl) kk) Q) := by
  subst e; subst hM
  exact wp_load_sq c (fun _ => rfl) squeezes_S1x1024x1024_S1024x1024 scW

end Rules

/-! ## The weights on their way -/

/-- Copy `n` of a weight matrix is under way; the other block of its buffer is free, and the other chunks are at hand. -/
def Wgt (c : Dev nD) (b : Bool) (n : ℕ) : sProp 𝕄 :=
  iprop(Busy c (.wt b) n ∗ anyW (F := F) c b (n + 1) ∗ ownsSrc D c b (ck (n + 1)) ∗ ownsSrc D c b (ck (n + 2)) ∗ ownsSrc D c b (ck (n + 3)))

/-- Copies `n` and `n + 1` of a weight matrix are under way. -/
def Busy2 (c : Dev nD) (b : Bool) (n : ℕ) : sProp 𝕄 :=
  iprop(Pos (F := F) c (.wt b) n ∗ Reach (F := F) c (.wt b) n ∗ CredT (F := F) c (.wt b) n ∗ CredT (F := F) c (.wt b) (n + 1) ∗ Toks (F := F) c (.wt b) (n + 2))

/-- The bundle with copies `n` and `n + 1` under way. -/
def Wgt2 (c : Dev nD) (b : Bool) (n : ℕ) : sProp 𝕄 := iprop(Busy2 (F := F) c b n ∗ ownsSrc D c b (ck (n + 2)) ∗ ownsSrc D c b (ck (n + 3)))

/-- The bundle with copy `n` in hand and copy `n + 1` under way. -/
def WgtH (c : Dev nD) (b : Bool) (n : ℕ) : sProp 𝕄 :=
  iprop(ownsW c b n (D.w b c (ck n)) ∗ Busy c (.wt b) (n + 1) ∗ ownsSrc D c b (ck (n + 2)) ∗ ownsSrc D c b (ck (n + 3)) ∗ ownsSrc D c b (ck n))

theorem ck_add (n : ℕ) : ck (n + 4) = ck n := Fin.ext (Nat.add_mod_right n 4)

/-- The copy in hand is given up. -/
theorem Wgt_next (c : Dev nD) (b : Bool) (n : ℕ) : WgtH D c b n ⊢ Wgt D c b (n + 1) := by
  unfold WgtH Wgt anyW
  rw [show ck (n + 1 + 3) = ck n from ck_add n]
  iintro ⟨Hw, HB, H2, H3, H0⟩
  isplitl [HB]; · iexact HB
  isplitl [Hw]
  · iexists D.w b c (ck n)
    unfold ownsW
    rw [show par (n + 1 + 1) = par n from par_congr (by omega)]
    iexact Hw
  isplitl [H2]; · iexact H2
  isplitl [H3]; · iexact H3
  iexact H0

section Rules
variable {α : Type}

/-- The START of the next copy. -/
theorem wp_next (c : Dev nD) (b : Bool) (n : ℕ) (hn : n + 1 < 64)
    {src : Memref sig .tc .hbm S1024x1024 .f32} (hs : src = wsrc b (ck (n + 1))) {dst : Memref sig (Proc.tc : Proc τ).kind .vmem S1024x1024 .f32} (hd : dst = wslot b (par (n + 1)))
    {sem : SemLoc sig} (hsm : sem = csem (.wt b) (par (n + 1))) {hsrc : src.view.WordExact} {hdst : dst.view.WordExact}
    {hsem : DmaTarget.Typed (nD := nD) .hbm sem (DmaTarget.here (p := (Proc.tc : Proc τ)) dst)}
    {Q : α → sProp 𝕄} {kk : PUnit → Prog (TpuEff nD τ sig (Elt F) Λ₀ .tc) α} :
    iprop(Ctx D ∗ Wgt D c b n)
      ⊢ iprop((Wgt2 D c b n -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.here dst) sem hsrc hdst hsem) kk) Q) := by
  unfold Wgt Wgt2 Busy Busy2
  iintro ⟨#HC, ⟨Hp, #Hr, Hc, Ht⟩, Hd, H1, H2, H3⟩ Hk
  iapply (wp_wcopy D c b (n + 1) hn hs hd hsm) $$ [Ht Hd H1]
  · isplitr; · iexact HC
    isplitl [Ht]; · iexact Ht
    isplitr
    · unfold Reach; icases Hr with ⟨#Hr1, #Hr2⟩; iexact Hr2
    isplitl [Hd]; · iexact Hd
    iexact H1
  iintro ⟨Hc', Ht⟩
  iapply Hk
  isplitr [H2 H3]
  · isplitl [Hp]; · iexact Hp
    isplitr; · iexact Hr
    isplitl [Hc]; · iexact Hc
    isplitl [Hc']; · iexact Hc'
    iexact Ht
  isplitl [H2]; · iexact H2
  iexact H3

/-- The WAIT for a copy while the next is under way. -/
theorem wp_arrive (c : Dev nD) (b : Bool) (n : ℕ) (hn : n < 64) {sem : DmaSem sig} (hsm : SemLoc.dma sem = csem (.wt b) (par n))
    {sp sp' : Space} {s s' : Shape} {e e' : EltTy} {src : Memref sig .tc sp' s' e'} {dst : Memref sig .tc sp s e}
    {hsrc : src.view.WordExact} {hdst : dst.view.WordExact} (hk : dst.view.dmaCredit = amtW)
    {l : List P1} (hl : AllAbove 0 l) {Q : α → sProp 𝕄} {kk : PUnit → Prog (TpuEff nD τ sig (Elt F) Λ₀ .tc) α} :
    iprop(Ctx D ∗ Wgt2 D c b n ∗ Ow c l)
      ⊢ iprop(((WgtH D c b n ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  unfold Wgt2 WgtH Busy2 Busy
  iintro ⟨#HC, ⟨⟨Hp, Hr, Hc, Hc', Ht⟩, H2, H3⟩, HO⟩ Hk
  iapply (wp_waitDma D c (.wt b) n hn hsm hk hl) $$ [Hp Hr Hc HO]
  · isplitr; · iexact HC
    isplitl [Hp]; · iexact Hp
    isplitl [Hr]; · iexact Hr
    isplitl [Hc]; · iexact Hc
    iexact HO
  rw [pay_wt]
  iintro ⟨Hp, Hr, ⟨Hw, H0⟩, HO⟩
  iapply Hk
  isplitr [HO]
  · isplitl [Hw]; · iexact Hw
    isplitl [Hp Hr Hc' Ht]
    · isplitl [Hp]; · iexact Hp
      isplitl [Hr]; · iexact Hr
      isplitl [Hc']; · iexact Hc'
      iexact Ht
    isplitl [H2]; · iexact H2
    isplitl [H3]; · iexact H3
    iexact H0
  iexact HO

end Rules

end Cert.Rings
-- ==== Proof.Chunk.lean ====
/-
  A chunk of the weights: the loop that adds, chunk by chunk, what the block of `x` that has come contributes to the accumulator.
-/
module

public import proofs.«01_k».proof.Proof.Blocks
public import Idealize.ShloMosaic.Lib.Pipeline.Value

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]
local notation "𝕄" => MT nD τ sig ℕ (Elt F) ℕ UU ℕ

variable (D : Data F)

section Rules
variable {α β γ : Type}

/-- A piece of a program that comes before the rest. -/
theorem wp_seq (c : Dev nD) {p : Prog (TpuEff nD τ sig (Elt F) Λ₀ .tc) β} {R : sProp 𝕄} {R' : β → sProp 𝕄}
    (h : R ⊢ wp frame (wpE (defs₀ (F := F)) 𝒱₀ (c : Thread nD τ) none) Set.univ p R')
    {kk : β → Prog (TpuEff nD τ sig (Elt F) Λ₀ .tc) α} {Q : α → sProp 𝕄} :
    R ⊢ iprop((∀ a, R' a -∗ wp frame (wpE (defs₀ (F := F)) 𝒱₀ (c : Thread nD τ) none) Set.univ (kk a) Q)
      -∗ wp frame (wpE (defs₀ (F := F)) 𝒱₀ (c : Thread nD τ) none) Set.univ (p >>= kk) Q) := by
  rw [wp_bind]
  iintro HR Hk
  ihave H := h $$ HR
  iapply (wp_wand_r) $$ [H Hk]
  isplitl [H]; · iexact H
  iexact Hk

/-- A piece of a program under a guard, before the rest. -/
theorem wp_guard (c : Dev nD) {P : Prop} [Decidable P] {R R' : sProp 𝕄} {Q : α → sProp 𝕄} {a : P → Prog (TpuEff nD τ sig (Elt F) Λ₀ .tc) α}
    {rest : Prog (TpuEff nD τ sig (Elt F) Λ₀ .tc) α}
    (h : ∀ p, R ⊢ iprop((R' -∗ wp frame (wpE (defs₀ (F := F)) 𝒱₀ (c : Thread nD τ) none) Set.univ rest Q)
        -∗ wp frame (wpE (defs₀ (F := F)) 𝒱₀ (c : Thread nD τ) none) Set.univ (a p) Q)) (h' : ¬ P → R ⊢ R') :
    R ⊢ iprop((R' -∗ wp frame (wpE (defs₀ (F := F)) 𝒱₀ (c : Thread nD τ) none) Set.univ rest Q)
        -∗ wp frame (wpE (defs₀ (F := F)) 𝒱₀ (c : Thread nD τ) none) Set.univ (dite P a (fun _ => rest)) Q) := by
  by_cases hP : P
  · rw [dif_pos hP]; exact h hP
  · rw [dif_neg hP]
    iintro HR Hk
    iapply Hk
    iapply (h' hP)
    iexact HR

end Rules

/-- Before trip `t` of the chunks' loop of step `s`: the weights on their way, the blocks of `x` that have come, the accumulators after `t` chunks. -/
def Inv2 (c : Dev nD) (l : List P1) (s : ℕ) (X A : Bool → Vec F S512x1024 .f32) (t : ℕ) : sProp 𝕄 :=
  iprop(Ctx D ∗ Wgt D c false (4 * s + t) ∗ Wgt D c true (4 * s + t)
    ∗ ownsR c (false, true) (s + 1) fullShare.right (X true) ∗ ownsR c (false, false) (s + 1) fullShare.right (X false)
    ∗ ownsR c (true, true) (s + 1) fullShare (comp D c (X true) (A true) t) ∗ ownsR c (true, false) (s + 1) fullShare (comp D c (X false) (A false) t)
    ∗ Ow c l)

theorem t2_cond6 : ∀ t2 : Fin k0_t2_loop.trips,
    (Scalar.cmpi .ne (Scalar.extui (Scalar.cmpi .eq (Scalar.addi (Scf.iv 0#32 1#32 t2) 1#32) 4#32) : BitVec 32) 0#32 = 1#1) ↔ ¬ t2.val < 3 := by decide +kernel
theorem t2_cond5 : ∀ t2 : Fin k0_t2_loop.trips, k0_cond5 t2 = 1#1 ↔ t2.val < 3 := by decide +kernel
theorem t2_lt (t2 : Fin k0_t2_loop.trips) : t2.val < 4 := lt_of_lt_of_le t2.isLt k0_t2_abs.2.1
theorem t1_lt (t1 : Fin k0_t1_loop.trips) : t1.val < 15 := lt_of_lt_of_le t1.isLt k0_t1_abs.2.1

/-- The first part of a trip: the next chunk's copies started, this chunk's waited for, and the operands loaded. -/
theorem wp_part3 (c : Dev nD) (l : List P1) (hl : AllAbove 0 l) (v122 : BitVec 32) (q : PosShare TreeShare) (X A : Vec F S512x1024 .f32)
    (t1 : Fin k0_t1_loop.trips) (t2 : Fin k0_t2_loop.trips) :
    iprop(Ctx D ∗ Wgt D c false (4 * t1.val + t2.val) ∗ Wgt D c true (4 * t1.val + t2.val) ∗ ownsR c (false, true) (t1.val + 1) q X
        ∗ ownsR c (true, true) (t1.val + 1) fullShare A ∗ Ow c l)
      ⊢ wp frame (wpE (defs₀ (F := F)) 𝒱₀ (c : Thread nD τ) none) Set.univ (k0_part3 (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19
     t1 v122 0#32 1#32 t2) (fun r => iprop(⌜r.2.1 = actV X (D.w false c (ck (4 * t1.val + t2.val))) ∧ r.2.2 = A⌝
        ∗ WgtH D c false (4 * t1.val + t2.val) ∗ WgtH D c true (4 * t1.val + t2.val) ∗ ownsR c (false, true) (t1.val + 1) q X
        ∗ ownsR c (true, true) (t1.val + 1) fullShare A ∗ Ow c l)) := by
  have hs := t1_lt t1
  have ht := t2_lt t2
  simp only [k0_part3_eq_skeleton]; unfold k0_part3_skel
  simp only [Prog.lift, Prog.bind_op, Prog.bind_ret, Prog.pure_eq_ret, Prog.bind_assoc]
  have eck : ∀ j, j < 4 → (ck (4 * t1.val + j)).val = j := fun j hj => by show (4 * t1.val + j) % 4 = j; omega
  have ep : par (4 * t1.val + t2.val) = par t2.val := par_congr (by omega)
  have ep1 : par (4 * t1.val + t2.val + 1) = par (t2.val + 1) := par_congr (by omega)
  generalize hn : 4 * t1.val + t2.val = n at *
  iintro ⟨#HC, HW1, HW2, HxT, HaT, HO⟩
  -- the next chunk's copies: within the loop's own guard, or (the last trip) the first chunk's
  iapply (wp_guard c (R := iprop(Ctx D ∗ Wgt D c false n ∗ Wgt D c true n))
    (R' := iprop(if t2.val < 3 then Wgt2 D c false n ∗ Wgt2 D c true n else Wgt D c false n ∗ Wgt D c true n)) ?_ ?_) $$ [HW1 HW2]
  · intro h5
    · have h5' := (t2_cond5 t2).mp h5
      have e5 : (ck (n + 1)).val = t2.val + 1 := by rw [← hn]; exact eck (t2.val + 1) (by omega)
      rw [if_pos h5']
      iintro ⟨#HC, HW1, HW2⟩ Hk
      iapply (wp_next D c false n (by omega) (wsrc1_eq _ ((k0_off20_eq t2).trans (by rw [e5]; rfl)))
        (wslotAt_eq false _ ((k0_off19_eq t2).trans (by rw [ep1]; rfl))) (dsem_eq (.wt false) (fun _ => nofun) _ ((k0_off18_eq t2).trans (by rw [ep1]; rfl)))) $$ [HW1]
      · isplitr; · iexact HC
        iexact HW1
      iintro HW1
      iapply (wp_next D c true n (by omega) (wsrc2_eq _ ((k0_off21_eq t2).trans (by rw [e5]; rfl)))
        (wslotAt_eq true _ ((k0_off19_eq t2).trans (by rw [ep1]; rfl))) (dsem_eq (.wt true) (fun _ => nofun) _ ((k0_off18_eq t2).trans (by rw [ep1]; rfl)))) $$ [HW2]
      · isplitr; · iexact HC
        iexact HW2
      iintro HW2
      iapply Hk
      isplitl [HW1]; · iexact HW1
      iexact HW2
  · intro h5
    · rw [if_neg fun h => h5 ((t2_cond5 t2).mpr h)]
      iintro ⟨#HC, HW1, HW2⟩
      isplitl [HW1]; · iexact HW1
      iexact HW2
  · isplitr; · iexact HC
    isplitl [HW1]; · iexact HW1
    iexact HW2
  iintro H
  iapply (wp_guard c (R := iprop(Ctx D ∗ (if t2.val < 3 then Wgt2 D c false n ∗ Wgt2 D c true n else Wgt D c false n ∗ Wgt D c true n)))
    (R' := iprop(Wgt2 D c false n ∗ Wgt2 D c true n)) ?_ ?_) $$ [H]
  · intro h6
    · have h6' := (t2_cond6 t2).mp h6
      have e6 : (ck (n + 1)).val = 0 := by show (n + 1) % 4 = 0; omega
      have e6' : (par (n + 1)).val = 0 := by show (n + 1) % 2 = 0; omega
      rw [if_neg h6']
      iintro ⟨#HC, HW1, HW2⟩ Hk
      iapply (wp_next D c false n (by omega) (wsrc1_eq _ (by rw [e6]))
        (wslotAt_eq false _ (by rw [e6'])) (dsem_eq (.wt false) (fun _ => nofun) _ (by rw [e6']))) $$ [HW1]
      · isplitr; · iexact HC
        iexact HW1
      iintro HW1
      iapply (wp_next D c true n (by omega) (wsrc2_eq _ (by rw [e6]))
        (wslotAt_eq true _ (by rw [e6'])) (dsem_eq (.wt true) (fun _ => nofun) _ (by rw [e6']))) $$ [HW2]
      · isplitr; · iexact HC
        iexact HW2
      iintro HW2
      iapply Hk
      isplitl [HW1]; · iexact HW1
      iexact HW2
  · intro h6
    · rw [if_pos (not_not.mp fun h => h6 ((t2_cond6 t2).mpr h))]
      iintro ⟨#HC, HW1, HW2⟩
      isplitl [HW1]; · iexact HW1
      iexact HW2
  · isplitr; · iexact HC
    iexact H
  iintro ⟨HW1, HW2⟩
  -- this chunk's
  iapply (wp_arrive D c false n (by omega) (dsem_eq (.wt false) (fun _ => nofun) _ ((k0_off22_eq t2).trans (by rw [ep]; rfl)))
    (wslotAt_amt false (par n) ((k0_off23_eq t2).trans (by rw [ep]; rfl))) hl) $$ [HW1 HO]
  · isplitr; · iexact HC
    isplitl [HW1]; · iexact HW1
    iexact HO
  iintro ⟨HW1, HO⟩
  iapply (wp_arrive D c true n (by omega) (dsem_eq (.wt true) (fun _ => nofun) _ ((k0_off22_eq t2).trans (by rw [ep]; rfl)))
    (wslotAt_amt true (par n) ((k0_off23_eq t2).trans (by rw [ep]; rfl))) hl) $$ [HW2 HO]
  · isplitr; · iexact HC
    isplitl [HW2]; · iexact HW2
    iexact HO
  iintro ⟨HW2, HO⟩
  -- the operands
  iapply (wp_loadR c (false, true) (t1.val + 1) (k0_off26_eq t1) rfl) $$ HxT
  iintro %v %hv HxT
  unfold WgtH
  icases HW1 with ⟨Hw1, HW1⟩
  iapply (wp_loadW c false n ((k0_off27_eq t2).trans (by rw [ep]; rfl)) rfl) $$ Hw1
  iintro %w %hw Hw1
  iapply (wp_loadR c (true, true) (t1.val + 1) (k0_off26_eq t1) rfl) $$ HaT
  iintro %u %hu HaT
  rw [wp_ret]
  imodintro
  isplitr
  · ipureintro
    refine ⟨?_, hu⟩
    rw [← hv, ← hw]; rfl
  isplitl [Hw1 HW1]
  · isplitl [Hw1]; · iexact Hw1
    iexact HW1
  isplitl [HW2]; · iexact HW2
  isplitl [HxT]; · iexact HxT
  isplitl [HaT]; · iexact HaT
  iexact HO

/-- The stored accumulators are a chunk's step. -/
theorem pay5_eq (X A : Vec F S512x1024 .f32) (W1 : Vec F S1024x1024 .f32) (v : Vec F S1x1024x1024 .f32) :
    shapeCast S512x1024 (k0_pay5 (actV X W1) A v) sc3 = stepV X A W1 (shapeCast S1024x1024 v scW) := by
  unfold k0_pay5 stepV
  exact shapeCast_shapeCast _ _ _

theorem pay6_eq (v : Vec F S1x512x1024 .f32) (w : Vec F S1x1024x1024 .f32) (u : Vec F S1x512x1024 .f32) (w' : Vec F S1x1024x1024 .f32) :
    shapeCast S512x1024 (k0_pay6 v w u w') sc3
      = stepV (shapeCast S512x1024 v sc3) (shapeCast S512x1024 u sc3) (shapeCast S1024x1024 w scW) (shapeCast S1024x1024 w' scW) := by
  unfold k0_pay6 stepV actV
  exact shapeCast_shapeCast _ _ _

/-- One trip. -/
theorem wp_trip2 (c : Dev nD) (l : List P1) (hl : AllAbove 0 l) (v4 v6 arg24 v122 : BitVec 32) (X A : Bool → Vec F S512x1024 .f32)
    (t1 : Fin k0_t1_loop.trips) (t2 : Fin k0_t2_loop.trips) (acc : Unit) :
    Inv2 D c l t1.val X A t2.val ⊢ wp frame (wpE (defs₀ (F := F)) 𝒱₀ (c : Thread nD τ) none) Set.univ (k0_t2_body (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19
    c v4 v6 t1 arg24 v122 t2 acc) (fun _ => Inv2 D c l t1.val X A (t2.val + 1)) := by
  have ht := t2_lt t2
  have ep : par (4 * t1.val + t2.val) = par t2.val := par_congr (by omega)
  have ec : ck (4 * t1.val + t2.val) = ck t2.val := Fin.ext (by show (4 * t1.val + t2.val) % 4 = t2.val % 4; omega)
  unfold k0_t2_body Inv2
  rw [← Nat.add_assoc]
  iintro ⟨#HC, HW1, HW2, HxT, HxF, HaT, HaF, HO⟩
  iapply (wp_seq c (wp_part3 D c l hl v122 fullShare.right (X true) (comp D c (X true) (A true) t2.val) t1 t2)) $$ [HW1 HW2 HxT HaT HO]
  · isplitr; · iexact HC
    isplitl [HW1]; · iexact HW1
    isplitl [HW2]; · iexact HW2
    isplitl [HxT]; · iexact HxT
    isplitl [HaT]; · iexact HaT
    iexact HO
  iintro %r ⟨%hr, HW1, HW2, HxT, HaT, HO⟩
  obtain ⟨r0, r1, r2⟩ := r
  obtain ⟨h1, h2⟩ := hr
  dsimp only at h1 h2
  subst h1; subst h2
  simp only [Prog.lift, Prog.bind_op, Prog.bind_ret, Prog.pure_eq_ret, Prog.bind_assoc]
  generalize hn : 4 * t1.val + t2.val = n at *
  unfold WgtH
  icases HW1 with ⟨Hw1, HW1⟩
  icases HW2 with ⟨Hw2, HW2⟩
  iapply (wp_loadW c true n ((k0_off27_eq t2).trans (by rw [ep]; rfl)) rfl) $$ Hw2
  iintro %w2 %hw2 Hw2
  iapply (wp_loadR c (true, true) (t1.val + 1) (k0_off26_eq t1) rfl) $$ HaT
  iintro %u0 %hu0 HaT
  iapply (wp_storeR c (true, true) (t1.val + 1) (k0_off26_eq t1) rfl) $$ HaT
  iintro HaT
  iapply (wp_loadR c (false, false) (t1.val + 1) (k0_off26_eq t1) rfl) $$ HxF
  iintro %xf %hxf HxF
  iapply (wp_loadW c false n ((k0_off27_eq t2).trans (by rw [ep]; rfl)) rfl) $$ Hw1
  iintro %w1 %hw1 Hw1
  iapply (wp_loadR c (true, false) (t1.val + 1) (k0_off26_eq t1) rfl) $$ HaF
  iintro %af %haf HaF
  iapply (wp_loadW c true n ((k0_off27_eq t2).trans (by rw [ep]; rfl)) rfl) $$ Hw2
  iintro %w2' %hw2' Hw2
  iapply (wp_loadR c (true, false) (t1.val + 1) (k0_off26_eq t1) rfl) $$ HaF
  iintro %u1 %hu1 HaF
  iapply (wp_storeR c (true, false) (t1.val + 1) (k0_off26_eq t1) rfl) $$ HaF
  iintro HaF
  rw [wp_ret]
  imodintro
  rw [pay5_eq, pay6_eq, hw1, hw2, hw2', hxf, haf]
  isplitr; · iexact HC
  isplitl [Hw1 HW1]
  · iapply (Wgt_next D c false n)
    unfold WgtH
    isplitl [Hw1]; · iexact Hw1
    iexact HW1
  isplitl [Hw2 HW2]
  · iapply (Wgt_next D c true n)
    unfold WgtH
    isplitl [Hw2]; · iexact Hw2
    iexact HW2
  isplitl [HxT]; · iexact HxT
  isplitl [HxF]; · iexact HxF
  rw [show comp D c (X true) (A true) (t2.val + 1) = stepV (X true) (comp D c (X true) (A true) t2.val) (D.w false c (ck n)) (D.w true c (ck n)) by rw [ec]; rfl,
    show comp D c (X false) (A false) (t2.val + 1) = stepV (X false) (comp D c (X false) (A false) t2.val) (D.w false c (ck n)) (D.w true c (ck n)) by rw [ec]; rfl]
  isplitl [HaT]; · iexact HaT
  isplitl [HaF]; · iexact HaF
  iexact HO

/-- The loop over the chunks. -/
theorem wp_loop2 {α : Type} (c : Dev nD) (l : List P1) (hl : AllAbove 0 l) (v4 v6 arg24 v122 : BitVec 32) (X A : Bool → Vec F S512x1024 .f32)
    (t1 : Fin k0_t1_loop.trips) {kk : PUnit → Prog (TpuEff nD τ sig (Elt F) Λ₀ .tc) α} {Q : α → sProp 𝕄} :
    Inv2 D c l t1.val X A 0 ⊢ iprop((Inv2 D c l t1.val X A 4 -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for k0_t2_loop k0_t2_ok ⟨⟩ (k0_t2_body (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19
    c v4 v6 t1 arg24 v122) >>= kk) Q) := by
  have e : Scf.trips k0_t2_loop.lb k0_t2_loop.ub k0_t2_loop.st = 4 := by decide +kernel
  iintro H Hk
  iapply (Scf.wp_for_bind frame (wpE (defs₀ (F := F)) 𝒱₀ (c : Thread nD τ) none) Set.univ k0_t2_loop.lb k0_t2_loop.ub k0_t2_loop.st k0_t2_ok ⟨⟩ _
    (fun t _ => Inv2 D c l t1.val X A t) (fun t2 acc => wp_trip2 D c l hl v4 v6 arg24 v122 X A t1 t2 acc)) $$ [H]
  · iexact H
  rw [e]
  iintro %a H
  iapply Hk
  iexact H

end Cert.Rings
-- ==== Proof.Moves.lean ====
/-
  The moves of a ring at one step: the waits with the shares of a block put together and taken apart, and what a step still owes.
-/
module

public import proofs.«01_k».proof.Proof.Chunk

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]
local notation "𝕄" => MT nD τ sig ℕ (Elt F) ℕ UU ℕ

variable (D : Data F)

/-! ## Blocks -/

theorem ownsR_congr (c : Dev nD) (r : Rg) {p p' : ℕ} (h : p % 2 = p' % 2) (q : PosShare TreeShare) (X : Vec F S512x1024 .f32) :
    ownsR c r p q X = ownsR c r p' q X := by unfold ownsR; rw [par_congr h]

theorem anyR_congr (c : Dev nD) (r : Rg) {p p' : ℕ} (h : p % 2 = p' % 2) : anyR (F := F) c r p = anyR c r p' := by
  unfold anyR; simp only [ownsR_congr c r h]

theorem ownsR_any (c : Dev nD) (r : Rg) (p : ℕ) (X : Vec F S512x1024 .f32) : ownsR c r p fullShare X ⊢ anyR c r p := by
  unfold anyR; iintro H; iexists X; iexact H

/-- A block in halves. -/
theorem ownsR_halves (c : Dev nD) (r : Rg) (p : ℕ) (X : Vec F S512x1024 .f32) :
    ownsR c r p fullShare X ⊢ iprop(ownsR c r p fullShare.left X ∗ ownsR c r p fullShare.right X) := by
  unfold ownsR; exact (owns_halves ..).1

theorem ownsR_rejoin (c : Dev nD) (r : Rg) (p : ℕ) (X Y : Vec F S512x1024 .f32) :
    iprop(ownsR c r p fullShare.left X ∗ ownsR c r p fullShare.right Y) ⊢ anyR c r p := by
  unfold anyR ownsR
  iintro ⟨H, H'⟩
  iexists X
  iapply (owns_rejoin (c : Thread nD τ) (slot r (par p)) fullShare (Φ := fun _ => True) X)
  isplitl [H]; · iexact H
  iapply (ownsSat_intro (c : Thread nD τ) (slot r (par p)) fullShare.right (X := Y) trivial)
  iexact H'

/-! ## What a step owes -/

/-- The landings of the accumulators of step `s`, and all later steps. -/
def dueA (c : Dev nD) (s : ℕ) : List P1 :=
  pEv (nx true c) (.recv (true, true)) s :: pEv (nx false c) (.recv (true, false)) s :: dueFrom c (s + 1)
/-- With the credits of the accumulators. -/
def dueB (c : Dev nD) (s : ℕ) : List P1 :=
  if 1 ≤ s then pEv (pv true c) (.cred (true, true)) (s - 1) :: pEv (pv false c) (.cred (true, false)) (s - 1) :: dueA c s else dueA c s
/-- With the landings of the blocks of `x`. -/
def dueX (c : Dev nD) (s : ℕ) : List P1 :=
  if s ≤ 13 then pEv (nx true c) (.recv (false, true)) (s + 1) :: pEv (nx false c) (.recv (false, false)) (s + 1) :: dueB c s else dueB c s
/-- With the credits of the blocks of `x`: all. -/
def dueC (c : Dev nD) (s : ℕ) : List P1 :=
  if s ≤ 13 then pEv (pv true c) (.cred (false, true)) s :: pEv (pv false c) (.cred (false, false)) s :: dueX c s else dueX c s

theorem dueFrom_eq (c : Dev nD) {s : ℕ} (h : s < 15) : dueFrom c s = dueC c s := by
  rw [dueFrom_step c h]
  unfold stepDue dueC dueX dueB dueA
  split <;> split <;> rfl

theorem above_A (c : Dev nD) {i s : ℕ} (h : i ≤ 10 * s + 20) (hs : s < 15) : AllAbove i (dueA c s) := by
  unfold dueA
  refine allAbove_ev ?_ ?_ (allAbove_ev ?_ ?_ (allAbove_from c (by omega) (by omega))) <;> simp only [ix, NIx] <;> omega

theorem above_B (c : Dev nD) {i s : ℕ} (h : i ≤ 10 * s + 12) (hs : s < 15) : AllAbove i (dueB c s) := by
  unfold dueB
  split
  · refine allAbove_ev ?_ ?_ (allAbove_ev ?_ ?_ (above_A c (by omega) hs)) <;> simp only [ix, NIx] <;> omega
  · exact above_A c (by omega) hs

theorem above_X (c : Dev nD) {i s : ℕ} (h : i ≤ 10 * s + 12) (hs : s < 15) : AllAbove i (dueX c s) := by
  unfold dueX
  split
  · refine allAbove_ev ?_ ?_ (allAbove_ev ?_ ?_ (above_B c h hs)) <;> simp only [ix, NIx] <;> omega
  · exact above_B c h hs

/-! ## The waits of a step -/

section Rules
variable {α : Type}

/-- The wait for the transfer of a block of `x` to have been read: the block is whole again. -/
theorem wp_xsent (c : Dev nD) (d : Bool) (s : ℕ) (hs : s < 15) (X : Vec F S512x1024 .f32) {sem : DmaSem sig} (hsm : SemLoc.dma sem = csem (.send (false, d)) (par s))
    {sp sp' : Space} {sh sh' : Shape} {e e' : EltTy} {src : Memref sig .tc sp' sh' e'} {dst : Memref sig .tc sp sh e}
    {hsrc : src.view.WordExact} {hdst : dst.view.WordExact} (hk : dst.view.dmaCredit = amtR)
    {l : List P1} (hl : AllAbove 0 l) {Q : α → sProp 𝕄} {kk : PUnit → Prog (TpuEff nD τ sig (Elt F) Λ₀ .tc) α} :
    iprop(Ctx D ∗ Busy c (.send (false, d)) s ∗ ownsR c (false, d) s fullShare.right X ∗ Ow c l)
      ⊢ iprop(((Idle c (.send (false, d)) (s + 1) ∗ anyR c (false, d) s ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  iintro ⟨#HC, HB, Hx, HO⟩ Hk
  iapply (wp_busyDma D c (.send (false, d)) s hs hsm hk hl) $$ [HB HO]
  · isplitr; · iexact HC
    isplitl [HB]; · iexact HB
    iexact HO
  rw [pay_send]
  iintro ⟨HI, Hp, HO⟩
  iapply Hk
  isplitl [HI]; · iexact HI
  isplitl [Hp Hx]
  · iapply (ownsR_rejoin c (false, d) s (cont D (false, d) c s) X)
    isplitl [Hp]; · iexact Hp
    iexact Hx
  iexact HO

/-- The wait for the next block of `x`: it comes, in halves. -/
theorem wp_xcame (c : Dev nD) (d : Bool) (s : ℕ) (hs : s < 15) {sem : DmaSem sig} (hsm : SemLoc.dma sem = csem (.recv (false, d)) (par (s + 1)))
    {sp sp' : Space} {sh sh' : Shape} {e e' : EltTy} {src : Memref sig .tc sp' sh' e'} {dst : Memref sig .tc sp sh e}
    {hsrc : src.view.WordExact} {hdst : dst.view.WordExact} (hk : dst.view.dmaCredit = amtR)
    {l : List P1} (hl : AllAbove (10 * s + 10) l) {Q : α → sProp 𝕄} {kk : PUnit → Prog (TpuEff nD τ sig (Elt F) Λ₀ .tc) α} :
    iprop(Ctx D ∗ Awaits c (.recv (false, d)) s ∗ Ow c l)
      ⊢ iprop(((Awaits c (.recv (false, d)) (s + 1) ∗ ownsR c (false, d) (s + 1) fullShare.left (cont D (false, d) c (s + 1))
              ∗ ownsR c (false, d) (s + 1) fullShare.right (cont D (false, d) c (s + 1)) ∗ Reach (pv d c) (.cred (false, d)) s ∗ Ow c l)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  iintro ⟨#HC, HB, HO⟩ Hk
  iapply (wp_awaitDma D c (.recv (false, d)) s hs hsm hk hl) $$ [HB HO]
  · isplitr; · iexact HC
    isplitl [HB]; · iexact HB
    iexact HO
  rw [pay_recv]
  iintro ⟨HI, ⟨Hp, Hr⟩, HO⟩
  ihave H := (ownsR_halves c (false, d) (s + off (.recv (false, d))) (cont D (false, d) (pv (false, d).2 c) s)) $$ Hp
  icases H with ⟨H1, H2⟩
  iapply Hk
  isplitl [HI]; · iexact HI
  isplitl [H1]; · iexact H1
  isplitl [H2]; · iexact H2
  isplitl [Hr]; · iexact Hr
  iexact HO

/-- The wait for an accumulator to have been read. -/
theorem wp_asent (c : Dev nD) (d : Bool) (s : ℕ) (hs : s < 15) {sem : DmaSem sig} (hsm : SemLoc.dma sem = csem (.send (true, d)) (par (s + 1)))
    {sp sp' : Space} {sh sh' : Shape} {e e' : EltTy} {src : Memref sig .tc sp' sh' e'} {dst : Memref sig .tc sp sh e}
    {hsrc : src.view.WordExact} {hdst : dst.view.WordExact} (hk : dst.view.dmaCredit = amtR)
    {l : List P1} (hl : AllAbove 0 l) {Q : α → sProp 𝕄} {kk : PUnit → Prog (TpuEff nD τ sig (Elt F) Λ₀ .tc) α} :
    iprop(Ctx D ∗ Busy c (.send (true, d)) s ∗ Ow c l)
      ⊢ iprop(((Idle c (.send (true, d)) (s + 1) ∗ anyR c (true, d) (s + 1) ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  iintro ⟨#HC, HB, HO⟩ Hk
  iapply (wp_busyDma D c (.send (true, d)) s hs hsm hk hl) $$ [HB HO]
  · isplitr; · iexact HC
    isplitl [HB]; · iexact HB
    iexact HO
  rw [pay_send]
  iintro ⟨HI, Hp, HO⟩
  iapply Hk
  isplitl [HI]; · iexact HI
  isplitl [Hp]
  · iapply (ownsR_any c (true, d) (s + 1) (cont D (true, d) c s)); iexact Hp
  iexact HO

/-- The wait for an accumulator. -/
theorem wp_acame (c : Dev nD) (d : Bool) (s : ℕ) (hs : s < 15) {sem : DmaSem sig} (hsm : SemLoc.dma sem = csem (.recv (true, d)) (par s))
    {sp sp' : Space} {sh sh' : Shape} {e e' : EltTy} {src : Memref sig .tc sp' sh' e'} {dst : Memref sig .tc sp sh e}
    {hsrc : src.view.WordExact} {hdst : dst.view.WordExact} (hk : dst.view.dmaCredit = amtR)
    {l : List P1} (hl : AllAbove (10 * s + 22) l) {Q : α → sProp 𝕄} {kk : PUnit → Prog (TpuEff nD τ sig (Elt F) Λ₀ .tc) α} :
    iprop(Ctx D ∗ Awaits c (.recv (true, d)) s ∗ Ow c l)
      ⊢ iprop(((Awaits c (.recv (true, d)) (s + 1) ∗ ownsR c (true, d) s fullShare (cont D (true, d) (pv d c) s)
              ∗ Reach (pv d c) (.cred (true, d)) s ∗ Ow c l)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  iintro ⟨#HC, HB, HO⟩ Hk
  iapply (wp_awaitDma D c (.recv (true, d)) s hs hsm hk hl) $$ [HB HO]
  · isplitr; · iexact HC
    isplitl [HB]; · iexact HB
    iexact HO
  rw [pay_recv]
  iintro ⟨HI, ⟨Hp, Hr⟩, HO⟩
  iapply Hk
  isplitl [HI]; · iexact HI
  isplitl [Hp]; · iexact Hp
  isplitl [Hr]; · iexact Hr
  iexact HO

/-- The CREDIT for a block: the one the last landing but this made free. -/
theorem wp_give (c n : Dev nD) (r : Rg) (hn : n = pv r.2 c) (j p : ℕ) (hj : j < 14) (hp : p % 2 = (j + 1 + off (.recv r)) % 2) {sem : Sem sig}
    (hsm : SemLoc.reg sem = csem (.cred r) (par (j + off (.cred r)))) {l : List P1}
    {Q : α → sProp 𝕄} {kk : PUnit → Prog (TpuEff nD τ sig (Elt F) Λ₀ .tc) α} :
    iprop(Ctx D ∗ anyR c r p ∗ Awaits c (.recv r) (j + 1) ∗ Toks (pv r.2 c) (.cred r) j ∗ Reach (pv r.2 c) (.cred r) j
        ∗ Ow c (pEv (pv r.2 c) (.cred r) j :: l))
      ⊢ iprop(((Awaits c (.recv r) (j + 1) ∗ Toks (pv r.2 c) (.cred r) (j + 1) ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) sem 1) kk) Q) := by
  unfold Awaits
  rw [anyR_congr c r hp]
  iintro ⟨#HC, Hb, ⟨Hp, #Hr, Hc⟩, Ht, HrC, HO⟩ Hk
  iapply (wp_credit D c n r hn j hj hsm) $$ [Hb Ht HrC HO]
  · isplitr; · iexact HC
    isplitl [Hb]; · iexact Hb
    isplitr; · iexact Hr
    isplitl [Ht]; · iexact Ht
    isplitl [HrC]; · iexact HrC
    iexact HO
  iintro ⟨Ht, HO⟩
  iapply Hk
  isplitl [Hp Hc]
  · isplitl [Hp]; · iexact Hp
    isplitr; · iexact Hr
    iexact Hc
  isplitl [Ht]; · iexact Ht
  iexact HO

/-- The wait for a credit: the block across is free, and its device has come far enough. -/
theorem wp_take (c : Dev nD) (r : Rg) (j : ℕ) (hj : j < 14) {sem : Sem sig} (hsm : SemLoc.reg sem = csem (.cred r) (par (j + off (.cred r))))
    {k' : ℕ} (hk : k' = 1) {l : List P1} (hl : AllAbove (ix (.cred r) j) l) {Q : α → sProp 𝕄} {kk : PUnit → Prog (TpuEff nD τ sig (Elt F) Λ₀ .tc) α} :
    iprop(Ctx D ∗ Awaits c (.cred r) j ∗ Ow c l)
      ⊢ iprop(((Awaits c (.cred r) (j + 1) ∗ anyR (nx r.2 c) r (j + 1 + off (.recv r)) ∗ Reach (nx r.2 c) (.recv r) (j + 1) ∗ Ow c l)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait sem k') kk) Q) := by
  iintro ⟨#HC, HB, HO⟩ Hk
  iapply (wp_awaitSem D c (.cred r) j hj hsm (hk.trans rfl) hl) $$ [HB HO]
  · isplitr; · iexact HC
    isplitl [HB]; · iexact HB
    iexact HO
  rw [pay_cred]
  iintro ⟨HI, ⟨Hp, Hr⟩, HO⟩
  iapply Hk
  isplitl [HI]; · iexact HI
  isplitl [Hp]; · iexact Hp
  isplitl [Hr]; · iexact Hr
  iexact HO

/-- The start of a ring's transfer, once the credit for it is in hand. -/
theorem wp_pass (c n : Dev nD) (r : Rg) (hn : n = nx r.2 c) (i : ℕ) (hi : i < 15)
    {src : Memref sig .tc .vmem S512x1024 .f32} (hs : src = slot r (par (i + off (.send r))))
    {dst : Memref sig (Dev.tc n : Thread nD τ).2.kind .vmem S512x1024 .f32} (hd : dst = slot r (par (i + off (.recv r))))
    {sS sem : SemLoc sig} (hsS : sS = csem (.send r) (par (i + off (.send r)))) (hsem' : sem = csem (.recv r) (par (i + off (.recv r))))
    {hsc : dst.view.ref.isScScratch = false} {hsrc : src.view.WordExact} {hdst : dst.view.WordExact}
    {hsem : DmaTarget.Typed .vmem sem (.remote (Dev.tc n : Thread nD τ) dst sS hsc)} {l : List P1}
    {Q : α → sProp 𝕄} {kk : PUnit → Prog (TpuEff nD τ sig (Elt F) Λ₀ .tc) α} :
    iprop(Ctx D ∗ ownsR c r (i + off (.send r)) (shr r) (cont D r c i) ∗ anyR (F := F) (nx r.2 c) r (i + off (.recv r))
        ∗ Ow c (pEv (nx r.2 c) (.recv r) i :: l)
        ∗ Idle c (.send r) i ∗ Toks (nx r.2 c) (.recv r) i ∗ Reach (nx r.2 c) (.recv r) i ∗ Awaits c (.cred r) i)
      ⊢ iprop(((Busy c (.send r) i ∗ Toks (nx r.2 c) (.recv r) (i + 1) ∗ Awaits c (.cred r) i ∗ Ow c l)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst sS hsc) sem hsrc hdst hsem) kk) Q) := by
  unfold Awaits
  iintro ⟨#HC, Hs, Hd, HO, HI, HtR, HrR, ⟨Hp, #HrC, Hc⟩⟩ Hk
  iapply (wp_send D c n r hn i hi hs hd hsS hsem') $$ [Hs Hd HO HI HtR HrR]
  · isplitr; · iexact HC
    isplitl [Hs]; · iexact Hs
    isplitl [Hd]; · iexact Hd
    isplitl [HO]; · iexact HO
    isplitl [HI]; · iexact HI
    isplitl [HtR]; · iexact HtR
    isplitl [HrR]; · iexact HrR
    iexact HrC
  iintro ⟨HB, HtR, HO⟩
  iapply Hk
  isplitl [HB]; · iexact HB
  isplitl [HtR]; · iexact HtR
  isplitl [Hp Hc]
  · isplitl [Hp]; · iexact Hp
    isplitr; · iexact HrC
    iexact Hc
  iexact HO

end Rules

end Cert.Rings
-- ==== Proof.Step.lean ====
/-
  One direction of a step: what it holds before and after each of the step's guarded pieces, and the effects in those terms.
-/
module

public import proofs.«01_k».proof.Proof.Moves

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]
local notation "𝕄" => MT nD τ sig ℕ (Elt F) ℕ UU ℕ

variable (D : Data F)

/-- The accumulators as a step finds them. -/
def accIn (c : Dev nD) (d : Bool) (s : ℕ) : Vec F S512x1024 .f32 := if 1 ≤ s then cont D (true, d) (pv d c) (s - 1) else zeroV

theorem cont_acc (c : Dev nD) (d : Bool) (s : ℕ) : cont D (true, d) c s = comp D c (cont D (false, d) c (s + 1)) (accIn D c d s) 4 := by
  cases s with
  | zero => exact cont_a_zero D d c
  | succ i => exact cont_a_succ D d c i

/-! ## The states -/

/-- The block of `x` of before free again, its credit not given yet. -/
def FreeX (c : Dev nD) (d : Bool) (s : ℕ) : sProp 𝕄 :=
  iprop(anyR (F := F) c (false, d) s ∗ Awaits c (.recv (false, d)) (s + 1) ∗ Toks (pv d c) (.cred (false, d)) (min s 14) ∗ Reach (pv d c) (.cred (false, d)) s)
/-- Its credit given, but for the last. -/
def GivenX (c : Dev nD) (d : Bool) (s : ℕ) : sProp 𝕄 :=
  iprop((if s ≤ 13 then emp else anyR (F := F) c (false, d) s) ∗ Awaits c (.recv (false, d)) (s + 1) ∗ Toks (pv d c) (.cred (false, d)) (min (s + 1) 14))
/-- The block of `x` that has come, to be passed on. -/
def HeldX (c : Dev nD) (d : Bool) (s : ℕ) : sProp 𝕄 :=
  iprop(ownsR c (false, d) (s + 1) fullShare.left (cont D (false, d) c (s + 1)) ∗ Idle c (.send (false, d)) (s + 1)
    ∗ Toks (nx d c) (.recv (false, d)) (min (s + 1) 15) ∗ Awaits c (.cred (false, d)) (min s 14))
/-- Passed on, but for the last. -/
def SentX (c : Dev nD) (d : Bool) (s : ℕ) : sProp 𝕄 :=
  iprop((if s ≤ 13 then Busy c (.send (false, d)) (s + 1)
      else ownsR c (false, d) (s + 1) fullShare.left (cont D (false, d) c (s + 1)) ∗ Idle c (.send (false, d)) (s + 1))
    ∗ Toks (nx d c) (.recv (false, d)) (min (s + 2) 15) ∗ Awaits c (.cred (false, d)) (min (s + 1) 14))
/-- The accumulators of before on their way, or (the first step) zero. -/
def FlownA (c : Dev nD) (d : Bool) (s : ℕ) : sProp 𝕄 :=
  iprop(Awaits c (.recv (true, d)) (s - 1)
    ∗ (if 1 ≤ s then Busy c (.send (true, d)) (s - 1) else Idle c (.send (true, d)) 0 ∗ ownsR c (true, d) 1 fullShare zeroV))
/-- The accumulators come. -/
def CameA (c : Dev nD) (d : Bool) (s : ℕ) : sProp 𝕄 :=
  iprop(Idle c (.send (true, d)) s ∗ ownsR c (true, d) (s + 1) fullShare (accIn D c d s))
/-- The accumulators' other block free, its credit not given yet. -/
def FreeA (c : Dev nD) (d : Bool) (s : ℕ) : sProp 𝕄 :=
  iprop(Awaits c (.recv (true, d)) s ∗ (if 1 ≤ s then anyR (F := F) c (true, d) s ∗ Reach (pv d c) (.cred (true, d)) (s - 1) else emp))
/-- The room across for the accumulators, not known to be there but for the first step. -/
def RoomA (c : Dev nD) (d : Bool) (s : ℕ) : sProp 𝕄 :=
  iprop(Awaits c (.cred (true, d)) (s - 1) ∗ (if 1 ≤ s then emp else anyR (F := F) (nx d c) (true, d) 0))
/-- The room across there. -/
def ClearA (c : Dev nD) (d : Bool) (s : ℕ) : sProp 𝕄 :=
  iprop(Awaits c (.cred (true, d)) s ∗ anyR (F := F) (nx d c) (true, d) s ∗ Reach (nx d c) (.recv (true, d)) s)

/-! ## Where a guard does not hold -/

theorem FreeX_skip (c : Dev nD) (d : Bool) {s : ℕ} (h : ¬ s ≤ 13) : FreeX (F := F) c d s ⊢ GivenX c d s := by
  unfold FreeX GivenX
  rw [if_neg h, show min (s + 1) 14 = min s 14 by omega]
  iintro ⟨H, HA, HT, -⟩
  isplitl [H]; · iexact H
  isplitl [HA]; · iexact HA
  iexact HT

theorem HeldX_skip (c : Dev nD) (d : Bool) {s : ℕ} (h : ¬ s ≤ 13) : HeldX D c d s ⊢ SentX D c d s := by
  unfold HeldX SentX
  rw [if_neg h, show min (s + 1) 14 = min s 14 by omega, show min (s + 2) 15 = min (s + 1) 15 by omega]
  iintro ⟨H, HA, HT, HC⟩
  isplitl [H HA]
  · isplitl [H]; · iexact H
    iexact HA
  isplitl [HT]; · iexact HT
  iexact HC

theorem FlownA_skip (c : Dev nD) (d : Bool) {s : ℕ} (h : ¬ 1 ≤ s) : FlownA (F := F) c d s ⊢ iprop(CameA D c d s ∗ FreeA c d s) := by
  unfold FlownA CameA FreeA accIn
  rw [if_neg h, if_neg h, if_neg h]
  obtain rfl : s = 0 := by omega
  iintro ⟨HA, HI, H⟩
  isplitl [HI H]
  · isplitl [HI]; · iexact HI
    iexact H
  isplitl [HA]; · iexact HA
  iempintro

theorem FreeA_skip (c : Dev nD) (d : Bool) {s : ℕ} (h : ¬ 1 ≤ s) :
    iprop(FreeA (F := F) c d s ∗ Toks (pv d c) (.cred (true, d)) (s - 1)) ⊢ iprop(Awaits c (.recv (true, d)) s ∗ Toks (pv d c) (.cred (true, d)) s) := by
  unfold FreeA
  rw [if_neg h, show s - 1 = s by omega]
  iintro ⟨⟨HA, -⟩, H⟩
  isplitl [HA]; · iexact HA
  iexact H

theorem RoomA_skip (c : Dev nD) (d : Bool) {s : ℕ} (h : ¬ 1 ≤ s) : iprop(Ctx D ∗ RoomA (F := F) c d s) ⊢ ClearA c d s := by
  unfold RoomA ClearA
  rw [if_neg h]
  obtain rfl : s = 0 := by omega
  iintro ⟨#HC, HA, H⟩
  isplitl [HA]; · iexact HA
  isplitl [H]; · iexact H
  iapply (Ctx_reach0 D (nx d c) (.recv (true, d)))
  iexact HC

/-! ## The effects -/

section Rules
variable {α : Type}

theorem wp_giveX (c n : Dev nD) (d : Bool) (hn : n = pv d c) (s : ℕ) (hs : s ≤ 13) {sem : Sem sig}
    (hsm : SemLoc.reg sem = csem (.cred (false, d)) (par s)) {l : List P1} {Q : α → sProp 𝕄} {kk : PUnit → Prog (TpuEff nD τ sig (Elt F) Λ₀ .tc) α} :
    iprop(Ctx D ∗ FreeX c d s ∗ Ow c (pEv (pv d c) (.cred (false, d)) s :: l))
      ⊢ iprop(((GivenX c d s ∗ Ow c l) -∗ wp frame (wpE (defs₀ (F := F)) 𝒱₀ (c : Thread nD τ) none) Set.univ (kk ⟨⟩) Q) -∗ wp frame (wpE (defs₀ (F := F)) 𝒱₀ (c : Thread nD τ) none) Set.univ (.op (.semSignal (Dev.tc n : Thread nD τ) sem 1) kk) Q) := by
  unfold FreeX GivenX
  rw [if_pos hs, show min s 14 = s by omega, show min (s + 1) 14 = s + 1 by omega]
  iintro ⟨#HC, ⟨H, HA, HT, HR⟩, HO⟩ Hk
  iapply (wp_give D c n (false, d) hn s s (by omega) (by show s % 2 = (s + 1 + 1) % 2; omega) hsm) $$ [H HA HT HR HO]
  · isplitr; · iexact HC
    isplitl [H]; · iexact H
    isplitl [HA]; · iexact HA
    isplitl [HT]; · iexact HT
    isplitl [HR]; · iexact HR
    iexact HO
  iintro ⟨HA, HT, HO⟩
  iapply Hk
  isplitl [HA HT]
  · isplitr; · iempintro
    isplitl [HA]; · iexact HA
    iexact HT
  iexact HO

/-- A block of `x` to be passed on, with its credit. -/
def ReadyX (c : Dev nD) (d : Bool) (s : ℕ) : sProp 𝕄 :=
  iprop(ownsR c (false, d) (s + 1) fullShare.left (cont D (false, d) c (s + 1)) ∗ Idle c (.send (false, d)) (s + 1)
    ∗ Toks (nx d c) (.recv (false, d)) (s + 1) ∗ Awaits c (.cred (false, d)) (s + 1)
    ∗ anyR (F := F) (nx d c) (false, d) (s + 1 + 1) ∗ Reach (nx d c) (.recv (false, d)) (s + 1))

theorem wp_takeX (c : Dev nD) (d : Bool) (s : ℕ) (hs : s ≤ 13) {sem : Sem sig} (hsm : SemLoc.reg sem = csem (.cred (false, d)) (par s))
    {k' : ℕ} (hk : k' = 1) {l : List P1} (hl : AllAbove (10 * s + 11) l) {Q : α → sProp 𝕄} {kk : PUnit → Prog (TpuEff nD τ sig (Elt F) Λ₀ .tc) α} :
    iprop(Ctx D ∗ HeldX D c d s ∗ Ow c l)
      ⊢ iprop(((ReadyX D c d s ∗ Ow c l) -∗ wp frame (wpE (defs₀ (F := F)) 𝒱₀ (c : Thread nD τ) none) Set.univ (kk ⟨⟩) Q) -∗ wp frame (wpE (defs₀ (F := F)) 𝒱₀ (c : Thread nD τ) none) Set.univ (.op (.semWait sem k') kk) Q) := by
  unfold HeldX ReadyX
  rw [show min s 14 = s by omega, show min (s + 1) 15 = s + 1 by omega]
  iintro ⟨#HC, ⟨H, HI, HT, HA⟩, HO⟩ Hk
  iapply (wp_take D c (false, d) s (by omega) hsm hk hl) $$ [HA HO]
  · isplitr; · iexact HC
    isplitl [HA]; · iexact HA
    iexact HO
  iintro ⟨HA, Hd, HR, HO⟩
  iapply Hk
  isplitr [HO]
  · isplitl [H]; · iexact H
    isplitl [HI]; · iexact HI
    isplitl [HT]; · iexact HT
    isplitl [HA]; · iexact HA
    isplitl [Hd]; · iexact Hd
    iexact HR
  iexact HO

theorem wp_passX (c n : Dev nD) (d : Bool) (hn : n = nx d c) (s : ℕ) (hs' : s ≤ 13)
    {src : Memref sig .tc .vmem S512x1024 .f32} (hs : src = slot (false, d) (par (s + 1)))
    {dst : Memref sig (Dev.tc n : Thread nD τ).2.kind .vmem S512x1024 .f32} (hd : dst = slot (false, d) (par (s + 2)))
    {sS sem : SemLoc sig} (hsS : sS = csem (.send (false, d)) (par (s + 1))) (hsem' : sem = csem (.recv (false, d)) (par (s + 2)))
    {hsc : dst.view.ref.isScScratch = false} {hsrc : src.view.WordExact} {hdst : dst.view.WordExact}
    {hsem : DmaTarget.Typed .vmem sem (.remote (Dev.tc n : Thread nD τ) dst sS hsc)} {l : List P1}
    {Q : α → sProp 𝕄} {kk : PUnit → Prog (TpuEff nD τ sig (Elt F) Λ₀ .tc) α} :
    iprop(Ctx D ∗ ReadyX D c d s ∗ Ow c (pEv (nx d c) (.recv (false, d)) (s + 1) :: l))
      ⊢ iprop(((SentX D c d s ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.remote (Dev.tc n : Thread nD τ) dst sS hsc) sem hsrc hdst hsem) kk) Q) := by
  unfold ReadyX SentX
  rw [if_pos hs', show min (s + 2) 15 = s + 2 by omega, show min (s + 1) 14 = s + 1 by omega]
  iintro ⟨#HC, ⟨H, HI, HT, HA, Hd, HR⟩, HO⟩ Hk
  iapply (wp_pass D c n (false, d) hn (s + 1) (by omega) hs hd hsS hsem') $$ [H HI HT HA Hd HR HO]
  · isplitr; · iexact HC
    isplitl [H]; · iexact H
    isplitl [Hd]; · iexact Hd
    isplitl [HO]; · iexact HO
    isplitl [HI]; · iexact HI
    isplitl [HT]; · iexact HT
    isplitl [HR]; · iexact HR
    iexact HA
  iintro ⟨HB, HT, HA, HO⟩
  iapply Hk
  isplitr [HO]
  · isplitl [HB]; · iexact HB
    isplitl [HT]; · iexact HT
    iexact HA
  iexact HO

/-- The accumulators of before read by their transfer. -/
def ReadA (c : Dev nD) (d : Bool) (s : ℕ) : sProp 𝕄 :=
  iprop(Awaits c (.recv (true, d)) (s - 1) ∗ Idle c (.send (true, d)) s ∗ anyR (F := F) c (true, d) s)

theorem wp_sentA (c : Dev nD) (d : Bool) (s : ℕ) (hs : s < 15) (hs' : 1 ≤ s) {sem : DmaSem sig} (hsm : SemLoc.dma sem = csem (.send (true, d)) (par s))
    {sp sp' : Space} {sh sh' : Shape} {e e' : EltTy} {src : Memref sig .tc sp' sh' e'} {dst : Memref sig .tc sp sh e}
    {hsrc : src.view.WordExact} {hdst : dst.view.WordExact} (hk : dst.view.dmaCredit = amtR)
    {l : List P1} (hl : AllAbove 0 l) {Q : α → sProp 𝕄} {kk : PUnit → Prog (TpuEff nD τ sig (Elt F) Λ₀ .tc) α} :
    iprop(Ctx D ∗ FlownA c d s ∗ Ow c l)
      ⊢ iprop(((ReadA c d s ∗ Ow c l) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 sem src dst hsrc hdst) kk) Q) := by
  obtain ⟨s, rfl⟩ : ∃ t, s = t + 1 := ⟨s - 1, by omega⟩
  unfold FlownA ReadA
  rw [if_pos hs', Nat.add_sub_cancel]
  iintro ⟨#HC, ⟨HA, HB⟩, HO⟩ Hk
  iapply (wp_asent D c d s (by omega) hsm hk hl) $$ [HB HO]
  · isplitr; · iexact HC
    isplitl [HB]; · iexact HB
    iexact HO
  iintro ⟨HI, H, HO⟩
  iapply Hk
  isplitr [HO]
  · isplitl [HA]; · iexact HA
    isplitl [HI]; · iexact HI
    iexact H
  iexact HO

theorem wp_cameA (c : Dev nD) (d : Bool) (s : ℕ) (hs : s < 15) (hs' : 1 ≤ s) {sem : DmaSem sig} (hsm : SemLoc.dma sem = csem (.recv (true, d)) (par (s + 1)))
    {sp sp' : Space} {sh sh' : Shape} {e e' : EltTy} {src : Memref sig .tc sp' sh' e'} {dst : Memref sig .tc sp sh e}
    {hsrc : src.view.WordExact} {hdst : dst.view.WordExact} (hk : dst.view.dmaCredit = amtR)
    {l : List P1} (hl : AllAbove (10 * s + 12) l) {Q : α → sProp 𝕄} {kk : PUnit → Prog (TpuEff nD τ sig (Elt F) Λ₀ .tc) α} :
    iprop(Ctx D ∗ ReadA c d s ∗ Ow c l)
      ⊢ iprop(((CameA D c d s ∗ FreeA c d s ∗ Ow c l) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 sem src dst hsrc hdst) kk) Q) := by
  obtain ⟨s, rfl⟩ : ∃ t, s = t + 1 := ⟨s - 1, by omega⟩
  unfold ReadA CameA FreeA accIn
  rw [if_pos hs', if_pos hs', Nat.add_sub_cancel]
  rw [par_congr (show (s + 1 + 1) % 2 = s % 2 by omega)] at hsm
  rw [ownsR_congr c (true, d) (show (s + 1 + 1) % 2 = s % 2 by omega)]
  iintro ⟨#HC, ⟨HA, HI, H⟩, HO⟩ Hk
  iapply (wp_acame D c d s (by omega) hsm hk (by rw [show 10 * s + 22 = 10 * (s + 1) + 12 by omega]; exact hl)) $$ [HA HO]
  · isplitr; · iexact HC
    isplitl [HA]; · iexact HA
    iexact HO
  iintro ⟨HA, HB, HR, HO⟩
  iapply Hk
  isplitl [HI HB]
  · isplitl [HI]; · iexact HI
    iexact HB
  isplitr [HO]
  · isplitl [HA]; · iexact HA
    isplitl [H]; · iexact H
    iexact HR
  iexact HO

theorem wp_giveA (c n : Dev nD) (d : Bool) (hn : n = pv d c) (s : ℕ) (hs : s < 15) (hs' : 1 ≤ s) {sem : Sem sig}
    (hsm : SemLoc.reg sem = csem (.cred (true, d)) (par s)) {l : List P1} {Q : α → sProp 𝕄} {kk : PUnit → Prog (TpuEff nD τ sig (Elt F) Λ₀ .tc) α} :
    iprop(Ctx D ∗ (FreeA c d s ∗ Toks (pv d c) (.cred (true, d)) (s - 1)) ∗ Ow c (pEv (pv d c) (.cred (true, d)) (s - 1) :: l))
      ⊢ iprop((((Awaits c (.recv (true, d)) s ∗ Toks (pv d c) (.cred (true, d)) s) ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) sem 1) kk) Q) := by
  obtain ⟨s, rfl⟩ : ∃ t, s = t + 1 := ⟨s - 1, by omega⟩
  unfold FreeA
  rw [if_pos hs', Nat.add_sub_cancel]
  iintro ⟨#HC, ⟨⟨HA, H, HR⟩, HT⟩, HO⟩ Hk
  iapply (wp_give D c n (true, d) hn s (s + 1) (by omega) rfl hsm) $$ [H HA HT HR HO]
  · isplitr; · iexact HC
    isplitl [H]; · iexact H
    isplitl [HA]; · iexact HA
    isplitl [HT]; · iexact HT
    isplitl [HR]; · iexact HR
    iexact HO
  iintro ⟨HA, HT, HO⟩
  iapply Hk
  isplitr [HO]
  · isplitl [HA]; · iexact HA
    iexact HT
  iexact HO

theorem wp_takeA (c : Dev nD) (d : Bool) (s : ℕ) (hs : s < 15) (hs' : 1 ≤ s) {sem : Sem sig} (hsm : SemLoc.reg sem = csem (.cred (true, d)) (par s))
    {k' : ℕ} (hk : k' = 1) {l : List P1} (hl : AllAbove (10 * s + 13) l) {Q : α → sProp 𝕄} {kk : PUnit → Prog (TpuEff nD τ sig (Elt F) Λ₀ .tc) α} :
    iprop(Ctx D ∗ RoomA c d s ∗ Ow c l)
      ⊢ iprop(((ClearA c d s ∗ Ow c l) -∗ wp frame (wpE (defs₀ (F := F)) 𝒱₀ (c : Thread nD τ) none) Set.univ (kk ⟨⟩) Q) -∗ wp frame (wpE (defs₀ (F := F)) 𝒱₀ (c : Thread nD τ) none) Set.univ (.op (.semWait sem k') kk) Q) := by
  obtain ⟨s, rfl⟩ : ∃ t, s = t + 1 := ⟨s - 1, by omega⟩
  unfold RoomA ClearA
  rw [if_pos hs', Nat.add_sub_cancel]
  iintro ⟨#HC, ⟨HA, -⟩, HO⟩ Hk
  iapply (wp_take D c (true, d) s (by omega) hsm hk (by
    show AllAbove (10 * s + 23) l; rw [show 10 * s + 23 = 10 * (s + 1) + 13 by omega]; exact hl)) $$ [HA HO]
  · isplitr; · iexact HC
    isplitl [HA]; · iexact HA
    iexact HO
  iintro ⟨HA, Hd, HR, HO⟩
  iapply Hk
  isplitr [HO]
  · isplitl [HA]; · iexact HA
    isplitl [Hd]; · iexact Hd
    iexact HR
  iexact HO

theorem wp_passA (c n : Dev nD) (d : Bool) (hn : n = nx d c) (s : ℕ) (hs' : s < 15)
    {src : Memref sig .tc .vmem S512x1024 .f32} (hs : src = slot (true, d) (par (s + 1)))
    {dst : Memref sig (Dev.tc n : Thread nD τ).2.kind .vmem S512x1024 .f32} (hd : dst = slot (true, d) (par s))
    {sS sem : SemLoc sig} (hsS : sS = csem (.send (true, d)) (par (s + 1))) (hsem' : sem = csem (.recv (true, d)) (par s))
    {hsc : dst.view.ref.isScScratch = false} {hsrc : src.view.WordExact} {hdst : dst.view.WordExact}
    {hsem : DmaTarget.Typed .vmem sem (.remote (Dev.tc n : Thread nD τ) dst sS hsc)} {l : List P1}
    {Q : α → sProp 𝕄} {kk : PUnit → Prog (TpuEff nD τ sig (Elt F) Λ₀ .tc) α} :
    iprop(Ctx D ∗ Idle c (.send (true, d)) s ∗ ownsR c (true, d) (s + 1) fullShare (comp D c (cont D (false, d) c (s + 1)) (accIn D c d s) 4)
        ∗ ClearA c d s ∗ Toks (nx d c) (.recv (true, d)) s ∗ Ow c (pEv (nx d c) (.recv (true, d)) s :: l))
      ⊢ iprop(((Busy c (.send (true, d)) s ∗ Toks (nx d c) (.recv (true, d)) (s + 1) ∗ Awaits c (.cred (true, d)) s ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.remote (Dev.tc n : Thread nD τ) dst sS hsc) sem hsrc hdst hsem) kk) Q) := by
  unfold ClearA
  rw [← cont_acc]
  iintro ⟨#HC, HI, H, ⟨HA, Hd, HR⟩, HT, HO⟩ Hk
  iapply (wp_pass D c n (true, d) hn s hs' hs hd hsS hsem') $$ [H HI HT HA Hd HR HO]
  · isplitr; · iexact HC
    isplitl [H]; · iexact H
    isplitl [Hd]; · iexact Hd
    isplitl [HO]; · iexact HO
    isplitl [HI]; · iexact HI
    isplitl [HT]; · iexact HT
    isplitl [HR]; · iexact HR
    iexact HA
  iintro ⟨HB, HT, HA, HO⟩
  iapply Hk
  isplitl [HB]; · iexact HB
  isplitl [HT]; · iexact HT
  isplitl [HA]; · iexact HA
  iexact HO

end Rules

end Cert.Rings
-- ==== Proof.Round.lean ====
/-
  A step of the rings: the blocks of `x` move on, the accumulators come, a quarter of the work is done, the accumulators move on.
-/
module

public import proofs.«01_k».proof.Proof.Step

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]
local notation "𝕄" => MT nD τ sig ℕ (Elt F) ℕ UU ℕ

variable (D : Data F)

/-- What a device holds of the ring of `x` in direction `d` before step `s`. -/
def XRing (c : Dev nD) (d : Bool) (s : ℕ) : sProp 𝕄 :=
  iprop((if s < 15 then ownsR c (false, d) s fullShare.right (cont D (false, d) c s) ∗ Busy c (.send (false, d)) s
      else anyR (F := F) c (false, d) s ∗ anyR (F := F) c (false, d) (s + 1) ∗ Idle c (.send (false, d)) s)
    ∗ Awaits c (.recv (false, d)) s ∗ Awaits c (.cred (false, d)) (min s 14)
    ∗ Toks (nx d c) (.recv (false, d)) (min (s + 1) 15) ∗ Toks (pv d c) (.cred (false, d)) (min s 14))

/-- What a device holds of the accumulators' ring in direction `d` before step `s`. -/
def ARing (c : Dev nD) (d : Bool) (s : ℕ) : sProp 𝕄 :=
  iprop(FlownA (F := F) c d s ∗ RoomA c d s ∗ Toks (nx d c) (.recv (true, d)) s ∗ Toks (pv d c) (.cred (true, d)) (s - 1))

/-- A block of `x` come, the block before it free. -/
def CameX (c : Dev nD) (d : Bool) (s : ℕ) : sProp 𝕄 :=
  iprop(FreeX (F := F) c d s ∗ HeldX D c d s ∗ ownsR c (false, d) (s + 1) fullShare.right (cont D (false, d) c (s + 1)))

theorem XRing_next (c : Dev nD) (d : Bool) (s : ℕ) (hs : s < 15) :
    iprop(GivenX (F := F) c d s ∗ SentX D c d s ∗ ownsR c (false, d) (s + 1) fullShare.right (cont D (false, d) c (s + 1))) ⊢ XRing D c d (s + 1) := by
  unfold GivenX SentX XRing
  by_cases h : s ≤ 13
  · rw [if_pos h, if_pos h, if_pos (by omega)]
    iintro ⟨⟨-, HA, HT⟩, ⟨HB, HN, HC⟩, H⟩
    isplitl [HB H]
    · isplitl [H]; · iexact H
      iexact HB
    isplitl [HA]; · iexact HA
    isplitl [HC]; · iexact HC
    isplitl [HN]; · iexact HN
    iexact HT
  · rw [if_neg h, if_neg h, if_neg (by omega), anyR_congr c (false, d) (show (s + 1 + 1) % 2 = s % 2 by omega)]
    iintro ⟨⟨H0, HA, HT⟩, ⟨⟨H1, HI⟩, HN, HC⟩, H⟩
    isplitl [H0 H1 HI H]
    · isplitl [H1 H]
      · iapply (ownsR_rejoin c (false, d) (s + 1) (cont D (false, d) c (s + 1)) (cont D (false, d) c (s + 1)))
        isplitl [H1]; · iexact H1
        iexact H
      isplitl [H0]; · iexact H0
      iexact HI
    isplitl [HA]; · iexact HA
    isplitl [HC]; · iexact HC
    isplitl [HN]; · iexact HN
    iexact HT

section Rules
variable {α : Type}

/-- The waits for a block of `x` to have left and for the next to have come. -/
theorem wp_comeX (c : Dev nD) (d : Bool) (s : ℕ) (hs : s < 15) {sem sem' : DmaSem sig} (hsm : SemLoc.dma sem = csem (.send (false, d)) (par s))
    (hsm' : SemLoc.dma sem' = csem (.recv (false, d)) (par (s + 1)))
    {sp sp' sp1 sp1' : Space} {sh sh' sh1 sh1' : Shape} {e e' e1 e1' : EltTy} {src : Memref sig .tc sp' sh' e'} {dst : Memref sig .tc sp sh e}
    {src1 : Memref sig .tc sp1' sh1' e1'} {dst1 : Memref sig .tc sp1 sh1 e1}
    {hsrc : src.view.WordExact} {hdst : dst.view.WordExact} {hsrc1 : src1.view.WordExact} {hdst1 : dst1.view.WordExact}
    (hk : dst.view.dmaCredit = amtR) (hk1 : dst1.view.dmaCredit = amtR) {l : List P1} (hl : AllAbove (10 * s + 10) l) (hl0 : AllAbove 0 l)
    {Q : α → sProp 𝕄} {kk : PUnit → Prog (TpuEff nD τ sig (Elt F) Λ₀ .tc) α} :
    iprop(Ctx D ∗ XRing D c d s ∗ Ow c l)
      ⊢ iprop(((CameX D c d s ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) fun _ => .op (.waitDma2 sem' src1 dst1 hsrc1 hdst1) kk) Q) := by
  unfold XRing CameX FreeX HeldX
  rw [if_pos hs]
  iintro ⟨#HC, ⟨⟨H, HB⟩, HA, HCr, HN, HT⟩, HO⟩ Hk
  iapply (wp_xsent D c d s hs (cont D (false, d) c s) hsm hk hl0) $$ [H HB HO]
  · isplitr; · iexact HC
    isplitl [HB]; · iexact HB
    isplitl [H]; · iexact H
    iexact HO
  iintro ⟨HI, H0, HO⟩
  iapply (wp_xcame D c d s hs hsm' hk1 hl) $$ [HA HO]
  · isplitr; · iexact HC
    isplitl [HA]; · iexact HA
    iexact HO
  iintro ⟨HA, Hl, Hr, HR, HO⟩
  iapply Hk
  isplitr [HO]
  · isplitl [H0 HA HT HR]
    · isplitl [H0]; · iexact H0
      isplitl [HA]; · iexact HA
      isplitl [HT]; · iexact HT
      iexact HR
    isplitl [Hl HI HN HCr]
    · isplitl [Hl]; · iexact Hl
      isplitl [HI]; · iexact HI
      isplitl [HN]; · iexact HN
      iexact HCr
    iexact Hr
  iexact HO

end Rules

theorem t1_cond1 : ∀ t : Fin k0_t1_loop.trips, k0_cond1 t = 1#1 ↔ t.val ≤ 13 := by decide +kernel
theorem t1_cond2 : ∀ t : Fin k0_t1_loop.trips, k0_cond2 t = 1#1 ↔ t.val ≤ 13 := by decide +kernel
theorem t1_cond3 : ∀ t : Fin k0_t1_loop.trips, k0_cond3 t = 1#1 ↔ 1 ≤ t.val := by decide +kernel
theorem t1_cond4 : ∀ t : Fin k0_t1_loop.trips, k0_cond4 t = 1#1 ↔ 1 ≤ t.val := by decide +kernel
theorem t1_cond7 : ∀ t : Fin k0_t1_loop.trips, k0_cond7 t = 1#1 ↔ 1 ≤ t.val := by decide +kernel
theorem off15_eq : ∀ t : Fin k0_t1_loop.trips, 1 ≤ t.val → k0_off15 t = ![(par (t.val + 1)).val, 0, 0] := by decide +kernel
theorem off16_eq : ∀ t : Fin k0_t1_loop.trips, 1 ≤ t.val → k0_off16 t = ![(par (t.val + 1)).val] := by decide +kernel

/-- The first part of a step: the block of `x` going right. -/
theorem wp_part4 (c : Dev nD) (v6 : BitVec 32) (t1 : Fin k0_t1_loop.trips) :
    iprop(Ctx D ∗ XRing D c true t1.val ∗ Ow c (dueC c t1.val))
      ⊢ wp frame (wpE (defs₀ (F := F)) 𝒱₀ (c : Thread nD τ) none) Set.univ (k0_part4 (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 v6 0#32 1#32 t1) (fun _ => iprop(CameX D c true t1.val ∗ Ow c (dueC c t1.val))) := by
  have hs := t1_lt t1
  have hl : AllAbove (10 * t1.val + 10) (dueC c t1.val) := by rw [← dueFrom_eq c hs]; exact allAbove_from c (by omega) (by omega)
  have hl0 : AllAbove 0 (dueC c t1.val) := by rw [← dueFrom_eq c hs]; exact allAbove_from c (by omega) (by omega)
  simp only [k0_part4_eq_skeleton]; unfold k0_part4_skel
  simp only [Prog.lift, Prog.bind_op, Prog.bind_ret, Prog.pure_eq_ret, Prog.bind_assoc]
  iintro ⟨#HC, HX, HO⟩
  iapply (wp_comeX D c true t1.val hs (dsem_eq (.send (false, true)) (fun _ => nofun) _ (k0_off3_eq t1)) (dsem_eq (.recv (false, true)) (fun _ => nofun) _ (k0_off6_eq t1))
    (slotAt_amt (false, true) (par t1.val) (k0_off4_eq t1)) (slotAt_amt (false, true) (par (t1.val + 1)) (k0_off5_eq t1)) hl hl0) $$ [HX HO]
  · isplitr; · iexact HC
    isplitl [HX]; · iexact HX
    iexact HO
  iintro H
  rw [wp_ret]
  imodintro
  iexact H

/-- The wait for the credits of the blocks of `x` and the start of the transfer to the right. -/
theorem wp_part1 {α : Type} (c : Dev nD) (v4 v6 arg24 : BitVec 32) (t1 : Fin k0_t1_loop.trips) (h2 : k0_cond2 t1 = 1#1)
    {kk : PUnit → Prog (TpuEff nD τ sig (Elt F) Λ₀ .tc) α} {Q : α → sProp 𝕄} :
    iprop(Ctx D ∗ HeldX D c true t1.val ∗ HeldX D c false t1.val ∗ Ow c (dueX c t1.val))
      ⊢ iprop(((SentX D c true t1.val ∗ ReadyX D c false t1.val ∗ Ow c (pEv (nx false c) (.recv (false, false)) (t1.val + 1) :: dueB c t1.val)) -∗ wp frame (wpE (defs₀ (F := F)) 𝒱₀ (c : Thread nD τ) none) Set.univ (kk ⟨⟩) Q)
        -∗ wp frame (wpE (defs₀ (F := F)) 𝒱₀ (c : Thread nD τ) none) Set.univ (k0_part1 (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v4 v6 t1 arg24 h2 >>= kk) Q) := by
  have hs := t1_lt t1
  have hs' := (t1_cond2 t1).mp h2
  have hl : AllAbove (10 * t1.val + 11) (dueX c t1.val) := above_X c (by omega) hs
  simp only [k0_part1_eq_skeleton]; unfold k0_part1_skel
  simp only [Prog.lift, Prog.bind_op, Prog.bind_ret, Prog.pure_eq_ret, Prog.bind_assoc, semWaitWord]
  iintro ⟨#HC, HT, HF, HO⟩ Hk
  iapply (wp_takeX D c true t1.val hs' (rsem_eq (false, true) (par t1.val) (k0_off8_eq t1)) rfl hl) $$ [HT HO]
  · isplitr; · iexact HC
    isplitl [HT]; · iexact HT
    iexact HO
  iintro ⟨HT, HO⟩
  iapply (wp_takeX D c false t1.val hs' (rsem_eq (false, false) (par t1.val) (k0_off8_eq t1)) rfl hl) $$ [HF HO]
  · isplitr; · iexact HC
    isplitl [HF]; · iexact HF
    iexact HO
  iintro ⟨HF, HO⟩
  unfold dueX
  rw [if_pos hs']
  iapply (wp_passX D c _ true (Fin.ext ((k0_dev7_eq c).trans rfl)) t1.val hs'
    (slotAt_eq (false, true) (par (t1.val + 1)) (k0_off12_eq t1)) (slotAt_eq (false, true) (par (t1.val + 2)) (k0_off11_eq t1))
    (dsem_eq (.send (false, true)) (fun _ => nofun) _ (k0_off9_eq t1)) (dsem_eq (.recv (false, true)) (fun _ => nofun) _ (k0_off10_eq t1))) $$ [HT HO]
  · isplitr; · iexact HC
    isplitl [HT]; · iexact HT
    iexact HO
  iintro ⟨HT, HO⟩
  iapply Hk
  isplitl [HT]; · iexact HT
  isplitl [HF]; · iexact HF
  iexact HO

/-- The waits for the accumulators going right. -/
theorem wp_part2 {α : Type} (c : Dev nD) (v6 arg24 : BitVec 32) (t1 : Fin k0_t1_loop.trips) (h3 : k0_cond3 t1 = 1#1)
    {kk : PUnit → Prog (TpuEff nD τ sig (Elt F) Λ₀ .tc) α} {Q : α → sProp 𝕄} :
    iprop(Ctx D ∗ FlownA c true t1.val ∗ Ow c (dueB c t1.val))
      ⊢ iprop(((CameA D c true t1.val ∗ FreeA c true t1.val ∗ Ow c (dueB c t1.val)) -∗ wp frame (wpE (defs₀ (F := F)) 𝒱₀ (c : Thread nD τ) none) Set.univ (kk ⟨⟩) Q)
        -∗ wp frame (wpE (defs₀ (F := F)) 𝒱₀ (c : Thread nD τ) none) Set.univ (k0_part2 (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 v6 t1 arg24 h3 >>= kk) Q) := by
  have hs := t1_lt t1
  have hs' := (t1_cond3 t1).mp h3
  simp only [k0_part2_eq_skeleton]; unfold k0_part2_skel
  simp only [Prog.lift, Prog.bind_op, Prog.bind_ret, Prog.pure_eq_ret, Prog.bind_assoc]
  iintro ⟨#HC, HT, HO⟩ Hk
  iapply (wp_sentA D c true t1.val hs hs' (dsem_eq (.send (true, true)) (fun _ => nofun) _ (k0_off13_eq t1))
    (slotAt_amt (true, true) (par t1.val) (k0_off14_eq t1)) (above_B c (by omega) hs)) $$ [HT HO]
  · isplitr; · iexact HC
    isplitl [HT]; · iexact HT
    iexact HO
  iintro ⟨HT, HO⟩
  iapply (wp_cameA D c true t1.val hs hs' (dsem_eq (.recv (true, true)) (fun _ => nofun) _ (off16_eq t1 hs'))
    (slotAt_amt (true, true) (par (t1.val + 1)) (off15_eq t1 hs')) (above_B c (le_refl _) hs)) $$ [HT HO]
  · isplitr; · iexact HC
    isplitl [HT]; · iexact HT
    iexact HO
  iintro H
  iapply Hk
  iexact H

end Cert.Rings
-- ==== Proof.Trip.lean ====
/-
  The steps of the rings one after the other.
-/
module

public import proofs.«01_k».proof.Proof.Round

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]
local notation "𝕄" => MT nD τ sig ℕ (Elt F) ℕ UU ℕ

variable (D : Data F)

/-- The accumulators of a step done, to be passed on. -/
def DoneA (c : Dev nD) (d : Bool) (s : ℕ) : sProp 𝕄 :=
  iprop(Idle c (.send (true, d)) s ∗ ownsR c (true, d) (s + 1) fullShare (comp D c (cont D (false, d) c (s + 1)) (accIn D c d s) 4))

set_option maxHeartbeats 4000000 in
/-- The middle of a step. -/
theorem wp_part5 (c : Dev nD) (v4 v6 arg24 v122 : BitVec 32) (t1 : Fin k0_t1_loop.trips) :
    iprop(Ctx D ∗ CameX D c true t1.val ∗ XRing D c false t1.val ∗ ARing c true t1.val ∗ ARing c false t1.val
        ∗ Wgt D c false (4 * t1.val) ∗ Wgt D c true (4 * t1.val) ∗ Ow c (dueC c t1.val))
      ⊢ wp frame (wpE (defs₀ (F := F)) 𝒱₀ (c : Thread nD τ) none) Set.univ (k0_part5 (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v4 v6 t1 arg24 v122)
        (fun _ => iprop(XRing D c true (t1.val + 1) ∗ XRing D c false (t1.val + 1)
          ∗ (DoneA D c true t1.val ∗ RoomA c true t1.val ∗ Toks (nx true c) (.recv (true, true)) t1.val
            ∗ Awaits c (.recv (true, true)) t1.val ∗ Toks (pv true c) (.cred (true, true)) t1.val)
          ∗ (DoneA D c false t1.val ∗ RoomA c false t1.val ∗ Toks (nx false c) (.recv (true, false)) t1.val
            ∗ Awaits c (.recv (true, false)) t1.val ∗ Toks (pv false c) (.cred (true, false)) t1.val)
          ∗ Wgt D c false (4 * (t1.val + 1)) ∗ Wgt D c true (4 * (t1.val + 1)) ∗ Ow c (dueA c t1.val))) := by
  have hs := t1_lt t1
  have hl : AllAbove (10 * t1.val + 10) (dueC c t1.val) := by rw [← dueFrom_eq c hs]; exact allAbove_from c (by omega) (by omega)
  have hl0 : AllAbove 0 (dueC c t1.val) := by rw [← dueFrom_eq c hs]; exact allAbove_from c (by omega) (by omega)
  simp only [k0_part5_eq_skeleton]; unfold k0_part5_skel
  simp only [Prog.lift, Prog.bind_op, Prog.bind_ret, Prog.pure_eq_ret, Prog.bind_assoc, semSignalWord]
  unfold CameX ARing
  iintro ⟨#HC, ⟨HfT, HhT, HrT⟩, HX, ⟨HaT, HmT, HnT, HpT⟩, ⟨HaF, HmF, HnF, HpF⟩, HW1, HW2, HO⟩
  -- the block of `x` going left
  iapply (wp_comeX D c false t1.val hs (dsem_eq (.send (false, false)) (fun _ => nofun) _ (k0_off3_eq t1)) (dsem_eq (.recv (false, false)) (fun _ => nofun) _ (k0_off6_eq t1))
    (slotAt_amt (false, false) (par t1.val) (k0_off4_eq t1)) (slotAt_amt (false, false) (par (t1.val + 1)) (k0_off5_eq t1)) hl hl0) $$ [HX HO]
  · isplitr; · iexact HC
    isplitl [HX]; · iexact HX
    iexact HO
  unfold CameX
  iintro ⟨⟨HfF, HhF, HrF⟩, HO⟩
  -- their credits
  iapply (wp_guard c (R := iprop(Ctx D ∗ FreeX c true t1.val ∗ FreeX c false t1.val ∗ Ow c (dueC c t1.val)))
    (R' := iprop(GivenX c true t1.val ∗ GivenX c false t1.val ∗ Ow c (dueX c t1.val))) ?_ ?_) $$ [HfT HfF HO]
  · intro h1
    have h1' := (t1_cond1 t1).mp h1
    unfold dueC
    rw [if_pos h1']
    iintro ⟨#HC, HT, HF, HO⟩ Hk
    iapply (wp_giveX D c _ true (Fin.ext ((k0_dev5_eq c).trans rfl)) t1.val h1' (rsem_eq (false, true) (par t1.val) (k0_off7_eq t1))) $$ [HT HO]
    · isplitr; · iexact HC
      isplitl [HT]; · iexact HT
      iexact HO
    iintro ⟨HT, HO⟩
    iapply (wp_giveX D c _ false (Fin.ext ((k0_dev6_eq c).trans rfl)) t1.val h1' (rsem_eq (false, false) (par t1.val) (k0_off7_eq t1))) $$ [HF HO]
    · isplitr; · iexact HC
      isplitl [HF]; · iexact HF
      iexact HO
    iintro ⟨HF, HO⟩
    iapply Hk
    isplitl [HT]; · iexact HT
    isplitl [HF]; · iexact HF
    iexact HO
  · intro h1
    have h1' : ¬ t1.val ≤ 13 := fun h => h1 ((t1_cond1 t1).mpr (h))
    unfold dueC
    rw [if_neg h1']
    iintro ⟨#HC, HT, HF, HO⟩
    isplitl [HT]; · iapply (FreeX_skip c true h1'); iexact HT
    isplitl [HF]; · iapply (FreeX_skip c false h1'); iexact HF
    iexact HO
  · isplitr; · iexact HC
    isplitl [HfT]; · iexact HfT
    isplitl [HfF]; · iexact HfF
    iexact HO
  iintro ⟨HfT, HfF, HO⟩
  -- their transfers on
  iapply (wp_guard c (R := iprop(Ctx D ∗ HeldX D c true t1.val ∗ HeldX D c false t1.val ∗ Ow c (dueX c t1.val)))
    (R' := iprop(SentX D c true t1.val ∗ SentX D c false t1.val ∗ Ow c (dueB c t1.val))) ?_ ?_) $$ [HhT HhF HO]
  · intro h2
    have h2' := (t1_cond2 t1).mp h2
    iintro ⟨#HC, HT, HF, HO⟩ Hk
    iapply (wp_part1 D c v4 v6 arg24 t1 h2) $$ [HT HF HO]
    · isplitr; · iexact HC
      isplitl [HT]; · iexact HT
      isplitl [HF]; · iexact HF
      iexact HO
    iintro ⟨HT, HF, HO⟩
    iapply (wp_passX D c _ false (Fin.ext ((k0_dev8_eq c).trans rfl)) t1.val h2'
      (slotAt_eq (false, false) (par (t1.val + 1)) (k0_off12_eq t1)) (slotAt_eq (false, false) (par (t1.val + 2)) (k0_off11_eq t1))
      (dsem_eq (.send (false, false)) (fun _ => nofun) _ (k0_off9_eq t1)) (dsem_eq (.recv (false, false)) (fun _ => nofun) _ (k0_off10_eq t1))) $$ [HF HO]
    · isplitr; · iexact HC
      isplitl [HF]; · iexact HF
      iexact HO
    iintro ⟨HF, HO⟩
    iapply Hk
    isplitl [HT]; · iexact HT
    isplitl [HF]; · iexact HF
    iexact HO
  · intro h2
    have h2' : ¬ t1.val ≤ 13 := fun h => h2 ((t1_cond2 t1).mpr (h))
    unfold dueX
    rw [if_neg h2']
    iintro ⟨#HC, HT, HF, HO⟩
    isplitl [HT]; · iapply (HeldX_skip D c true h2'); iexact HT
    isplitl [HF]; · iapply (HeldX_skip D c false h2'); iexact HF
    iexact HO
  · isplitr; · iexact HC
    isplitl [HhT]; · iexact HhT
    isplitl [HhF]; · iexact HhF
    iexact HO
  iintro ⟨HhT, HhF, HO⟩
  -- the accumulators
  iapply (wp_guard c (R := iprop(Ctx D ∗ FlownA c true t1.val ∗ FlownA c false t1.val ∗ Ow c (dueB c t1.val)))
    (R' := iprop((CameA D c true t1.val ∗ FreeA c true t1.val) ∗ (CameA D c false t1.val ∗ FreeA c false t1.val) ∗ Ow c (dueB c t1.val))) ?_ ?_) $$ [HaT HaF HO]
  · intro h3
    have h3' := (t1_cond3 t1).mp h3
    iintro ⟨#HC, HT, HF, HO⟩ Hk
    iapply (wp_part2 D c v6 arg24 t1 h3) $$ [HT HO]
    · isplitr; · iexact HC
      isplitl [HT]; · iexact HT
      iexact HO
    iintro ⟨HT, HfT, HO⟩
    iapply (wp_sentA D c false t1.val hs (h3') (dsem_eq (.send (true, false)) (fun _ => nofun) _ (k0_off13_eq t1))
      (slotAt_amt (true, false) (par t1.val) (k0_off14_eq t1)) (above_B c (by omega) hs)) $$ [HF HO]
    · isplitr; · iexact HC
      isplitl [HF]; · iexact HF
      iexact HO
    iintro ⟨HF, HO⟩
    iapply (wp_cameA D c false t1.val hs (h3') (dsem_eq (.recv (true, false)) (fun _ => nofun) _ (off16_eq t1 h3'))
      (slotAt_amt (true, false) (par (t1.val + 1)) (off15_eq t1 h3')) (above_B c (le_refl _) hs)) $$ [HF HO]
    · isplitr; · iexact HC
      isplitl [HF]; · iexact HF
      iexact HO
    iintro ⟨HF, HfF, HO⟩
    iapply Hk
    isplitl [HT HfT]
    · isplitl [HT]; · iexact HT
      iexact HfT
    isplitl [HF HfF]
    · isplitl [HF]; · iexact HF
      iexact HfF
    iexact HO
  · intro h3
    have h3' : ¬ 1 ≤ t1.val := fun h => h3 ((t1_cond3 t1).mpr (h))
    iintro ⟨#HC, HT, HF, HO⟩
    isplitl [HT]; · iapply (FlownA_skip D c true h3'); iexact HT
    isplitl [HF]; · iapply (FlownA_skip D c false h3'); iexact HF
    iexact HO
  · isplitr; · iexact HC
    isplitl [HaT]; · iexact HaT
    isplitl [HaF]; · iexact HaF
    iexact HO
  iintro ⟨⟨HaT, HgT⟩, ⟨HaF, HgF⟩, HO⟩
  -- their credits
  iapply (wp_guard c (R := iprop(Ctx D ∗ (FreeA c true t1.val ∗ Toks (pv true c) (.cred (true, true)) (t1.val - 1)) ∗ (FreeA c false t1.val ∗ Toks (pv false c) (.cred (true, false)) (t1.val - 1))
      ∗ Ow c (dueB c t1.val)))
    (R' := iprop((Awaits c (.recv (true, true)) t1.val ∗ Toks (pv true c) (.cred (true, true)) t1.val) ∗ (Awaits c (.recv (true, false)) t1.val ∗ Toks (pv false c) (.cred (true, false)) t1.val)
      ∗ Ow c (dueA c t1.val))) ?_ ?_) $$ [HgT HgF HpT HpF HO]
  · intro h4
    have h4' : 1 ≤ t1.val := (t1_cond4 t1).mp h4
    unfold dueB
    rw [if_pos h4']
    iintro ⟨#HC, HT, HF, HO⟩ Hk
    iapply (wp_giveA D c _ true (Fin.ext ((k0_dev9_eq c).trans rfl)) t1.val hs h4' (rsem_eq (true, true) (par t1.val) (k0_off17_eq t1))) $$ [HT HO]
    · isplitr; · iexact HC
      isplitl [HT]; · iexact HT
      iexact HO
    iintro ⟨HT, HO⟩
    iapply (wp_giveA D c _ false (Fin.ext ((k0_dev10_eq c).trans rfl)) t1.val hs h4' (rsem_eq (true, false) (par t1.val) (k0_off17_eq t1))) $$ [HF HO]
    · isplitr; · iexact HC
      isplitl [HF]; · iexact HF
      iexact HO
    iintro ⟨HF, HO⟩
    iapply Hk
    isplitl [HT]; · iexact HT
    isplitl [HF]; · iexact HF
    iexact HO
  · intro h4
    have h4' : ¬ 1 ≤ t1.val := fun h => h4 ((t1_cond4 t1).mpr (h))
    unfold dueB
    rw [if_neg h4']
    iintro ⟨#HC, HT, HF, HO⟩
    isplitl [HT]; · iapply (FreeA_skip c true h4'); iexact HT
    isplitl [HF]; · iapply (FreeA_skip c false h4'); iexact HF
    iexact HO
  · isplitr; · iexact HC
    isplitl [HgT HpT]
    · isplitl [HgT]; · iexact HgT
      iexact HpT
    isplitl [HgF HpF]
    · isplitl [HgF]; · iexact HgF
      iexact HpF
    iexact HO
  iintro ⟨⟨HgT, HpT⟩, ⟨HgF, HpF⟩, HO⟩
  -- the chunks
  unfold CameA
  icases HaT with ⟨HiT, HaT⟩
  icases HaF with ⟨HiF, HaF⟩
  iapply (wp_loop2 D c (dueA c t1.val) (above_A c (by omega) hs) v4 v6 arg24 v122 (fun d => cont D (false, d) c (t1.val + 1)) (fun d => accIn D c d t1.val) t1)
    $$ [HW1 HW2 HrT HrF HaT HaF HO]
  · unfold Inv2
    isplitr; · iexact HC
    isplitl [HW1]; · iexact HW1
    isplitl [HW2]; · iexact HW2
    isplitl [HrT]; · iexact HrT
    isplitl [HrF]; · iexact HrF
    isplitl [HaT]; · iexact HaT
    isplitl [HaF]; · iexact HaF
    iexact HO
  unfold Inv2
  iintro ⟨-, HW1, HW2, HrT, HrF, HaT, HaF, HO⟩
  rw [wp_ret]
  imodintro
  unfold DoneA
  isplitl [HfT HhT HrT]
  · iapply (XRing_next D c true t1.val hs)
    isplitl [HfT]; · iexact HfT
    isplitl [HhT]; · iexact HhT
    iexact HrT
  isplitl [HfF HhF HrF]
  · iapply (XRing_next D c false t1.val hs)
    isplitl [HfF]; · iexact HfF
    isplitl [HhF]; · iexact HhF
    iexact HrF
  isplitl [HiT HaT HmT HnT HgT HpT]
  · isplitl [HiT HaT]
    · isplitl [HiT]; · iexact HiT
      iexact HaT
    isplitl [HmT]; · iexact HmT
    isplitl [HnT]; · iexact HnT
    isplitl [HgT]; · iexact HgT
    iexact HpT
  isplitl [HiF HaF HmF HnF HgF HpF]
  · isplitl [HiF HaF]
    · isplitl [HiF]; · iexact HiF
      iexact HaF
    isplitl [HmF]; · iexact HmF
    isplitl [HnF]; · iexact HnF
    isplitl [HgF]; · iexact HgF
    iexact HpF
  isplitl [HW1]; · iexact HW1
  isplitl [HW2]; · iexact HW2
  iexact HO

end Cert.Rings
-- ==== Proof.Around.lean ====
/-
  The loop over the steps of the rings.
-/
module

public import proofs.«01_k».proof.Proof.Trip

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]
local notation "𝕄" => MT nD τ sig ℕ (Elt F) ℕ UU ℕ

variable (D : Data F)

/-- What a device holds before step `s`. -/
def Inv1 (c : Dev nD) (s : ℕ) : sProp 𝕄 :=
  iprop(Ctx D ∗ XRing D c true s ∗ XRing D c false s ∗ ARing (F := F) c true s ∗ ARing (F := F) c false s
    ∗ Wgt D c false (4 * s) ∗ Wgt D c true (4 * s) ∗ Ow c (dueFrom c s))

/-- The accumulators done and the room for them across, with the credits to come and to give. -/
def OutA (c : Dev nD) (d : Bool) (s : ℕ) : sProp 𝕄 :=
  iprop(DoneA D c d s ∗ ClearA (F := F) c d s ∗ Toks (nx d c) (.recv (true, d)) s ∗ Awaits c (.recv (true, d)) s ∗ Toks (pv d c) (.cred (true, d)) s)

section Rules
variable {α : Type}

/-- The accumulators passed on. -/
theorem wp_outA (c n : Dev nD) (d : Bool) (hn : n = nx d c) (s : ℕ) (hs' : s < 15)
    {src : Memref sig .tc .vmem S512x1024 .f32} (hs : src = slot (true, d) (par (s + 1)))
    {dst : Memref sig (Dev.tc n : Thread nD τ).2.kind .vmem S512x1024 .f32} (hd : dst = slot (true, d) (par s))
    {sS sem : SemLoc sig} (hsS : sS = csem (.send (true, d)) (par (s + 1))) (hsem' : sem = csem (.recv (true, d)) (par s))
    {hsc : dst.view.ref.isScScratch = false} {hsrc : src.view.WordExact} {hdst : dst.view.WordExact}
    {hsem : DmaTarget.Typed .vmem sem (.remote (Dev.tc n : Thread nD τ) dst sS hsc)} {l : List P1}
    {Q : α → sProp 𝕄} {kk : PUnit → Prog (TpuEff nD τ sig (Elt F) Λ₀ .tc) α} :
    iprop(Ctx D ∗ OutA D c d s ∗ Ow c (pEv (nx d c) (.recv (true, d)) s :: l))
      ⊢ iprop(((ARing c d (s + 1) ∗ Ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.remote (Dev.tc n : Thread nD τ) dst sS hsc) sem hsrc hdst hsem) kk) Q) := by
  unfold OutA DoneA ARing FlownA RoomA
  rw [if_pos (by omega), if_pos (by omega), Nat.add_sub_cancel]
  iintro ⟨#HC, ⟨⟨HI, H⟩, HR, HN, HA, HT⟩, HO⟩ Hk
  iapply (wp_passA D c n d hn s hs' hs hd hsS hsem') $$ [HI H HR HN HO]
  · isplitr; · iexact HC
    isplitl [HI]; · iexact HI
    isplitl [H]; · iexact H
    isplitl [HR]; · iexact HR
    isplitl [HN]; · iexact HN
    iexact HO
  iintro ⟨HB, HN, HCr, HO⟩
  iapply Hk
  isplitr [HO]
  · isplitl [HA HB]
    · isplitl [HA]; · iexact HA
      iexact HB
    isplitl [HCr]
    · isplitl [HCr]; · iexact HCr
      iempintro
    isplitl [HN]; · iexact HN
    iexact HT
  iexact HO

end Rules

set_option maxHeartbeats 1000000 in
/-- A step but for the last start. -/
theorem wp_part6 (c : Dev nD) (v4 v6 : BitVec 32) (t1 : Fin k0_t1_loop.trips) :
    Inv1 D c t1.val
      ⊢ wp frame (wpE (defs₀ (F := F)) 𝒱₀ (c : Thread nD τ) none) Set.univ (k0_part6 (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v4 v6 0#32 1#32 t1)
        (fun _ => iprop(XRing D c true (t1.val + 1) ∗ XRing D c false (t1.val + 1) ∗ ARing c true (t1.val + 1) ∗ OutA D c false t1.val
          ∗ Wgt D c false (4 * (t1.val + 1)) ∗ Wgt D c true (4 * (t1.val + 1))
          ∗ Ow c (pEv (nx false c) (.recv (true, false)) t1.val :: dueFrom c (t1.val + 1)))) := by
  have hs := t1_lt t1
  simp only [k0_part6_eq_skeleton]; unfold k0_part6_skel Inv1
  simp only [Prog.lift, Prog.bind_op, Prog.bind_ret, Prog.pure_eq_ret, Prog.bind_assoc, semWaitWord]
  rw [dueFrom_eq c hs]
  iintro ⟨#HC, HxT, HxF, HaT, HaF, HW1, HW2, HO⟩
  iapply (wp_seq c (wp_part4 D c v6 t1)) $$ [HxT HO]
  · isplitr; · iexact HC
    isplitl [HxT]; · iexact HxT
    iexact HO
  iintro %r ⟨HxT, HO⟩
  iapply (wp_seq c (wp_part5 D c v4 v6 r.1 r.2 t1)) $$ [HxT HxF HaT HaF HW1 HW2 HO]
  · isplitr; · iexact HC
    isplitl [HxT]; · iexact HxT
    isplitl [HxF]; · iexact HxF
    isplitl [HaT]; · iexact HaT
    isplitl [HaF]; · iexact HaF
    isplitl [HW1]; · iexact HW1
    isplitl [HW2]; · iexact HW2
    iexact HO
  iintro %u ⟨HxT, HxF, ⟨HdT, HmT, HnT, HgT, HpT⟩, ⟨HdF, HmF, HnF, HgF, HpF⟩, HW1, HW2, HO⟩
  iapply (wp_guard c (R := iprop(Ctx D ∗ RoomA c true t1.val ∗ RoomA c false t1.val ∗ Ow c (dueA c t1.val)))
    (R' := iprop(ClearA c true t1.val ∗ ClearA c false t1.val ∗ Ow c (dueA c t1.val))) ?_ ?_) $$ [HmT HmF HO]
  · intro h7
    have h7' := (t1_cond7 t1).mp h7
    have hl : AllAbove (10 * t1.val + 13) (dueA c t1.val) := above_A c (by omega) hs
    iintro ⟨#HC, HT, HF, HO⟩ Hk
    iapply (wp_takeA D c true t1.val hs h7' (rsem_eq (true, true) (par t1.val) (k0_off28_eq t1)) rfl hl) $$ [HT HO]
    · isplitr; · iexact HC
      isplitl [HT]; · iexact HT
      iexact HO
    iintro ⟨HT, HO⟩
    iapply (wp_takeA D c false t1.val hs h7' (rsem_eq (true, false) (par t1.val) (k0_off28_eq t1)) rfl hl) $$ [HF HO]
    · isplitr; · iexact HC
      isplitl [HF]; · iexact HF
      iexact HO
    iintro ⟨HF, HO⟩
    iapply Hk
    isplitl [HT]; · iexact HT
    isplitl [HF]; · iexact HF
    iexact HO
  · intro h7
    have h7' : ¬ 1 ≤ t1.val := fun h => h7 ((t1_cond7 t1).mpr h)
    iintro ⟨#HC, HT, HF, HO⟩
    isplitl [HT]
    · iapply (RoomA_skip D c true h7')
      isplitr; · iexact HC
      iexact HT
    isplitl [HF]
    · iapply (RoomA_skip D c false h7')
      isplitr; · iexact HC
      iexact HF
    iexact HO
  · isplitr; · iexact HC
    isplitl [HmT]; · iexact HmT
    isplitl [HmF]; · iexact HmF
    iexact HO
  iintro ⟨HmT, HmF, HO⟩
  unfold dueA
  iapply (wp_outA D c _ true (Fin.ext ((k0_dev11_eq c).trans rfl)) t1.val hs
    (slotAt_eq (true, true) (par (t1.val + 1)) (k0_off5_eq t1)) (slotAt_eq (true, true) (par t1.val) (k0_off4_eq t1))
    (dsem_eq (.send (true, true)) (fun _ => nofun) _ (k0_off6_eq t1)) (dsem_eq (.recv (true, true)) (fun _ => nofun) _ (k0_off3_eq t1))) $$ [HdT HmT HnT HgT HpT HO]
  · isplitr; · iexact HC
    isplitr [HO]
    · unfold OutA
      isplitl [HdT]; · iexact HdT
      isplitl [HmT]; · iexact HmT
      isplitl [HnT]; · iexact HnT
      isplitl [HgT]; · iexact HgT
      iexact HpT
    iexact HO
  iintro ⟨HaT, HO⟩
  rw [wp_ret]
  imodintro
  isplitl [HxT]; · iexact HxT
  isplitl [HxF]; · iexact HxF
  isplitl [HaT]; · iexact HaT
  isplitl [HdF HmF HnF HgF HpF]
  · unfold OutA
    isplitl [HdF]; · iexact HdF
    isplitl [HmF]; · iexact HmF
    isplitl [HnF]; · iexact HnF
    isplitl [HgF]; · iexact HgF
    iexact HpF
  isplitl [HW1]; · iexact HW1
  isplitl [HW2]; · iexact HW2
  iexact HO

/-- A step. -/
theorem wp_trip1 (c : Dev nD) (v4 v6 : BitVec 32) (t1 : Fin k0_t1_loop.trips) (acc : Unit) :
    Inv1 D c t1.val
      ⊢ wp frame (wpE (defs₀ (F := F)) 𝒱₀ (c : Thread nD τ) none) Set.univ (k0_t1_body (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v4 v6 t1 acc) (fun _ => Inv1 D c (t1.val + 1)) := by
  have hs := t1_lt t1
  unfold k0_t1_body
  simp only [Prog.lift, Prog.bind_op, Prog.bind_ret, Prog.pure_eq_ret, Prog.bind_assoc]
  iintro H
  ihave H := (show Inv1 D c t1.val ⊢ iprop(Ctx D ∗ Inv1 D c t1.val) by
    unfold Inv1
    iintro ⟨#HC, H⟩
    isplitr; · iexact HC
    isplitr; · iexact HC
    iexact H) $$ H
  icases H with ⟨#HC, H⟩
  iapply (wp_seq c (wp_part6 D c v4 v6 t1)) $$ [H]
  · iexact H
  iintro %u ⟨HxT, HxF, HaT, HaF, HW1, HW2, HO⟩
  iapply (wp_outA D c _ false (Fin.ext ((k0_dev12_eq c).trans rfl)) t1.val hs
    (slotAt_eq (true, false) (par (t1.val + 1)) (k0_off5_eq t1)) (slotAt_eq (true, false) (par t1.val) (k0_off4_eq t1))
    (dsem_eq (.send (true, false)) (fun _ => nofun) _ (k0_off6_eq t1)) (dsem_eq (.recv (true, false)) (fun _ => nofun) _ (k0_off3_eq t1))) $$ [HaF HO]
  · isplitr; · iexact HC
    isplitl [HaF]; · iexact HaF
    iexact HO
  iintro ⟨HaF, HO⟩
  rw [wp_ret]
  imodintro
  unfold Inv1
  isplitr; · iexact HC
  isplitl [HxT]; · iexact HxT
  isplitl [HxF]; · iexact HxF
  isplitl [HaT]; · iexact HaT
  isplitl [HaF]; · iexact HaF
  isplitl [HW1]; · iexact HW1
  isplitl [HW2]; · iexact HW2
  iexact HO

/-- The loop over the steps. -/
theorem wp_loop1 {α : Type} (c : Dev nD) (v4 v6 : BitVec 32) {kk : PUnit → Prog (TpuEff nD τ sig (Elt F) Λ₀ .tc) α} {Q : α → sProp 𝕄} :
    Inv1 D c 0 ⊢ iprop((Inv1 D c 15 -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for k0_t1_loop k0_t1_ok ⟨⟩ (k0_t1_body (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v4 v6) >>= kk) Q) := by
  have e : Scf.trips k0_t1_loop.lb k0_t1_loop.ub k0_t1_loop.st = 15 := by decide +kernel
  iintro H Hk
  iapply (Scf.wp_for_bind frame (wpE (defs₀ (F := F)) 𝒱₀ (c : Thread nD τ) none) Set.univ k0_t1_loop.lb k0_t1_loop.ub k0_t1_loop.st k0_t1_ok ⟨⟩ _
    (fun t _ => Inv1 D c t) (fun t1 acc => wp_trip1 D c v4 v6 t1 acc)) $$ [H]
  · iexact H
  rw [e]
  iintro %a H
  iapply Hk
  iexact H

end Cert.Rings
-- ==== Proof.Halves.lean ====
/-
  The two halves of a device's rows: the upper goes round to the right, the lower to the left.
-/
module

public import proofs.«01_k».proof.Proof.Around

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]
local notation "𝕄" => MT nD τ sig ℕ (Elt F) ℕ UU ℕ

set_option backward.proofsInPublic true in
/-- Where a half begins. -/
def hoff : Bool → Fin 2 → ℕ
  | true => ![0, 0]
  | false => ![512, 0]

theorem hoff_inb (d : Bool) : ∀ a, hoff d a + S512x1024.size a ≤ S1024x1024.size a := by cases d <;> decide

set_option backward.proofsInPublic true in
/-- The rows of a half. -/
abbrev hrect (d : Bool) : Rect S1024x1024 := Rect.unit (s := S1024x1024) (hoff d) S512x1024.size (hoff_inb d)

set_option backward.proofsInPublic true in
/-- A half of an array of a device's rows. -/
def halfOf (d : Bool) (Y : Vec F S1024x1024 .f32) : Vec F S512x1024 .f32 := fun i => Y ((hrect d).emb i)

theorem halfOf_apply (d : Bool) (Y : Vec F S1024x1024 .f32) (i : S512x1024.Idx) : halfOf d Y i = Y ((hrect d).emb i) := by
  unfold halfOf
  with_reducible rfl

theorem hrect_cases (j : S1024x1024.Idx) : j ∈ (hrect true).set ∨ j ∈ (hrect false).set := by
  rw [Rect.mem_set_unit, Rect.mem_set_unit]
  have h0 : (j 0).val < 1024 := (j 0).isLt
  have h1 : (j 1).val < 1024 := (j 1).isLt
  by_cases h : (j 0).val < 512
  · left
    intro a
    match a with
    | 0 => exact ⟨Nat.zero_le _, by show (j 0).val < 0 + 512; omega⟩
    | 1 => exact ⟨Nat.zero_le _, by show (j 1).val < 0 + 1024; omega⟩
  · right
    intro a
    match a with
    | 0 => exact ⟨by show 512 ≤ (j 0).val; omega, by show (j 0).val < 512 + 512; omega⟩
    | 1 => exact ⟨Nat.zero_le _, by show (j 1).val < 0 + 1024; omega⟩

theorem hrect_emb_not_mem {d d' : Bool} (h : d' ≠ d) (i : S512x1024.Idx) : (hrect d').emb i ∉ (hrect d).set := by
  rw [Rect.mem_set_unit]
  intro H
  have hi : (i 0).val < 512 := (i 0).isLt
  have h0 := H 0
  cases d <;> cases d'
  · exact h rfl
  · have : 512 ≤ ((hrect true).emb i 0).val := h0.1
    have e : ((hrect true).emb i 0).val = 0 + 1 * (i 0).val := rfl
    omega
  · have : ((hrect false).emb i 0).val < 0 + 512 := h0.2
    have e : ((hrect false).emb i 0).val = 512 + 1 * (i 0).val := rfl
    omega
  · exact h rfl

theorem overlay_at (d : Bool) (Y : Vec F S1024x1024 .f32) (w : Vec F S512x1024 .f32) (i : S512x1024.Idx) :
    (hrect d).overlay Y w ((hrect d).emb i) = w i := by
  exact Rect.overlay_emb _ _ _ _

theorem overlay_off {d d' : Bool} (h : d' ≠ d) (Y : Vec F S1024x1024 .f32) (w : Vec F S512x1024 .f32) (i : S512x1024.Idx) :
    (hrect d).overlay Y w ((hrect d').emb i) = Y ((hrect d').emb i) := by
  exact Rect.overlay_of_not_mem _ _ _ (hrect_emb_not_mem h i)

theorem halfOf_overlay (d : Bool) (Y : Vec F S1024x1024 .f32) (w : Vec F S512x1024 .f32) : halfOf d ((hrect d).overlay Y w) = w := by
  funext i
  exact (halfOf_apply d _ i).trans (overlay_at d Y w i)

theorem halfOf_overlay_ne {d d' : Bool} (h : d' ≠ d) (Y : Vec F S1024x1024 .f32) (w : Vec F S512x1024 .f32) :
    halfOf d' ((hrect d).overlay Y w) = halfOf d' Y := by
  funext i
  exact ((halfOf_apply d' _ i).trans (overlay_off h Y w i)).trans (halfOf_apply d' Y i).symm

/-- Arrays with the same halves are the same. -/
theorem halves_ext {Y Y' : Vec F S1024x1024 .f32} (h : ∀ d, halfOf d Y = halfOf d Y') : Y = Y' := by
  funext j
  rcases hrect_cases j with hj | hj
  · obtain ⟨i, rfl⟩ := (hrect true).toLoadRect.exists_idx_of_mem hj
    exact congrFun (h true) i
  · obtain ⟨i, rfl⟩ := (hrect false).toLoadRect.exists_idx_of_mem hj
    exact congrFun (h false) i

/-- The array with given halves. -/
def glue (Z : Bool → Vec F S512x1024 .f32) : Vec F S1024x1024 .f32 :=
  (hrect false).overlay ((hrect true).overlay (broadcast S1024x1024 (Scalar.ofBits .f32 0x00000000#32 : F .f32)) (Z true)) (Z false)

theorem halfOf_glue (Z : Bool → Vec F S512x1024 .f32) (d : Bool) : halfOf d (glue Z) = Z d := by
  cases d
  · exact halfOf_overlay false _ _
  · exact (halfOf_overlay_ne (by decide) _ _).trans (halfOf_overlay true _ _)

/-- Device `c` owns its block of the result, with halves `Z`. -/
def ownsOut (c : Dev nD) (Z : Bool → Vec F S512x1024 .f32) : sProp 𝕄 :=
  iprop(∃ Y : Vec F S1024x1024 .f32, ⌜∀ d, halfOf d Y = Z d⌝ ∗ owns (c : Thread nD τ) (Memref.whole cc0_stg1_0) fullShare Y)

theorem ownsOut_glue (c : Dev nD) (Z : Bool → Vec F S512x1024 .f32) : ownsOut c Z ⊢ owns (c : Thread nD τ) (Memref.whole cc0_stg1_0) fullShare (glue Z) := by
  unfold ownsOut
  iintro ⟨%Y, %hY, H⟩
  rw [show glue Z = Y from halves_ext (F := F) fun d => (halfOf_glue Z d).trans (hY d).symm]
  iexact H

section Rules
variable {α : Type}

/-- A load of a half of the rows of `x`. -/
theorem wp_loadX (c : Dev nD) (d : Bool) {q : PosShare TreeShare} {X : Vec F S1024x1024 .f32} {off : Fin 2 → ℕ} (e : off = hoff d)
    {h : ∀ a, off a + S512x1024.size a ≤ S1024x1024.size a} {M : Memref sig .tc .vmem S1024x1024 .f32}
    {hl : M.view.LoadsAt (Rect.unit (s := S1024x1024) off S512x1024.size h).toLoadRect}
    {kk : Vec F S512x1024 .f32 → Prog (TpuEff nD τ sig (Elt F) Λ₀ .tc) α} {Q : α → sProp 𝕄} :
    (owns (c : Thread nD τ) M q X : sProp 𝕄)
      ⊢ iprop((owns (c : Thread nD τ) M q X -∗ wp frame (wpE (defs₀ (F := F)) 𝒱₀ (c : Thread nD τ) none) Set.univ (kk (halfOf d X)) Q)
          -∗ wp frame (wpE (defs₀ (F := F)) 𝒱₀ (c : Thread nD τ) none) Set.univ (.op (.load M (Rect.unit (s := S1024x1024) off S512x1024.size h).toLoadRect hl) kk) Q) := by
  subst e
  exact wp_load_part (F := F) c (M := M) (r := hrect d) (q := q) (X := X) (hl := hl) (kk := kk) (Q := Q)

/-- A load of a half of the result. -/
theorem wp_loadO (c : Dev nD) (d : Bool) {Z : Bool → Vec F S512x1024 .f32} {off : Fin 2 → ℕ} (e : off = hoff d)
    {h : ∀ a, off a + S512x1024.size a ≤ S1024x1024.size a}
    {hl : (Memref.whole cc0_stg1_0 : Memref sig .tc .vmem S1024x1024 .f32).view.LoadsAt (Rect.unit (s := S1024x1024) off S512x1024.size h).toLoadRect}
    {kk : Vec F S512x1024 .f32 → Prog (TpuEff nD τ sig (Elt F) Λ₀ .tc) α} {Q : α → sProp 𝕄} :
    ownsOut c Z
      ⊢ iprop((ownsOut c Z -∗ wp frame (wpE (defs₀ (F := F)) 𝒱₀ (c : Thread nD τ) none) Set.univ (kk (Z d)) Q)
          -∗ wp frame (wpE (defs₀ (F := F)) 𝒱₀ (c : Thread nD τ) none) Set.univ (.op (.load (Memref.whole cc0_stg1_0) (Rect.unit (s := S1024x1024) off S512x1024.size h).toLoadRect hl) kk) Q) := by
  unfold ownsOut
  iintro ⟨%Y, %hY, H⟩ Hk
  iapply (wp_loadX (F := F) c d (q := fullShare) (X := Y) e) $$ H
  iintro H
  rw [hY d]
  iapply Hk
  iexists Y
  isplitr; · ipureintro; exact hY
  iexact H

/-- A store of a half of the result. -/
theorem wp_storeO (c : Dev nD) (d : Bool) {Z : Bool → Vec F S512x1024 .f32} {off : Fin 2 → ℕ} (e : off = hoff d)
    {h : ∀ a, off a + S512x1024.size a ≤ S1024x1024.size a} {w : Vec F S512x1024 .f32}
    {hx : ((Memref.whole cc0_stg1_0 : Memref sig .tc .vmem S1024x1024 .f32).access (Rect.unit (s := S1024x1024) off S512x1024.size h)).Stores Finset.univ} {hm}
    {kk : PUnit → Prog (TpuEff nD τ sig (Elt F) Λ₀ .tc) α} {Q : α → sProp 𝕄} :
    ownsOut c Z
      ⊢ iprop((ownsOut c (Function.update Z d w) -∗ wp frame (wpE (defs₀ (F := F)) 𝒱₀ (c : Thread nD τ) none) Set.univ (kk ⟨⟩) Q)
          -∗ wp frame (wpE (defs₀ (F := F)) 𝒱₀ (c : Thread nD τ) none) Set.univ (.op (.store (Memref.whole cc0_stg1_0) (Rect.unit (s := S1024x1024) off S512x1024.size h) w Finset.univ hx hm) kk) Q) := by
  subst e
  unfold ownsOut
  iintro ⟨%Y, %hY, H⟩ Hk
  iapply (wp_store_part c (X := Y) (w := w)) $$ H
  iintro H
  iapply Hk
  iexists ((hrect d).overlay Y w)
  isplitr
  · ipureintro
    intro d'
    by_cases hd : d' = d
    · subst hd; rw [Function.update_self]; exact halfOf_overlay d' Y w
    · rw [Function.update_of_ne hd, ← hY d']; exact halfOf_overlay_ne hd Y w
  iexact H

end Rules

end Cert.Rings
-- ==== Proof.Own.lean ====
/-
  A device's own rows: the loop that adds to the result what they give with the device's weights.
-/
module

public import proofs.«01_k».proof.Proof.Halves

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]
local notation "𝕄" => MT nD τ sig ℕ (Elt F) ℕ UU ℕ

variable (D : Data F)

/-- All copies of a weight matrix made: both blocks of the buffer free, all chunks at hand. -/
def WgtEnd (c : Dev nD) (b : Bool) : sProp 𝕄 :=
  iprop(Idle (F := F) c (.wt b) 64 ∗ anyW (F := F) c b 0 ∗ anyW (F := F) c b 1
    ∗ ownsSrc D c b (ck 0) ∗ ownsSrc D c b (ck 1) ∗ ownsSrc D c b (ck 2) ∗ ownsSrc D c b (ck 3))

/-- The weights before the own rows' trip `t`. -/
def Wgt3 (c : Dev nD) (b : Bool) (t : ℕ) : sProp 𝕄 := if t < 4 then Wgt D c b (60 + t) else WgtEnd D c b

/-- The weights of a trip in hand. -/
def WgtI (c : Dev nD) (b : Bool) (t : ℕ) : sProp 𝕄 :=
  iprop(ownsW c b (60 + t) (D.w b c (ck t)) ∗ (ownsW c b (60 + t) (D.w b c (ck t)) -∗ Wgt3 D c b (t + 1)))

section Rules
variable {α : Type}

/-- The wait for a trip's chunk, the next copy under way but at the last trip. -/
theorem wp_land (c : Dev nD) (b : Bool) (t : ℕ) (ht : t < 4) {sem : DmaSem sig} (hsm : SemLoc.dma sem = csem (.wt b) (par (60 + t)))
    {sp sp' : Space} {s s' : Shape} {e e' : EltTy} {src : Memref sig .tc sp' s' e'} {dst : Memref sig .tc sp s e}
    {hsrc : src.view.WordExact} {hdst : dst.view.WordExact} (hk : dst.view.dmaCredit = amtW)
    {l : List P1} (hl : AllAbove 0 l) {Q : α → sProp 𝕄} {kk : PUnit → Prog (TpuEff nD τ sig (Elt F) Λ₀ .tc) α} :
    iprop(Ctx D ∗ (if t < 3 then Wgt2 D c b (60 + t) else Wgt D c b (60 + t)) ∗ Ow c l)
      ⊢ iprop(((WgtI D c b t ∗ Ow c l) -∗ wp frame (wpE (defs₀ (F := F)) 𝒱₀ (c : Thread nD τ) none) Set.univ (kk ⟨⟩) Q) -∗ wp frame (wpE (defs₀ (F := F)) 𝒱₀ (c : Thread nD τ) none) Set.univ (.op (.waitDma2 sem src dst hsrc hdst) kk) Q) := by
  have ec : ck (60 + t) = ck t := Fin.ext (by show (60 + t) % 4 = t % 4; omega)
  unfold WgtI Wgt3
  by_cases h : t < 3
  · rw [if_pos h, if_pos (by omega)]
    iintro ⟨#HC, HW, HO⟩ Hk
    iapply (wp_arrive D c b (60 + t) (by omega) hsm hk hl) $$ [HW HO]
    · isplitr; · iexact HC
      isplitl [HW]; · iexact HW
      iexact HO
    iintro ⟨HW, HO⟩
    iapply Hk
    isplitr [HO]
    · unfold WgtH
      rw [← ec]
      icases HW with ⟨Hw, HW⟩
      isplitl [Hw]; · iexact Hw
      iintro Hw
      iapply (Wgt_next D c b (60 + t))
      unfold WgtH
      isplitl [Hw]; · iexact Hw
      iexact HW
    iexact HO
  · obtain rfl : t = 3 := by omega
    rw [if_neg h, if_neg (by omega)]
    unfold Wgt
    iintro ⟨#HC, ⟨HB, Hd, H0, H1, H2⟩, HO⟩ Hk
    iapply (wp_busyDma D c (.wt b) (60 + 3) (by show 63 < 64; omega) hsm hk hl) $$ [HB HO]
    · isplitr; · iexact HC
      isplitl [HB]; · iexact HB
      iexact HO
    rw [pay_wt]
    iintro ⟨HI, ⟨Hw, H3⟩, HO⟩
    iapply Hk
    isplitr [HO]
    · isplitl [Hw]; · iexact Hw
      iintro Hw
      unfold WgtEnd
      isplitl [HI]; · iexact HI
      isplitl [Hd]; · iexact Hd
      isplitl [Hw]
      · unfold anyW
        iexists (D.w b c (ck 3))
        iexact Hw
      isplitl [H0]; · iexact H0
      isplitl [H1]; · iexact H1
      isplitl [H2]; · iexact H2
      iexact H3
    iexact HO

end Rules

theorem t3_lt (t3 : Fin k0_t3_loop.trips) : t3.val < 4 := lt_of_lt_of_le t3.isLt k0_t3_abs.2.1
theorem t3_cond8 : ∀ t3 : Fin k0_t3_loop.trips, k0_cond8 t3 = 1#1 ↔ t3.val < 3 := by decide +kernel

/-- Before the own rows' trip `t`. -/
def Inv3 (c : Dev nD) (l : List P1) (X : Vec F S1024x1024 .f32) (t : ℕ) : sProp 𝕄 :=
  iprop(Ctx D ∗ Wgt3 D c false t ∗ Wgt3 D c true t ∗ owns (c : Thread nD τ) (Memref.whole cc0_stg0_0) fullShare X
    ∗ ownsOut c (fun d => comp D c (halfOf d X) zeroV t) ∗ Ow c l)

/-- What the first half of a trip stores. -/
theorem pay7_eq (X A : Vec F S512x1024 .f32) (w w' : Vec F S1x1024x1024 .f32) :
    k0_pay7 X w A w' = stepV X A (shapeCast S1024x1024 w scW) (shapeCast S1024x1024 w' scW) := by
  unfold k0_pay7 stepV actV
  rw [shapeCast_self X, shapeCast_self A]

/-- What the second half of a trip stores. -/
theorem pay13_eq (X A : Vec F S512x1024 .f32) (w w' : Vec F S1x1024x1024 .f32) :
    k0_pay13 X w A w' = stepV X A (shapeCast S1024x1024 w scW) (shapeCast S1024x1024 w' scW) := by
  unfold k0_pay13 stepV actV
  rw [shapeCast_self X, shapeCast_self A]

/-- The first part of a trip: the copies, and the upper half's step. -/
theorem wp_part7 (c : Dev nD) (l : List P1) (hl : AllAbove 0 l) (X : Vec F S1024x1024 .f32) (Z : Bool → Vec F S512x1024 .f32) (t3 : Fin k0_t3_loop.trips) :
    iprop(Ctx D ∗ Wgt3 D c false t3.val ∗ Wgt3 D c true t3.val ∗ owns (c : Thread nD τ) (Memref.whole cc0_stg0_0) fullShare X ∗ ownsOut c Z ∗ Ow c l)
      ⊢ wp frame (wpE (defs₀ (F := F)) 𝒱₀ (c : Thread nD τ) none) Set.univ (k0_part7 (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 0#32 1#32 t3) (fun r => iprop(⌜r.2 = stepV (halfOf true X) (Z true) (D.w false c (ck t3.val)) (D.w true c (ck t3.val))⌝
        ∗ WgtI D c false t3.val ∗ WgtI D c true t3.val ∗ owns (c : Thread nD τ) (Memref.whole cc0_stg0_0) fullShare X ∗ ownsOut c Z ∗ Ow c l)) := by
  have ht := t3_lt t3
  simp only [k0_part7_eq_skeleton]; unfold k0_part7_skel
  simp only [Prog.lift, Prog.bind_op, Prog.bind_ret, Prog.pure_eq_ret, Prog.bind_assoc]
  have ep : par (60 + t3.val) = par t3.val := par_congr (by omega)
  have ep1 : par (60 + t3.val + 1) = par (t3.val + 1) := par_congr (by omega)
  unfold Wgt3
  rw [if_pos ht, if_pos ht]
  iintro ⟨#HC, HW1, HW2, HX, HY, HO⟩
  iapply (wp_guard c (R := iprop(Ctx D ∗ Wgt D c false (60 + t3.val) ∗ Wgt D c true (60 + t3.val)))
    (R' := iprop((if t3.val < 3 then Wgt2 D c false (60 + t3.val) else Wgt D c false (60 + t3.val))
      ∗ (if t3.val < 3 then Wgt2 D c true (60 + t3.val) else Wgt D c true (60 + t3.val)))) ?_ ?_) $$ [HW1 HW2]
  · intro h8
    have h8' := (t3_cond8 t3).mp h8
    have e8 : (ck (60 + t3.val + 1)).val = t3.val + 1 := by show (60 + t3.val + 1) % 4 = t3.val + 1; omega
    rw [if_pos h8', if_pos h8']
    iintro ⟨#HC, HW1, HW2⟩ Hk
    iapply (wp_next D c false (60 + t3.val) (by omega) (wsrc1_eq _ ((k0_off31_eq t3).trans (by rw [e8]; rfl)))
      (wslotAt_eq false _ ((k0_off30_eq t3).trans (by rw [ep1]; rfl))) (dsem_eq (.wt false) (fun _ => nofun) _ ((k0_off29_eq t3).trans (by rw [ep1]; rfl)))) $$ [HW1]
    · isplitr; · iexact HC
      iexact HW1
    iintro HW1
    iapply (wp_next D c true (60 + t3.val) (by omega) (wsrc2_eq _ ((k0_off32_eq t3).trans (by rw [e8]; rfl)))
      (wslotAt_eq true _ ((k0_off30_eq t3).trans (by rw [ep1]; rfl))) (dsem_eq (.wt true) (fun _ => nofun) _ ((k0_off29_eq t3).trans (by rw [ep1]; rfl)))) $$ [HW2]
    · isplitr; · iexact HC
      iexact HW2
    iintro HW2
    iapply Hk
    isplitl [HW1]; · iexact HW1
    iexact HW2
  · intro h8
    rw [if_neg fun h => h8 ((t3_cond8 t3).mpr h), if_neg fun h => h8 ((t3_cond8 t3).mpr h)]
    iintro ⟨#HC, HW1, HW2⟩
    isplitl [HW1]; · iexact HW1
    iexact HW2
  · isplitr; · iexact HC
    isplitl [HW1]; · iexact HW1
    iexact HW2
  iintro ⟨HW1, HW2⟩
  iapply (wp_land D c false t3.val ht (dsem_eq (.wt false) (fun _ => nofun) _ ((k0_off33_eq t3).trans (by rw [ep]; rfl)))
    (wslotAt_amt false (par t3.val) (k0_off34_eq t3)) hl) $$ [HW1 HO]
  · isplitr; · iexact HC
    isplitl [HW1]; · iexact HW1
    iexact HO
  iintro ⟨HW1, HO⟩
  iapply (wp_land D c true t3.val ht (dsem_eq (.wt true) (fun _ => nofun) _ ((k0_off33_eq t3).trans (by rw [ep]; rfl)))
    (wslotAt_amt true (par t3.val) (k0_off34_eq t3)) hl) $$ [HW2 HO]
  · isplitr; · iexact HC
    isplitl [HW2]; · iexact HW2
    iexact HO
  iintro ⟨HW2, HO⟩
  unfold WgtI
  icases HW1 with ⟨Hw1, HW1⟩
  icases HW2 with ⟨Hw2, HW2⟩
  iapply (wp_loadX c true rfl) $$ HX
  iintro HX
  iapply (wp_loadW c false (60 + t3.val) ((k0_off37_eq t3).trans (by rw [ep]; rfl)) rfl) $$ Hw1
  iintro %w1 %hw1 Hw1
  iapply (wp_loadO c true rfl) $$ HY
  iintro HY
  iapply (wp_loadW c true (60 + t3.val) ((k0_off37_eq t3).trans (by rw [ep]; rfl)) rfl) $$ Hw2
  iintro %w2 %hw2 Hw2
  rw [wp_ret]
  imodintro
  isplitr
  · ipureintro
    show k0_pay7 _ _ _ _ = _
    rw [pay7_eq, hw1, hw2]
  isplitl [Hw1 HW1]
  · isplitl [Hw1]; · iexact Hw1
    iexact HW1
  isplitl [Hw2 HW2]
  · isplitl [Hw2]; · iexact Hw2
    iexact HW2
  isplitl [HX]; · iexact HX
  isplitl [HY]; · iexact HY
  iexact HO

/-- One trip over a device's own rows. -/
theorem wp_trip3 (c : Dev nD) (l : List P1) (hl : AllAbove 0 l) (v4 v6 : BitVec 32) (X : Vec F S1024x1024 .f32) (t3 : Fin k0_t3_loop.trips) (acc : Unit) :
    Inv3 D c l X t3.val ⊢ wp frame (wpE (defs₀ (F := F)) 𝒱₀ (c : Thread nD τ) none) Set.univ (k0_t3_body (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v4 v6 t3 acc) (fun _ => Inv3 D c l X (t3.val + 1)) := by
  have ht := t3_lt t3
  have ep : par (60 + t3.val) = par t3.val := par_congr (by omega)
  unfold k0_t3_body Inv3
  iintro ⟨#HC, HW1, HW2, HX, HY, HO⟩
  iapply (wp_seq c (wp_part7 D c l hl X (fun d => comp D c (halfOf d X) zeroV t3.val) t3)) $$ [HW1 HW2 HX HY HO]
  · isplitr; · iexact HC
    isplitl [HW1]; · iexact HW1
    isplitl [HW2]; · iexact HW2
    isplitl [HX]; · iexact HX
    isplitl [HY]; · iexact HY
    iexact HO
  iintro %r ⟨%hr, HW1, HW2, HX, HY, HO⟩
  obtain ⟨r0, r1⟩ := r
  dsimp only at hr
  subst hr
  simp only [Prog.lift, Prog.bind_op, Prog.bind_ret, Prog.pure_eq_ret, Prog.bind_assoc]
  unfold WgtI
  icases HW1 with ⟨Hw1, HW1⟩
  icases HW2 with ⟨Hw2, HW2⟩
  iapply (wp_loadO c true rfl) $$ HY
  iintro HY
  iapply (wp_storeO c true rfl) $$ HY
  iintro HY
  iapply (wp_loadX c false rfl) $$ HX
  iintro HX
  iapply (wp_loadW c false (60 + t3.val) ((k0_off37_eq t3).trans (by rw [ep]; rfl)) rfl) $$ Hw1
  iintro %w1 %hw1 Hw1
  iapply (wp_loadO c false rfl) $$ HY
  iintro HY
  iapply (wp_loadW c true (60 + t3.val) ((k0_off37_eq t3).trans (by rw [ep]; rfl)) rfl) $$ Hw2
  iintro %w2 %hw2 Hw2
  iapply (wp_loadO c false rfl) $$ HY
  iintro HY
  iapply (wp_storeO c false rfl) $$ HY
  iintro HY
  rw [wp_ret]
  imodintro
  isplitr; · iexact HC
  isplitl [Hw1 HW1]
  · iapply HW1
    iexact Hw1
  isplitl [Hw2 HW2]
  · iapply HW2
    iexact Hw2
  isplitl [HX]; · iexact HX
  isplitl [HY]
  · rw [show (fun d => comp D c (halfOf d X) zeroV (t3.val + 1)) = Function.update (Function.update (fun d => comp D c (halfOf d X) zeroV t3.val) true
          (stepV (halfOf true X) (comp D c (halfOf true X) zeroV t3.val) (D.w false c (ck t3.val)) (D.w true c (ck t3.val))))
        false (k0_pay13 (halfOf false X) w1 (Function.update (fun d => comp D c (halfOf d X) zeroV t3.val) true
          (stepV (halfOf true X) (comp D c (halfOf true X) zeroV t3.val) (D.w false c (ck t3.val)) (D.w true c (ck t3.val))) false) w2) by
      funext d
      cases d
      · rw [Function.update_self, Function.update_of_ne (by decide), pay13_eq, hw1, hw2]; rfl
      · rw [Function.update_of_ne (by decide), Function.update_self]; rfl]
    iexact HY
  iexact HO

/-- The loop over the chunks for a device's own rows. -/
theorem wp_loop3 {α : Type} (c : Dev nD) (l : List P1) (hl : AllAbove 0 l) (v4 v6 : BitVec 32) (X : Vec F S1024x1024 .f32)
    {kk : PUnit → Prog (TpuEff nD τ sig (Elt F) Λ₀ .tc) α} {Q : α → sProp 𝕄} :
    Inv3 D c l X 0 ⊢ iprop((Inv3 D c l X 4 -∗ wp frame (wpE (defs₀ (F := F)) 𝒱₀ (c : Thread nD τ) none) Set.univ (kk ⟨⟩) Q)
      -∗ wp frame (wpE (defs₀ (F := F)) 𝒱₀ (c : Thread nD τ) none) Set.univ (Scf.Loop.for k0_t3_loop k0_t3_ok ⟨⟩ (k0_t3_body (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v4 v6) >>= kk) Q) := by
  have e : Scf.trips k0_t3_loop.lb k0_t3_loop.ub k0_t3_loop.st = 4 := by decide +kernel
  iintro H Hk
  iapply (Scf.wp_for_bind frame (wpE (defs₀ (F := F)) 𝒱₀ (c : Thread nD τ) none) Set.univ k0_t3_loop.lb k0_t3_loop.ub k0_t3_loop.st k0_t3_ok ⟨⟩ _
    (fun t _ => Inv3 D c l X t) (fun t3 acc => wp_trip3 D c l hl v4 v6 X t3 acc)) $$ [H]
  · iexact H
  rw [e]
  iintro %a H
  iapply Hk
  iexact H

end Cert.Rings
-- ==== Proof.Enter.lean ====
/-
  Before the loops: the barrier, the first transfers and copies, and the zero accumulators.
-/
module

public import proofs.«01_k».proof.Proof.Own

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]
local notation "𝕄" => MT nD τ sig ℕ (Elt F) ℕ UU ℕ

variable (D : Data F)

/-- What a device holds of a ring's semaphores at the launch. -/
def RingStart (c : Dev nD) (r : Rg) : sProp 𝕄 :=
  iprop(Idle (F := F) c (.send r) 0 ∗ Awaits (F := F) c (.recv r) 0 ∗ Awaits (F := F) c (.cred r) 0
    ∗ Toks (F := F) (nx r.2 c) (.recv r) 0 ∗ Toks (F := F) (pv r.2 c) (.cred r) 0)

/-- What a device holds of a weight matrix at the launch. -/
def WgtStart (c : Dev nD) (b : Bool) : sProp 𝕄 :=
  iprop(Idle (F := F) c (.wt b) 0 ∗ anyW (F := F) c b 0 ∗ anyW (F := F) c b 1
    ∗ ownsSrc D c b (ck 0) ∗ ownsSrc D c b (ck 1) ∗ ownsSrc D c b (ck 2) ∗ ownsSrc D c b (ck 3))

/-- What a device holds of the barrier at the launch. -/
def BarStart (c : Dev nD) : sProp 𝕄 :=
  iprop(dutyTok (ER (F := F)) (barCell (pv true c)) 0 true ∗ dutyTok (ER (F := F)) (barCell (pv false c)) 0 false
    ∗ atPos (ER (F := F)) (barCell c) 0 ∅ 0 ∗ cred (tallyAt (barCell c) 1 2))

/-- The blocks a device lets its neighbours write, and keeps, in one direction. -/
def Rooms (c : Dev nD) (d : Bool) : sProp 𝕄 := iprop(anyR (F := F) c (false, d) 1 ∗ anyR (F := F) c (true, d) 0)

/-- What is owed after the barrier. -/
abbrev dueBar (c : Dev nD) : List P1 := pEv (nx true c) (.recv (false, true)) 0 :: pEv (nx false c) (.recv (false, false)) 0 :: dueFrom c 0

theorem dueL_eq (c : Dev nD) : dueL c = pBar (pv true c) :: pBar (pv false c) :: dueBar c := rfl

theorem above_bar (c : Dev nD) : AllAbove 1 (dueBar c) := by
  refine allAbove_ev ?_ ?_ (allAbove_ev ?_ ?_ (allAbove_from c (by omega) (by omega))) <;> simp only [ix, NIx] <;> omega

theorem off1_0 : k0_off1 0#32 = ![(par 0).val] := by decide
theorem off1_1 : k0_off1 1#32 = ![(par 1).val] := by decide
theorem off1_14 : k0_off1 14#32 = ![(par 14).val] := by decide
theorem off1_15 : k0_off1 15#32 = ![(par 15).val] := by decide
theorem off2_0 : k0_off2 0#32 = ![(par 0).val, 0, 0] := by decide
theorem off2_1 : k0_off2 1#32 = ![(par 1).val, 0, 0] := by decide
theorem off2_14 : k0_off2 14#32 = ![(par 14).val, 0, 0] := by decide
theorem off2_15 : k0_off2 15#32 = ![(par 15).val, 0, 0] := by decide

theorem pay8_eq (v : Vec F S512x1024 .f32) : shapeCast S512x1024 (k0_pay8 v) sc3 = v := by
  unfold k0_pay8
  exact (shapeCast_shapeCast _ _ _).trans (shapeCast_self v _)
theorem pay9_eq (v : Vec F S512x1024 .f32) : shapeCast S512x1024 (k0_pay9 v) sc3 = v := by
  unfold k0_pay9
  exact (shapeCast_shapeCast _ _ _).trans (shapeCast_self v _)
theorem pay11_eq : shapeCast S512x1024 (k0_pay11 (F := F)) sc3 = zeroV := by
  unfold k0_pay11
  exact (shapeCast_shapeCast _ _ _).trans rfl
theorem pay12_eq : shapeCast S512x1024 (k0_pay12 (F := F)) sc3 = zeroV := by
  unfold k0_pay12
  exact (shapeCast_shapeCast _ _ _).trans rfl

theorem anyR_open (c : Dev nD) (r : Rg) (p : ℕ) : anyR (F := F) c r p ⊢ iprop(∃ X, ownsR (F := F) c r p fullShare X) := by
  unfold anyR; exact BI.Entails.refl _

theorem Wgt3_zero (c : Dev nD) (b : Bool) : Wgt D c b (4 * 15) ⊢ Wgt3 D c b 0 := by
  unfold Wgt3; rw [if_pos (by omega)]
theorem Wgt3_four (c : Dev nD) (b : Bool) : Wgt3 D c b 4 ⊢ WgtEnd D c b := by
  unfold Wgt3; rw [if_neg (by omega)]

/-- The barrier, and the device's own rows into the blocks its first transfers read. -/
theorem wp_part8 (c : Dev nD) (X : Vec F S1024x1024 .f32) :
    iprop(Ctx D ∗ BarStart c ∗ Rooms c true ∗ Rooms c false ∗ anyR c (false, true) 0 ∗ anyR c (false, false) 0
        ∗ owns (c : Thread nD τ) (Memref.whole cc0_stg0_0) fullShare X ∗ Ow c (dueL c))
      ⊢ wp frame (wpE (defs₀ (F := F)) 𝒱₀ (c : Thread nD τ) none) Set.univ (k0_part8 (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19) (fun r => iprop(⌜r.1 = c⌝ ∗ atPos (ER (F := F)) (barCell c) 1 ∅ 0 ∗ barPay c true ∗ barPay c false
        ∗ ownsR c (false, true) 0 fullShare (halfOf true X) ∗ ownsR c (false, false) 0 fullShare (halfOf false X)
        ∗ owns (c : Thread nD τ) (Memref.whole cc0_stg0_0) fullShare X ∗ Ow c (dueBar c))) := by
  simp only [k0_part8_eq_skeleton]; unfold k0_part8_skel
  simp only [Prog.lift, Prog.bind_op, Prog.bind_ret, Prog.pure_eq_ret, Prog.bind_assoc, semSignalWord, semWaitWord, wp_deviceId]
  rw [dueL_eq]
  unfold BarStart Rooms
  iintro ⟨#HC, ⟨HtT, HtF, Hat, Hcr⟩, ⟨HrT, HaT⟩, ⟨HrF, HaF⟩, Hx0, Hx1, HX, HO⟩
  ihave Hx0 := (anyR_open c (false, true) 0) $$ Hx0
  ihave Hx1 := (anyR_open c (false, false) 0) $$ Hx1
  icases Hx0 with ⟨%z0, Hx0⟩
  icases Hx1 with ⟨%z1, Hx1⟩
  iapply (wp_barSignal D c _ true (Fin.ext ((k0_dev1_eq c).trans rfl)) rfl) $$ [HrT HaT HtT HO]
  · isplitr; · iexact HC
    isplitl [HrT]; · iexact HrT
    isplitl [HaT]; · iexact HaT
    isplitl [HtT]; · iexact HtT
    iexact HO
  iintro HO
  iapply (wp_barSignal D c _ false (Fin.ext ((k0_dev2_eq c).trans rfl)) rfl) $$ [HrF HaF HtF HO]
  · isplitr; · iexact HC
    isplitl [HrF]; · iexact HrF
    isplitl [HaF]; · iexact HaF
    isplitl [HtF]; · iexact HtF
    iexact HO
  iintro HO
  iapply (wp_barWait D c rfl (above_bar c)) $$ [Hat Hcr HO]
  · isplitr; · iexact HC
    isplitl [Hat]; · iexact Hat
    isplitl [Hcr]; · iexact Hcr
    iexact HO
  iintro ⟨Hat, HpT, HpF, HO⟩
  iapply (wp_loadX c true rfl) $$ HX
  iintro HX
  iapply (wp_loadR c (false, true) 0 rfl rfl) $$ Hx0
  iintro %v14 - Hx0
  iapply (wp_storeR c (false, true) 0 rfl rfl) $$ Hx0
  iintro Hx0
  iapply (wp_loadX c false rfl) $$ HX
  iintro HX
  iapply (wp_loadR c (false, false) 0 rfl rfl) $$ Hx1
  iintro %v19 - Hx1
  iapply (wp_storeR c (false, false) 0 rfl rfl) $$ Hx1
  iintro Hx1
  rw [pay8_eq, pay9_eq, wp_ret]
  imodintro
  isplitr; · ipureintro; rfl
  isplitl [Hat]; · iexact Hat
  isplitl [HpT]; · iexact HpT
  isplitl [HpF]; · iexact HpF
  isplitl [Hx0]; · iexact Hx0
  isplitl [Hx1]; · iexact Hx1
  isplitl [HX]; · iexact HX
  iexact HO

/-- A ring of `x` before its first transfer. -/
def FirstX (c : Dev nD) (d : Bool) : sProp 𝕄 :=
  iprop(RingStart c (false, d) ∗ anyR (F := F) (nx d c) (false, d) 1 ∗ ownsR c (false, d) 0 fullShare (cont D (false, d) c 0))

/-- The first transfers. -/
theorem wp_part9 (c : Dev nD) (v4 v6 w w' : BitVec 32) :
    iprop(Ctx D ∗ FirstX D c true ∗ FirstX D c false ∗ Ow c (dueBar c))
      ⊢ wp frame (wpE (defs₀ (F := F)) 𝒱₀ (c : Thread nD τ) none) Set.univ (k0_part9 (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v4 v6 w w') (fun _ => iprop(XRing D c true 0 ∗ XRing D c false 0 ∗ Ow c (dueFrom c 0))) := by
  simp only [k0_part9_eq_skeleton]; unfold k0_part9_skel
  simp only [Prog.lift, Prog.bind_op, Prog.bind_ret, Prog.pure_eq_ret, Prog.bind_assoc]
  unfold FirstX RingStart
  iintro ⟨#HC, ⟨⟨HiT, HwT, HcT, HrT, HgT⟩, HnT, HxT⟩, ⟨⟨HiF, HwF, HcF, HrF, HgF⟩, HnF, HxF⟩, HO⟩
  ihave HxT := (ownsR_halves c (false, true) 0 _) $$ HxT
  icases HxT with ⟨HlT, HxT⟩
  ihave HxF := (ownsR_halves c (false, false) 0 _) $$ HxF
  icases HxF with ⟨HlF, HxF⟩
  iapply (wp_pass D c _ (false, true) (Fin.ext ((k0_dev3_eq c).trans rfl)) 0 (by omega) (slotAt_eq (false, true) (par 0) off2_0) (slotAt_eq (false, true) (par 1) off2_1)
    (dsem_eq (.send (false, true)) (fun _ => nofun) _ off1_0) (dsem_eq (.recv (false, true)) (fun _ => nofun) _ off1_1)) $$ [HiT HcT HrT HnT HlT HO]
  · isplitr; · iexact HC
    isplitl [HlT]; · iexact HlT
    isplitl [HnT]; · iexact HnT
    isplitl [HO]; · iexact HO
    isplitl [HiT]; · iexact HiT
    isplitl [HrT]; · iexact HrT
    isplitr; · iapply (Ctx_reach0 D (nx true c) (.recv (false, true))); iexact HC
    iexact HcT
  iintro ⟨HiT, HrT, HcT, HO⟩
  iapply (wp_pass D c _ (false, false) (Fin.ext ((k0_dev4_eq c).trans rfl)) 0 (by omega) (slotAt_eq (false, false) (par 0) off2_0) (slotAt_eq (false, false) (par 1) off2_1)
    (dsem_eq (.send (false, false)) (fun _ => nofun) _ off1_0) (dsem_eq (.recv (false, false)) (fun _ => nofun) _ off1_1)) $$ [HiF HcF HrF HnF HlF HO]
  · isplitr; · iexact HC
    isplitl [HlF]; · iexact HlF
    isplitl [HnF]; · iexact HnF
    isplitl [HO]; · iexact HO
    isplitl [HiF]; · iexact HiF
    isplitl [HrF]; · iexact HrF
    isplitr; · iapply (Ctx_reach0 D (nx false c) (.recv (false, false))); iexact HC
    iexact HcF
  iintro ⟨HiF, HrF, HcF, HO⟩
  rw [wp_ret]
  imodintro
  unfold XRing
  rw [if_pos (by omega), if_pos (by omega)]
  isplitl [HxT HiT HwT HcT HrT HgT]
  · isplitl [HxT HiT]
    · isplitl [HxT]; · iexact HxT
      iexact HiT
    isplitl [HwT]; · iexact HwT
    isplitl [HcT]; · iexact HcT
    isplitl [HrT]; · iexact HrT
    iexact HgT
  isplitl [HxF HiF HwF HcF HrF HgF]
  · isplitl [HxF HiF]
    · isplitl [HxF]; · iexact HxF
      iexact HiF
    isplitl [HwF]; · iexact HwF
    isplitl [HcF]; · iexact HcF
    isplitl [HrF]; · iexact HrF
    iexact HgF
  iexact HO

section Rules
variable {α : Type}

/-- The first copy of a weight matrix. -/
theorem wp_first (c : Dev nD) (b : Bool)
    {src : Memref sig .tc .hbm S1024x1024 .f32} (hs : src = wsrc b (ck 0)) {dst : Memref sig (Proc.tc : Proc τ).kind .vmem S1024x1024 .f32} (hd : dst = wslot b (par 0))
    {sem : SemLoc sig} (hsm : sem = csem (.wt b) (par 0)) {hsrc : src.view.WordExact} {hdst : dst.view.WordExact}
    {hsem : DmaTarget.Typed (nD := nD) .hbm sem (DmaTarget.here (p := (Proc.tc : Proc τ)) dst)}
    {Q : α → sProp 𝕄} {kk : PUnit → Prog (TpuEff nD τ sig (Elt F) Λ₀ .tc) α} :
    iprop(Ctx D ∗ WgtStart D c b)
      ⊢ iprop((Wgt D c b 0 -∗ wp frame (wpE (defs₀ (F := F)) 𝒱₀ (c : Thread nD τ) none) Set.univ (kk ⟨⟩) Q) -∗ wp frame (wpE (defs₀ (F := F)) 𝒱₀ (c : Thread nD τ) none) Set.univ (.op (.enqueueDma src (.here dst) sem hsrc hdst hsem) kk) Q) := by
  unfold WgtStart Idle Wgt Busy
  iintro ⟨#HC, ⟨Hp, #Hr, Ht⟩, Ha, Hd, H0, H1, H2, H3⟩ Hk
  iapply (wp_wcopy D c b 0 (by omega) hs hd hsm) $$ [Ht Ha H0]
  · isplitr; · iexact HC
    isplitl [Ht]; · iexact Ht
    isplitr; · iapply (Reach_fst c (.wt b) 0); iexact Hr
    isplitl [Ha]; · iexact Ha
    iexact H0
  iintro ⟨Hc, Ht⟩
  iapply Hk
  isplitl [Hp Hc Ht]
  · isplitl [Hp]; · iexact Hp
    isplitr; · iexact Hr
    isplitl [Hc]; · iexact Hc
    iexact Ht
  isplitl [Hd]; · iexact Hd
  isplitl [H1]; · iexact H1
  isplitl [H2]; · iexact H2
  iexact H3

/-- The result's block filled with zeros. -/
theorem wp_zero (c : Dev nD) {Y : Vec F S1024x1024 .f32} {off : Fin 2 → ℕ} (e : off = ![0, 0]) {h : ∀ a, off a + S1024x1024.size a ≤ S1024x1024.size a}
    {hx : ((Memref.whole cc0_stg1_0 : Memref sig .tc .vmem S1024x1024 .f32).access (Rect.unit (s := S1024x1024) off S1024x1024.size h)).Stores Finset.univ} {hm}
    {kk : PUnit → Prog (TpuEff nD τ sig (Elt F) Λ₀ .tc) α} {Q : α → sProp 𝕄} :
    (owns (c : Thread nD τ) (Memref.whole cc0_stg1_0) fullShare Y : sProp 𝕄)
      ⊢ iprop((ownsOut c (fun _ => zeroV) -∗ wp frame (wpE (defs₀ (F := F)) 𝒱₀ (c : Thread nD τ) none) Set.univ (kk ⟨⟩) Q)
          -∗ wp frame (wpE (defs₀ (F := F)) 𝒱₀ (c : Thread nD τ) none) Set.univ (.op (.store (Memref.whole cc0_stg1_0) (Rect.unit (s := S1024x1024) off S1024x1024.size h) (k0_pay10 (F := F)) Finset.univ hx hm) kk) Q) := by
  subst e
  iintro H Hk
  iapply (wp_store_part c (X := Y) (w := k0_pay10 (F := F))) $$ H
  iintro H
  iapply Hk
  unfold ownsOut
  iexists _
  isplitr
  swap; · iexact H
  ipureintro
  intro d
  funext i
  refine (halfOf_apply d _ i).trans ?_
  have hj : (hrect d).emb i ∈ (Rect.unit (s := S1024x1024) ![0, 0] S1024x1024.size h).set := by
    rw [Rect.mem_set_unit]
    intro a
    have := ((hrect d).emb i a).isLt
    match a, this with
    | 0, this => exact ⟨Nat.zero_le _, by show _ < 0 + 1024; rw [Nat.zero_add]; exact this⟩
    | 1, this => exact ⟨Nat.zero_le _, by show _ < 0 + 1024; rw [Nat.zero_add]; exact this⟩
  obtain ⟨j, hj⟩ := (Rect.unit (s := S1024x1024) ![0, 0] S1024x1024.size h).toLoadRect.exists_idx_of_mem hj
  rw [← hj]
  exact (Rect.overlay_emb _ _ _ j).trans rfl

end Rules

/-- An accumulators' ring before its first step. -/
def FirstA (c : Dev nD) (d : Bool) : sProp 𝕄 :=
  iprop(RingStart c (true, d) ∗ anyR (F := F) (nx d c) (true, d) 0 ∗ anyR (F := F) c (true, d) 1)

theorem ARing_first (c : Dev nD) (d : Bool) :
    iprop(RingStart (F := F) c (true, d) ∗ anyR (F := F) (nx d c) (true, d) 0 ∗ ownsR c (true, d) 1 fullShare zeroV) ⊢ ARing c d 0 := by
  unfold RingStart ARing FlownA RoomA
  rw [if_neg (by omega), if_neg (by omega)]
  iintro ⟨⟨Hi, Hw, Hc, Hr, Hg⟩, Hn, Hx⟩
  isplitl [Hi Hw Hx]
  · isplitl [Hw]; · iexact Hw
    isplitl [Hi]; · iexact Hi
    iexact Hx
  isplitl [Hc Hn]
  · isplitl [Hc]; · iexact Hc
    iexact Hn
  isplitl [Hr]; · iexact Hr
  iexact Hg

/-- After the loops. -/
def Left (c : Dev nD) (X : Vec F S1024x1024 .f32) : sProp 𝕄 :=
  iprop(XRing D c true 15 ∗ XRing D c false 15 ∗ ARing (F := F) c true 15 ∗ ARing (F := F) c false 15
    ∗ WgtEnd D c false ∗ WgtEnd D c true ∗ owns (c : Thread nD τ) (Memref.whole cc0_stg0_0) fullShare X
    ∗ ownsOut c (fun d => comp D c (halfOf d X) zeroV 4) ∗ Ow c [])

/-- The copies' start, the zero fills and the two loops. -/
theorem wp_part10 (c : Dev nD) (v4 v6 : BitVec 32) (X Y : Vec F S1024x1024 .f32) :
    iprop(Ctx D ∗ XRing D c true 0 ∗ XRing D c false 0 ∗ FirstA c true ∗ FirstA c false ∗ WgtStart D c false ∗ WgtStart D c true
        ∗ owns (c : Thread nD τ) (Memref.whole cc0_stg0_0) fullShare X ∗ owns (c : Thread nD τ) (Memref.whole cc0_stg1_0) fullShare Y ∗ Ow c (dueFrom c 0))
      ⊢ wp frame (wpE (defs₀ (F := F)) 𝒱₀ (c : Thread nD τ) none) Set.univ (k0_part10 (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 c v4 v6) (fun _ => Left D c X) := by
  simp only [k0_part10_eq_skeleton]; unfold k0_part10_skel
  simp only [Prog.lift, Prog.bind_op, Prog.bind_ret, Prog.pure_eq_ret, Prog.bind_assoc]
  unfold FirstA
  iintro ⟨#HC, HXT, HXF, ⟨HsT, HnT, HaT⟩, ⟨HsF, HnF, HaF⟩, HW1, HW2, HX, HY, HO⟩
  iapply (wp_first D c false (wsrc1_eq (ck 0) rfl) (wslotAt_eq false (par 0) rfl) (dsem_eq (.wt false) (fun _ => nofun) (par 0) rfl)) $$ [HW1]
  · isplitr; · iexact HC
    iexact HW1
  iintro HW1
  iapply (wp_first D c true (wsrc2_eq (ck 0) rfl) (wslotAt_eq true (par 0) rfl) (dsem_eq (.wt true) (fun _ => nofun) (par 0) rfl)) $$ [HW2]
  · isplitr; · iexact HC
    iexact HW2
  iintro HW2
  iapply (wp_load_part (F := F) c (X := Y)) $$ HY
  iintro HY
  iapply (wp_zero c rfl) $$ HY
  iintro HY
  ihave HaT := (anyR_open c (true, true) 1) $$ HaT
  ihave HaF := (anyR_open c (true, false) 1) $$ HaF
  icases HaT with ⟨%z0, HaT⟩
  icases HaF with ⟨%z1, HaF⟩
  iapply (wp_loadR c (true, true) 1 rfl rfl) $$ HaT
  iintro %v63 - HaT
  iapply (wp_storeR c (true, true) 1 rfl rfl) $$ HaT
  iintro HaT
  iapply (wp_loadR c (true, false) 1 rfl rfl) $$ HaF
  iintro %v67 - HaF
  iapply (wp_storeR c (true, false) 1 rfl rfl) $$ HaF
  iintro HaF
  rw [pay11_eq, pay12_eq]
  ihave HAT := (ARing_first c true) $$ [HsT HnT HaT]
  · isplitl [HsT]; · iexact HsT
    isplitl [HnT]; · iexact HnT
    iexact HaT
  ihave HAF := (ARing_first c false) $$ [HsF HnF HaF]
  · isplitl [HsF]; · iexact HsF
    isplitl [HnF]; · iexact HnF
    iexact HaF
  iapply (wp_loop1 D c v4 v6) $$ [HXT HXF HAT HAF HW1 HW2 HO]
  · unfold Inv1
    isplitr; · iexact HC
    isplitl [HXT]; · iexact HXT
    isplitl [HXF]; · iexact HXF
    isplitl [HAT]; · iexact HAT
    isplitl [HAF]; · iexact HAF
    isplitl [HW1]; · iexact HW1
    isplitl [HW2]; · iexact HW2
    iexact HO
  unfold Inv1
  rw [dueFrom_last]
  iintro ⟨-, HXT, HXF, HAT, HAF, HW1, HW2, HO⟩
  iapply (wp_loop3 D c [] (allAbove_nil 0) v4 v6 X) $$ [HW1 HW2 HX HY HO]
  · unfold Inv3
    isplitr; · iexact HC
    isplitl [HW1]; · iapply (Wgt3_zero D c false); iexact HW1
    isplitl [HW2]; · iapply (Wgt3_zero D c true); iexact HW2
    isplitl [HX]; · iexact HX
    isplitl [HY]; · iexact HY
    iexact HO
  unfold Inv3
  iintro ⟨-, HW1, HW2, HX, HY, HO⟩
  rw [wp_ret]
  imodintro
  unfold Left
  isplitl [HXT]; · iexact HXT
  isplitl [HXF]; · iexact HXF
  isplitl [HAT]; · iexact HAT
  isplitl [HAF]; · iexact HAF
  isplitl [HW1]; · iapply (Wgt3_four D c false); iexact HW1
  isplitl [HW2]; · iapply (Wgt3_four D c true); iexact HW2
  isplitl [HX]; · iexact HX
  isplitl [HY]; · iexact HY
  iexact HO

end Cert.Rings
-- ==== Proof.Leave.lean ====
/-
  After the loops: the last accumulators come, and the result is their sum with the device's own rows' share.
-/
module

public import proofs.«01_k».proof.Proof.Enter

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]
local notation "𝕄" => MT nD τ sig ℕ (Elt F) ℕ UU ℕ

variable (D : Data F)

/-- What a device holds of a ring's semaphores at the end. -/
def RingDone (c : Dev nD) (r : Rg) : sProp 𝕄 :=
  iprop(Idle (F := F) c (.send r) 15 ∗ Awaits (F := F) c (.recv r) 15 ∗ Awaits (F := F) c (.cred r) 14)

/-- What a device holds of a ring at the end. -/
def RingEnd (c : Dev nD) (r : Rg) : sProp 𝕄 := iprop(RingDone (F := F) c r ∗ anyR (F := F) c r 0 ∗ anyR (F := F) c r 1)

/-- A half of the result. -/
def outH (c : Dev nD) (d : Bool) : Vec F S512x1024 .f32 := addf (comp D c (D.x d c) zeroV 4) (cont D (true, d) (pv d c) 14)

theorem XRing_end (c : Dev nD) (d : Bool) : XRing D c d 15 ⊢ RingEnd c (false, d) := by
  unfold XRing RingEnd RingDone
  rw [if_neg (by omega)]
  iintro ⟨⟨H0, H1, Hi⟩, Hw, Hc, -⟩
  isplitl [Hi Hw Hc]
  · isplitl [Hi]; · iexact Hi
    isplitl [Hw]; · iexact Hw
    iexact Hc
  isplitl [H1]
  · rw [anyR_congr c (false, d) (show 0 % 2 = (15 + 1) % 2 from rfl)]; iexact H1
  · rw [anyR_congr c (false, d) (show 1 % 2 = 15 % 2 from rfl)]; iexact H0

theorem ARing_last (c : Dev nD) (d : Bool) :
    ARing (F := F) c d 15 ⊢ iprop(Awaits c (.recv (true, d)) 14 ∗ Busy c (.send (true, d)) 14 ∗ Awaits c (.cred (true, d)) 14) := by
  unfold ARing FlownA RoomA
  rw [if_pos (by omega), if_pos (by omega)]
  iintro ⟨⟨Hw, Hb⟩, ⟨Hc, -⟩, -⟩
  isplitl [Hw]; · iexact Hw
  isplitl [Hb]; · iexact Hb
  iexact Hc

/-- The last accumulators of a direction come. -/
def CameL (c : Dev nD) (d : Bool) : sProp 𝕄 :=
  iprop(RingDone (F := F) c (true, d) ∗ anyR (F := F) c (true, d) 1 ∗ ownsR c (true, d) 0 fullShare (cont D (true, d) (pv d c) 14))

/-- The waits for the last accumulators but one. -/
theorem wp_part11 (c : Dev nD) (v4 v6 w : BitVec 32) :
    iprop(Ctx D ∗ ARing c true 15 ∗ ARing c false 15 ∗ Ow c [])
      ⊢ wp frame (wpE (defs₀ (F := F)) 𝒱₀ (c : Thread nD τ) none) Set.univ (k0_part11 (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 v4 v6 w) (fun _ => iprop(CameL D c true
        ∗ (Awaits c (.recv (true, false)) 14 ∗ Idle c (.send (true, false)) 15 ∗ anyR c (true, false) 1 ∗ Awaits c (.cred (true, false)) 14) ∗ Ow c [])) := by
  simp only [k0_part11_eq_skeleton]; unfold k0_part11_skel
  simp only [Prog.lift, Prog.bind_op, Prog.bind_ret, Prog.pure_eq_ret, Prog.bind_assoc]
  iintro ⟨#HC, HT, HF, HO⟩
  ihave HT := (ARing_last c true) $$ HT
  icases HT with ⟨HwT, HbT, HcT⟩
  ihave HF := (ARing_last c false) $$ HF
  icases HF with ⟨HwF, HbF, HcF⟩
  iapply (wp_asent D c true 14 (by omega) (dsem_eq (.send (true, true)) (fun _ => nofun) _ off1_15) (slotAt_amt (true, true) (par 15) off2_15) (allAbove_nil 0)) $$ [HbT HO]
  · isplitr; · iexact HC
    isplitl [HbT]; · iexact HbT
    iexact HO
  iintro ⟨HiT, H1T, HO⟩
  iapply (wp_acame D c true 14 (by omega) (dsem_eq (.recv (true, true)) (fun _ => nofun) _ off1_14) (slotAt_amt (true, true) (par 14) off2_14) (allAbove_nil _)) $$ [HwT HO]
  · isplitr; · iexact HC
    isplitl [HwT]; · iexact HwT
    iexact HO
  iintro ⟨HwT, HxT, -, HO⟩
  iapply (wp_asent D c false 14 (by omega) (dsem_eq (.send (true, false)) (fun _ => nofun) _ off1_15) (slotAt_amt (true, false) (par 15) off2_15) (allAbove_nil 0)) $$ [HbF HO]
  · isplitr; · iexact HC
    isplitl [HbF]; · iexact HbF
    iexact HO
  iintro ⟨HiF, H1F, HO⟩
  rw [wp_ret]
  imodintro
  unfold CameL RingDone
  rw [anyR_congr c (true, true) (show 1 % 2 = (14 + 1) % 2 from rfl), anyR_congr c (true, false) (show 1 % 2 = (14 + 1) % 2 from rfl),
    ownsR_congr c (true, true) (show 0 % 2 = 14 % 2 from rfl)]
  isplitl [HiT H1T HwT HxT HcT]
  · isplitl [HiT HwT HcT]
    · isplitl [HiT]; · iexact HiT
      isplitl [HwT]; · iexact HwT
      iexact HcT
    isplitl [H1T]; · iexact H1T
    iexact HxT
  isplitl [HwF HiF H1F HcF]
  · isplitl [HwF]; · iexact HwF
    isplitl [HiF]; · iexact HiF
    isplitl [H1F]; · iexact H1F
    iexact HcF
  iexact HO

/-- What a device starts the kernel with. -/
def Entry (c : Dev nD) (X Y : Vec F S1024x1024 .f32) : sProp 𝕄 :=
  iprop(Ctx D ∗ BarStart c ∗ (RingStart (F := F) c (false, true) ∗ RingStart (F := F) c (false, false) ∗ RingStart (F := F) c (true, true) ∗ RingStart (F := F) c (true, false))
    ∗ ((anyR c (false, true) 0 ∗ anyR c (false, true) 1) ∗ (anyR c (false, false) 0 ∗ anyR c (false, false) 1)
      ∗ (anyR c (true, true) 0 ∗ anyR c (true, true) 1) ∗ (anyR c (true, false) 0 ∗ anyR c (true, false) 1))
    ∗ WgtStart D c false ∗ WgtStart D c true
    ∗ owns (c : Thread nD τ) (Memref.whole cc0_stg0_0) fullShare X ∗ owns (c : Thread nD τ) (Memref.whole cc0_stg1_0) fullShare Y ∗ Ow c (dueL c))

/-- What a device ends the kernel with. -/
def Exit (c : Dev nD) (X : Vec F S1024x1024 .f32) : sProp 𝕄 :=
  iprop(atPos (ER (F := F)) (barCell c) 1 ∅ 0 ∗ (RingEnd c (false, true) ∗ RingEnd c (false, false) ∗ RingEnd c (true, true) ∗ RingEnd c (true, false))
    ∗ WgtEnd D c false ∗ WgtEnd D c true
    ∗ owns (c : Thread nD τ) (Memref.whole cc0_stg0_0) fullShare X ∗ ownsOut c (outH D c) ∗ Ow c [])

theorem pay1_eq (v : Vec F S512x1024 .f32) (v' : Vec F S1x512x1024 .f32) : k0_pay1 v v' = addf v (shapeCast S512x1024 v' sc3) := by
  unfold k0_pay1; rw [shapeCast_self v]
theorem pay2_eq (v : Vec F S512x1024 .f32) (v' : Vec F S1x512x1024 .f32) : k0_pay2 v v' = addf v (shapeCast S512x1024 v' sc3) := by
  unfold k0_pay2; rw [shapeCast_self v]

set_option maxHeartbeats 1000000 in
/-- The kernel's body on one device. -/
theorem wp_kernel (c : Dev nD) (X Y : Vec F S1024x1024 .f32) (hX : ∀ d, halfOf d X = D.x d c) :
    Entry D c X Y ⊢ wp frame (wpE (defs₀ (F := F)) 𝒱₀ (c : Thread nD τ) none) Set.univ (cc0_body (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19) (fun _ => Exit D c X) := by
  rw [cc0_body_eq_skeleton]; unfold cc0_body_skel Entry
  iintro ⟨#HC, HB, ⟨HsT, HsF, HsaT, HsaF⟩, ⟨⟨HT0, HT1⟩, ⟨HF0, HF1⟩, ⟨HaT0, HaT1⟩, ⟨HaF0, HaF1⟩⟩, HW1, HW2, HX, HY, HO⟩
  iapply (wp_seq c (wp_part8 D c X)) $$ [HB HT0 HT1 HF0 HF1 HaT0 HaF0 HX HO]
  · isplitr; · iexact HC
    isplitl [HB]; · iexact HB
    unfold Rooms
    isplitl [HT1 HaT0]
    · isplitl [HT1]; · iexact HT1
      iexact HaT0
    isplitl [HF1 HaF0]
    · isplitl [HF1]; · iexact HF1
      iexact HaF0
    isplitl [HT0]; · iexact HT0
    isplitl [HF0]; · iexact HF0
    isplitl [HX]; · iexact HX
    iexact HO
  iintro %r ⟨%hr, Hat, HpT, HpF, HT0, HF0, HX, HO⟩
  obtain ⟨d0, v4, v6, w, w'⟩ := r
  obtain rfl : d0 = c := hr
  unfold barPay
  icases HpT with ⟨HnT, HnaT⟩
  icases HpF with ⟨HnF, HnaF⟩
  rw [hX true, hX false]
  simp only [Prog.lift, Prog.bind_op, Prog.bind_ret, Prog.pure_eq_ret, Prog.bind_assoc]
  iapply (wp_seq d0 (wp_part9 D d0 v4 v6 w w')) $$ [HsT HsF HnT HnF HT0 HF0 HO]
  · isplitr; · iexact HC
    unfold FirstX
    isplitl [HsT HnT HT0]
    · isplitl [HsT]; · iexact HsT
      isplitl [HnT]; · iexact HnT
      rw [show cont D (false, true) d0 0 = D.x true d0 from rfl]; iexact HT0
    isplitl [HsF HnF HF0]
    · isplitl [HsF]; · iexact HsF
      isplitl [HnF]; · iexact HnF
      rw [show cont D (false, false) d0 0 = D.x false d0 from rfl]; iexact HF0
    iexact HO
  iintro %_ ⟨HXT, HXF, HO⟩
  iapply (wp_seq d0 (wp_part10 D d0 v4 v6 X Y)) $$ [HXT HXF HsaT HsaF HnaT HnaF HaT1 HaF1 HW1 HW2 HX HY HO]
  · isplitr; · iexact HC
    isplitl [HXT]; · iexact HXT
    isplitl [HXF]; · iexact HXF
    unfold FirstA
    isplitl [HsaT HnaT HaT1]
    · isplitl [HsaT]; · iexact HsaT
      isplitl [HnaT]; · iexact HnaT
      iexact HaT1
    isplitl [HsaF HnaF HaF1]
    · isplitl [HsaF]; · iexact HsaF
      isplitl [HnaF]; · iexact HnaF
      iexact HaF1
    isplitl [HW1]; · iexact HW1
    isplitl [HW2]; · iexact HW2
    isplitl [HX]; · iexact HX
    isplitl [HY]; · iexact HY
    iexact HO
  iintro %c14 H
  unfold Left
  icases H with ⟨HXT, HXF, HAT, HAF, HW1, HW2, HX, HY, HO⟩
  iapply (wp_seq d0 (wp_part11 D d0 v4 v6 c14)) $$ [HAT HAF HO]
  · isplitr; · iexact HC
    isplitl [HAT]; · iexact HAT
    isplitl [HAF]; · iexact HAF
    iexact HO
  iintro %_ ⟨HLT, ⟨HwF, HiF, H1F, HcF⟩, HO⟩
  iapply (wp_acame D d0 false 14 (by omega) (dsem_eq (.recv (true, false)) (fun _ => nofun) _ off1_14) (slotAt_amt (true, false) (par 14) off2_14) (allAbove_nil _)) $$ [HwF HO]
  · isplitr; · iexact HC
    isplitl [HwF]; · iexact HwF
    iexact HO
  iintro ⟨HwF, HxF, -, HO⟩
  unfold CameL
  icases HLT with ⟨HdT, H1T, HxT⟩
  iapply (wp_loadO d0 true rfl) $$ HY
  iintro HY
  iapply (wp_loadR d0 (true, true) 0 rfl rfl) $$ HxT
  iintro %v110 %h110 HxT
  iapply (wp_loadO d0 true rfl) $$ HY
  iintro HY
  iapply (wp_storeO d0 true rfl) $$ HY
  iintro HY
  iapply (wp_loadO d0 false rfl) $$ HY
  iintro HY
  iapply (wp_loadR d0 (true, false) 14 rfl rfl) $$ HxF
  iintro %v116 %h116 HxF
  iapply (wp_loadO d0 false rfl) $$ HY
  iintro HY
  iapply (wp_storeO d0 false rfl) $$ HY
  iintro HY
  rw [wp_ret]
  imodintro
  unfold Exit
  isplitl [Hat]; · iexact Hat
  isplitl [HXT HXF HdT H1T HxT HwF HiF H1F HcF HxF]
  · isplitl [HXT]; · iapply (XRing_end D d0 true); iexact HXT
    isplitl [HXF]; · iapply (XRing_end D d0 false); iexact HXF
    unfold RingEnd RingDone
    isplitl [HdT H1T HxT]
    · isplitl [HdT]; · iexact HdT
      isplitl [HxT]; · iapply (ownsR_any d0 (true, true) 0 _); iexact HxT
      iexact H1T
    isplitl [HwF HiF HcF]
    · isplitl [HiF]; · iexact HiF
      isplitl [HwF]; · iexact HwF
      iexact HcF
    isplitl [HxF]
    · rw [anyR_congr d0 (true, false) (show 0 % 2 = 14 % 2 from rfl)]
      iapply (ownsR_any d0 (true, false) 14 _); iexact HxF
    iexact H1F
  isplitl [HW1]; · iexact HW1
  isplitl [HW2]; · iexact HW2
  isplitl [HX]; · iexact HX
  isplitl [HY]
  · rw [show outH D d0 = Function.update (Function.update (fun d => comp D d0 (halfOf d X) zeroV 4) true
          (k0_pay1 (comp D d0 (halfOf true X) zeroV 4) v110))
        false (k0_pay2 (Function.update (fun d => comp D d0 (halfOf d X) zeroV 4) true (k0_pay1 (comp D d0 (halfOf true X) zeroV 4) v110) false) v116) by
      funext d
      cases d
      · rw [Function.update_self, Function.update_of_ne (by decide), pay2_eq, h116, hX]; rfl
      · rw [Function.update_of_ne (by decide), Function.update_self, pay1_eq, h110, hX]; rfl]
    iexact HY
  iexact HO

end Cert.Rings
-- ==== Proof.Credits.lean ====
/-
  The credit the launch deals each device: a token for every event some neighbour owes it.
-/
module

public import proofs.«01_k».proof.Proof.Leave

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]
local notation "𝕄" => MT nD τ sig ℕ (Elt F) ℕ UU ℕ

/-- The launch credit of a list of payments. -/
abbrev LC (l : Dev nD → List P1) (c : Dev nD) : sProp 𝕄 := Pipeline.launchCred (fun d => tallyL (l d)) c

theorem lc_append (l l' : Dev nD → List P1) (c : Dev nD) : LC (F := F) (fun d => l d ++ l' d) c ⊢ iprop(LC l c ∗ LC l' c) := by
  unfold LC
  rw [show (fun d => tallyL (l d ++ l' d)) = fun d => tallyL (l d) + tallyL (l' d) from funext fun d => tallyL_append _ _]
  exact Entails.of_eq (Pipeline.launchCred_add _ _ c)

theorem lc_cons (x : Dev nD → P1) (l : Dev nD → List P1) (c : Dev nD) :
    LC (F := F) (fun d => x d :: l d) c ⊢ iprop(Pipeline.launchCred (fun d => (x d).tally) c ∗ LC l c) :=
  Entails.of_eq (Pipeline.launchCred_add (fun d => (x d).tally) (fun d => tallyL (l d)) c)

theorem lc_ev (e : Dev nD ≃ Dev nD) (k : K) (j : ℕ) (c : Dev nD) :
    (Pipeline.launchCred (fun d => (pEv (e d) k j).tally) c : sProp 𝕄) ⊢ CredT (F := F) c k j :=
  Pipeline.launchCred_tallyAt (csem k (par (j + off k))) e e.symm (fun d => e.apply_symm_apply d) (fun d => e.symm_apply_apply d) (ix k j) (amt k) c

theorem lc_bar (e : Dev nD ≃ Dev nD) (c : Dev nD) :
    (Pipeline.launchCred (fun d => (pBar (e d)).tally) c : sProp 𝕄) ⊢ cred (tallyAt (barCell c) 1 1) :=
  Pipeline.launchCred_tallyAt (.reg barrier0) e e.symm (fun d => e.apply_symm_apply d) (fun d => e.symm_apply_apply d) 1 1 c

theorem Creds_put (c : Dev nD) {k : K} {j : ℕ} (h : j < cnt k) : iprop(CredT (F := F) c k j ∗ Creds c k (j + 1)) ⊢ Creds (F := F) c k j := by
  unfold Creds
  rw [ico_insert h, bigSep_insert (by simp)]; exact .rfl

theorem Creds_none (c : Dev nD) {k : K} {j : ℕ} (h : cnt k ≤ j) : (iprop(emp) : sProp 𝕄) ⊢ Creds (F := F) c k j := by
  unfold Creds
  rw [Finset.Ico_eq_empty_of_le h, bigSep_empty]; exact .rfl

/-- What the first part of a step's dues deals. -/
def MidC (c : Dev nD) (s : ℕ) : sProp 𝕄 :=
  iprop(CredT (F := F) c (.cred (false, true)) s ∗ CredT (F := F) c (.cred (false, false)) s
    ∗ CredT (F := F) c (.recv (false, true)) (s + 1) ∗ CredT (F := F) c (.recv (false, false)) (s + 1))
/-- What the second part of a step's dues deals. -/
def AccC (c : Dev nD) (s : ℕ) : sProp 𝕄 := iprop(CredT (F := F) c (.cred (true, true)) (s - 1) ∗ CredT (F := F) c (.cred (true, false)) (s - 1))
/-- What the last part of a step's dues deals. -/
def EndC (c : Dev nD) (s : ℕ) : sProp 𝕄 := iprop(CredT (F := F) c (.recv (true, true)) s ∗ CredT (F := F) c (.recv (true, false)) s)

theorem step_creds (c : Dev nD) (s : ℕ) :
    LC (F := F) (fun d => stepDue d s) c ⊢ iprop((if s ≤ 13 then MidC (F := F) c s else iprop(emp)) ∗ (if 1 ≤ s then AccC (F := F) c s else iprop(emp)) ∗ EndC (F := F) c s) := by
  unfold stepDue
  refine (lc_append _ _ c).trans (BIClass.sep_mono ?_ ((lc_append _ _ c).trans (BIClass.sep_mono ?_ ?_)))
  · by_cases h : s ≤ 13
    · simp only [if_pos h]
      unfold MidC
      refine (lc_cons _ _ c).trans (BIClass.sep_mono (lc_ev (nxEquiv true).symm _ _ c) ((lc_cons _ _ c).trans (BIClass.sep_mono (lc_ev (nxEquiv false).symm _ _ c) ?_)))
      refine (lc_cons _ _ c).trans (BIClass.sep_mono (lc_ev (nxEquiv true) _ _ c) ((lc_cons _ _ c).trans ?_))
      iintro ⟨H, -⟩
      iapply (lc_ev (nxEquiv false) _ _ c)
      iexact H
    · simp only [if_neg h]; iintro -; iempintro
  · by_cases h : 1 ≤ s
    · simp only [if_pos h]
      unfold AccC
      refine (lc_cons _ _ c).trans (BIClass.sep_mono (lc_ev (nxEquiv true).symm _ _ c) ((lc_cons _ _ c).trans ?_))
      iintro ⟨H, -⟩
      iapply (lc_ev (nxEquiv false).symm _ _ c)
      iexact H
    · simp only [if_neg h]; iintro -; iempintro
  · unfold EndC
    refine (lc_cons _ _ c).trans (BIClass.sep_mono (lc_ev (nxEquiv true) _ _ c) ((lc_cons _ _ c).trans ?_))
    iintro ⟨H, -⟩
    iapply (lc_ev (nxEquiv false) _ _ c)
    iexact H

/-- The tokens for the waits from step `s` on, of a direction. -/
def TailC (c : Dev nD) (d : Bool) (s : ℕ) : sProp 𝕄 :=
  iprop(Creds (F := F) c (.cred (false, d)) s ∗ Creds (F := F) c (.recv (false, d)) (s + 1) ∗ Creds (F := F) c (.cred (true, d)) (s - 1) ∗ Creds (F := F) c (.recv (true, d)) s)

theorem put_if (c : Dev nD) {k : K} {j : ℕ} {p : Prop} [Decidable p] (h : p → j < cnt k) (h' : ¬p → cnt k ≤ j) :
    iprop((if p then CredT (F := F) c k j else iprop(emp)) ∗ Creds c k (j + 1)) ⊢ Creds (F := F) c k j := by
  by_cases hp : p
  · simp only [if_pos hp]; exact Creds_put c (h hp)
  · simp only [if_neg hp]
    iintro -
    iapply (Creds_none c (h' hp))
    iempintro

theorem midC_split (c : Dev nD) (s : ℕ) :
    (if s ≤ 13 then MidC (F := F) c s else iprop(emp)) ⊢ iprop((if s ≤ 13 then CredT (F := F) c (.cred (false, true)) s else iprop(emp))
      ∗ (if s ≤ 13 then CredT (F := F) c (.cred (false, false)) s else iprop(emp))
      ∗ (if s ≤ 13 then CredT (F := F) c (.recv (false, true)) (s + 1) else iprop(emp)) ∗ (if s ≤ 13 then CredT (F := F) c (.recv (false, false)) (s + 1) else iprop(emp))) := by
  by_cases h : s ≤ 13
  · simp only [if_pos h]; unfold MidC; exact .rfl
  · simp only [if_neg h]
    iintro -
    isplitr; · iempintro
    isplitr; · iempintro
    isplitr <;> iempintro

theorem accC_put (c : Dev nD) {s : ℕ} (hs : s < 15) (d : Bool) (P : sProp 𝕄) (hP : 1 ≤ s → P ⊢ CredT (F := F) c (.cred (true, d)) (s - 1)) :
    iprop(P ∗ Creds (F := F) c (.cred (true, d)) s) ⊢ Creds (F := F) c (.cred (true, d)) (s - 1) := by
  by_cases h : 1 ≤ s
  · refine (sep_mono_left (hP h)).trans ?_
    obtain ⟨n, rfl⟩ : ∃ n, s = n + 1 := ⟨s - 1, by omega⟩
    exact Creds_put c (by show n < 14; omega)
  · obtain rfl : s = 0 := by omega
    iintro ⟨-, H⟩
    iexact H

theorem accC_split (c : Dev nD) (s : ℕ) :
    (if 1 ≤ s then AccC (F := F) c s else iprop(emp)) ⊢ iprop((if 1 ≤ s then CredT (F := F) c (.cred (true, true)) (s - 1) else iprop(emp))
      ∗ (if 1 ≤ s then CredT (F := F) c (.cred (true, false)) (s - 1) else iprop(emp))) := by
  by_cases h : 1 ≤ s
  · simp only [if_pos h]; unfold AccC; exact .rfl
  · simp only [if_neg h]
    iintro -
    isplitr <;> iempintro

theorem tail_put (c : Dev nD) (d : Bool) {s : ℕ} (hs : s < 15) :
    iprop((if s ≤ 13 then CredT (F := F) c (.cred (false, d)) s else iprop(emp)) ∗ (if s ≤ 13 then CredT (F := F) c (.recv (false, d)) (s + 1) else iprop(emp))
      ∗ (if 1 ≤ s then CredT (F := F) c (.cred (true, d)) (s - 1) else iprop(emp)) ∗ CredT (F := F) c (.recv (true, d)) s ∗ TailC c d (s + 1)) ⊢ TailC (F := F) c d s := by
  unfold TailC
  iintro ⟨H1, H2, H3, H4, T1, T2, T3, T4⟩
  isplitl [H1 T1]
  · iapply (put_if (F := F) c (k := .cred (false, d)) (j := s) (p := s ≤ 13) (fun h => by show s < 14; omega) (fun h => by show 14 ≤ s; omega))
    isplitl [H1]; · iexact H1
    iexact T1
  isplitl [H2 T2]
  · iapply (put_if (F := F) c (k := .recv (false, d)) (j := s + 1) (p := s ≤ 13) (fun h => by show s + 1 < 15; omega) (fun h => by show 15 ≤ s + 1; omega))
    isplitl [H2]; · iexact H2
    iexact T2
  isplitl [H3 T3]
  · iapply (accC_put (F := F) c hs d (if 1 ≤ s then CredT (F := F) c (.cred (true, d)) (s - 1) else iprop(emp)) fun h => by rw [if_pos h])
    isplitl [H3]; · iexact H3
    iexact T3
  iapply (Creds_put (F := F) c (k := .recv (true, d)) (j := s) (by show s < 15; omega))
  isplitl [H4]; · iexact H4
  iexact T4

theorem tail_none (c : Dev nD) (d : Bool) : (iprop(emp) : sProp 𝕄) ⊢ TailC (F := F) c d 15 := by
  unfold TailC
  iintro -
  isplitr; · iapply (Creds_none (F := F) c (k := .cred (false, d)) (j := 15) (by show 14 ≤ 15; omega)); iempintro
  isplitr; · iapply (Creds_none (F := F) c (k := .recv (false, d)) (j := 15 + 1) (by show 15 ≤ 15 + 1; omega)); iempintro
  isplitr; · iapply (Creds_none (F := F) c (k := .cred (true, d)) (j := 15 - 1) (by show 14 ≤ 15 - 1; omega)); iempintro
  iapply (Creds_none (F := F) c (k := .recv (true, d)) (j := 15) (by show 15 ≤ 15; omega)); iempintro

theorem last_creds (c : Dev nD) : ∀ n : ℕ, n ≤ 15 → LC (F := F) (fun d => lastDue d n) c ⊢ iprop(TailC (F := F) c true (15 - n) ∗ TailC (F := F) c false (15 - n))
  | 0, _ => by
    iintro -
    isplitr
    · iapply (tail_none (F := F) c true); iempintro
    · iapply (tail_none (F := F) c false); iempintro
  | n + 1, h => by
    obtain ⟨s, hs, hs'⟩ : ∃ s, 14 - n = s ∧ 15 - n = s + 1 := ⟨14 - n, rfl, by omega⟩
    have ih := last_creds c n (by omega)
    rw [hs'] at ih
    rw [show 15 - (n + 1) = s by omega]
    refine (show LC (F := F) (fun d => lastDue d (n + 1)) c ⊢ LC (F := F) (fun d => stepDue d s ++ lastDue d n) c by rw [← hs]; exact .rfl).trans ?_
    refine (lc_append _ _ c).trans ((BIClass.sep_mono (step_creds c s) ih).trans ?_)
    unfold EndC
    iintro ⟨⟨HM, HA, HE1, HE2⟩, HT, HF⟩
    ihave HM' := (midC_split c s) $$ HM
    ihave HA' := (accC_split c s) $$ HA
    icases HM' with ⟨M1, M2, M3, M4⟩
    icases HA' with ⟨A1, A2⟩
    isplitl [HT M1 M3 A1 HE1]
    · iapply (tail_put (F := F) c true (show s < 15 by omega))
      isplitl [M1]; · iexact M1
      isplitl [M3]; · iexact M3
      isplitl [A1]; · iexact A1
      isplitl [HE1]; · iexact HE1
      iexact HT
    · iapply (tail_put (F := F) c false (show s < 15 by omega))
      isplitl [M2]; · iexact M2
      isplitl [M4]; · iexact M4
      isplitl [A2]; · iexact A2
      isplitl [HE2]; · iexact HE2
      iexact HF

/-- The tokens for all of a direction's waits. -/
def AllC (c : Dev nD) (d : Bool) : sProp 𝕄 :=
  iprop(Creds (F := F) c (.recv (false, d)) 0 ∗ Creds (F := F) c (.cred (false, d)) 0 ∗ Creds (F := F) c (.recv (true, d)) 0 ∗ Creds (F := F) c (.cred (true, d)) 0)

theorem allC_of (c : Dev nD) (d : Bool) : iprop(CredT (F := F) c (.recv (false, d)) 0 ∗ TailC (F := F) c d 0) ⊢ AllC (F := F) c d := by
  unfold TailC AllC
  iintro ⟨H, T1, T2, T3, T4⟩
  isplitl [H T2]
  · iapply (Creds_put (F := F) c (k := .recv (false, d)) (j := 0) (by show 0 < 15; omega))
    isplitl [H]; · iexact H
    iexact T2
  isplitl [T1]; · iexact T1
  isplitl [T4]; · iexact T4
  iexact T3

theorem bar_two (c : Dev nD) : iprop(cred (tallyAt (barCell c) 1 1) ∗ cred (tallyAt (barCell c) 1 1)) ⊢ (cred (tallyAt (barCell c) 1 2) : sProp 𝕄) := by
  rw [show (tallyAt (barCell c) 1 2 : CellTallies nD τ sig ℕ) = tallyAt (barCell c) 1 1 + tallyAt (barCell c) 1 1 from (tallyAt_add (barCell c) 1 1 1).symm]
  exact (cred_add _ _).2

/-- What the launch deals device `c`. -/
theorem launch_creds (c : Dev nD) :
    LC (F := F) dueL c ⊢ iprop(cred (tallyAt (barCell c) 1 2) ∗ AllC (F := F) c true ∗ AllC (F := F) c false) := by
  refine (lc_append (fun d => [pBar (pv true d), pBar (pv false d), pEv (nx true d) (.recv (false, true)) 0, pEv (nx false d) (.recv (false, false)) 0]) (fun d => dueFrom d 0) c).trans ?_
  refine (BIClass.sep_mono ((lc_cons _ _ c).trans (BIClass.sep_mono (lc_bar (nxEquiv true).symm c) ((lc_cons _ _ c).trans (BIClass.sep_mono (lc_bar (nxEquiv false).symm c)
    ((lc_cons _ _ c).trans (BIClass.sep_mono (lc_ev (nxEquiv true) _ _ c) ((lc_cons _ _ c).trans (sep_mono_left (lc_ev (nxEquiv false) _ _ c))))))))) (last_creds c 15 (le_refl _))).trans ?_
  iintro ⟨⟨B1, B2, R1, R2, -⟩, HT, HF⟩
  isplitl [B1 B2]
  · iapply (bar_two (F := F) c)
    isplitl [B1]; · iexact B1
    iexact B2
  isplitl [R1 HT]
  · iapply (allC_of (F := F) c true)
    isplitl [R1]; · iexact R1
    iexact HT
  · iapply (allC_of (F := F) c false)
    isplitl [R2]; · iexact R2
    iexact HF

end Cert.Rings

end
-- ==== Proof.Deal.lean ====
/-
  The launch's ghost state: every semaphore following the schedule, the positions and duties dealt, and the semaphores given back at zero.
-/
module

public import proofs.«01_k».proof.Proof.Credits

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]
local notation "𝕄" => MT nD τ sig ℕ (Elt F) ℕ UU ℕ

/-! ## Bundles over the kinds -/

theorem sep_fin2 (Φ : Fin 2 → sProp 𝕄) : bigSep Finset.univ Φ = iprop(Φ 0 ∗ Φ 1) := BI.bigSep_fin_two Φ

theorem sep_bool (Φ : Bool → sProp 𝕄) : bigSep Finset.univ Φ = iprop(Φ true ∗ Φ false) :=
  bigSep_univ_eq_bigSepL [true, false] (by decide) (by decide) Φ

theorem sep_rings (Φ : Rg → sProp 𝕄) : bigSep Finset.univ Φ = iprop(Φ (false, true) ∗ Φ (false, false) ∗ Φ (true, true) ∗ Φ (true, false)) :=
  bigSep_univ_eq_bigSepL [(false, true), (false, false), (true, true), (true, false)] (by decide) (by decide) Φ

theorem sep_kinds (Φ : K → sProp 𝕄) : bigSep Finset.univ Φ = iprop((bigSep Finset.univ fun r => Φ (.send r)) ∗ (bigSep Finset.univ fun r => Φ (.recv r))
    ∗ (bigSep Finset.univ fun r => Φ (.cred r)) ∗ bigSep Finset.univ fun b => Φ (.wt b)) := by
  rw [bigSep_univ_equiv K.equiv Φ, BI.bigSep_univ_sum, BI.bigSep_univ_sum, BI.bigSep_univ_sum]
  rfl

theorem sep_option (Φ : Option (K × Fin 2) → sProp 𝕄) :
    bigSep Finset.univ Φ = iprop((bigSep Finset.univ fun kp : K × Fin 2 => Φ (some kp)) ∗ Φ none) := by
  rw [bigSep_univ_equiv (Equiv.optionEquivSumPUnit.{0, 0} (K × Fin 2)).symm Φ, BI.bigSep_univ_sum, BI.bigSep_univ_of_subsingleton PUnit.unit.{1}]
  rfl

theorem sep_pairs (Φ : K × Fin 2 → sProp 𝕄) : bigSep Finset.univ Φ = bigSep Finset.univ fun k : K => bigSep Finset.univ fun p : Fin 2 => Φ (k, p) :=
  BI.bigSep_univ_prod Φ

theorem sep_upto (n : ℕ) (Φ : ℕ → sProp 𝕄) : (bigSep Finset.univ fun i : Fin n => Φ i.val) = bigSep (Finset.Ico 0 n) Φ := by
  have e : Finset.Ico 0 n = (Finset.univ : Finset (Fin n)).map Fin.valEmbedding := by
    ext i; simp only [Finset.mem_Ico, Finset.mem_map, Finset.mem_univ, Fin.valEmbedding_apply, true_and]
    exact ⟨fun h => ⟨⟨i, h.2⟩, rfl⟩, fun ⟨j, hj⟩ => hj ▸ ⟨Nat.zero_le _, j.isLt⟩⟩
  rw [e, BI.bigSep_map]; rfl

theorem sep_join {I : Type} [Fintype I] (Φ Ψ : I → sProp 𝕄) :
    iprop((bigSep Finset.univ fun i => Φ i) ∗ (bigSep Finset.univ fun i => Ψ i)) ⊢ (bigSep Finset.univ fun i => iprop(Φ i ∗ Ψ i) : sProp 𝕄) :=
  Entails.of_eq (bigSep_sep' Finset.univ Φ Ψ).symm

theorem sep_part {I : Type} [Fintype I] (Φ Ψ : I → sProp 𝕄) :
    (bigSep Finset.univ fun i => iprop(Φ i ∗ Ψ i) : sProp 𝕄) ⊢ iprop((bigSep Finset.univ fun i => Φ i) ∗ (bigSep Finset.univ fun i => Ψ i)) :=
  Entails.of_eq (bigSep_sep' Finset.univ Φ Ψ)

/-! ## What is minted -/

/-- The kernel's own semaphores. -/
def osem (kp : K × Fin 2) : SemLoc sig := csem kp.1 kp.2

theorem cellOfI_inj : Function.Injective cellOfI := by
  rintro ⟨c, o⟩ ⟨c', o'⟩ h
  match o, o' with
  | some (k, p), some (k', p') =>
    obtain ⟨rfl, rfl, rfl⟩ := cell_inj (show cell c k p = cell c' k' p' from h)
    rfl
  | some (k, p), none => exact absurd (show cell c k p = barCell c' from h) (cell_ne_bar _ _ _ _)
  | none, some (k, p) => exact absurd (show barCell c = cell c' k p from h).symm (cell_ne_bar _ _ _ _)
  | none, none =>
    have h1 : (c : Thread nD τ) = c' := congrArg Prod.fst (show barCell c = barCell c' from h)
    obtain rfl : c = c' := congrArg Prod.fst h1
    rfl

/-- All the semaphores. -/
def ringCells : Finset (GSem nD τ sig) := Finset.univ.map ⟨cellOfI, cellOfI_inj⟩

/-- The names of a device's duties: the barrier's two, and each kind's events. -/
abbrev TI : Type := Bool ⊕ ((k : K) × Fin (cnt k))

/-- A duty by its name. -/
def tokOf (x : Dev nD × TI) : GSem nD τ sig × ℕ × Bool :=
  match x.2 with
  | .inl b => (barCell x.1, 0, b)
  | .inr y => (ev x.1 y.1 y.2.val, y.2.val / 2, false)

theorem tokOf_inj : Function.Injective tokOf := by
  rintro ⟨c, o⟩ ⟨c', o'⟩ h
  have h1 := congrArg Prod.fst h
  have h2 := congrArg Prod.snd h
  match o, o' with
  | .inr ⟨k, j⟩, .inr ⟨k', j'⟩ =>
    obtain ⟨rfl, rfl, hp⟩ := cell_inj (show cell c k (par (j.val + off k)) = cell c' k' (par (j'.val + off k')) from h1)
    have hr : j.val / 2 = j'.val / 2 := congrArg Prod.fst h2
    have e : j.val = j'.val := by rw [← evOf_ev k j.val, ← evOf_ev k j'.val, hp, hr]
    obtain rfl : j = j' := Fin.ext e
    rfl
  | .inr ⟨k, j⟩, .inl b => exact absurd (show cell c k (par (j.val + off k)) = barCell c' from h1) (cell_ne_bar _ _ _ _)
  | .inl b, .inr ⟨k, j⟩ => exact absurd (show barCell c = cell c' k (par (j.val + off k)) from h1).symm (cell_ne_bar _ _ _ _)
  | .inl b, .inl b' =>
    have h3 : (c : Thread nD τ) = c' := congrArg Prod.fst (show barCell c = barCell c' from h1)
    obtain rfl : c = c' := congrArg Prod.fst h3
    obtain rfl : b = b' := congrArg Prod.snd h2
    rfl

/-- All the duties. -/
def ringToks : Finset (GSem nD τ sig × ℕ × Bool) := Finset.univ.map ⟨tokOf, tokOf_inj⟩

/-- The duties of a device's own semaphores. -/
def toks (c : Dev nD) : sProp 𝕄 :=
  iprop((bigSep Finset.univ fun b : Bool => dutyTok (ER (F := F)) (barCell c) 0 b) ∗ bigSep Finset.univ fun k : K => Toks (F := F) c k 0)

variable (D : Data F)

/-- What the launch element deals device `c`. -/
def Gd (c : Dev nD) : sProp 𝕄 :=
  iprop((bigSep Finset.univ fun o : Option (K × Fin 2) => roundState (ER (F := F)) (Rd D) (cellOfI (c, o)) 0)
    ∗ (bigSep Finset.univ fun o : Option (K × Fin 2) => atPos (ER (F := F)) (cellOfI (c, o)) 0 ∅ 0)
    ∗ (bigSep Finset.univ fun o : Option (K × Fin 2) => crch (F := F) (c, o)) ∗ toks (F := F) c)

theorem toks_eq : bigSep ringToks (fun x => (dutyTok (ER (F := F)) x.1 x.2.1 x.2.2 : sProp 𝕄)) = bigSep Finset.univ fun c : Dev nD => toks (F := F) c := by
  unfold ringToks
  rw [BI.bigSep_map, BI.bigSep_univ_prod]
  refine bigSep_congr fun c _ => ?_
  rw [BI.bigSep_univ_sum, Pipeline.bigSep_univ_sigma]
  unfold toks Toks
  refine congrArg (fun Z : sProp 𝕄 => iprop((bigSep Finset.univ fun b : Bool => dutyTok (ER (F := F)) (barCell c) 0 b) ∗ Z)) ?_
  refine bigSep_congr fun k _ => ?_
  exact sep_upto (cnt k) (fun i => Tok (F := F) c k i)

theorem fund_ring : BI.own (ER (F := F) (initOf ringCells ringToks)) ⊢ (|==> bigSep Finset.univ (Gd D) : sProp 𝕄) := by
  have hX (Φ : GSem nD τ sig → sProp 𝕄) :
      bigSep ringCells Φ = bigSep Finset.univ fun c : Dev nD => bigSep Finset.univ fun o : Option (K × Fin 2) => Φ (cellOfI (c, o)) := by
    unfold ringCells; rw [BI.bigSep_map, BI.bigSep_univ_prod]; rfl
  iintro HX
  imod (Rounds.fund (ER (F := F)) (Rd D) ringCells ringToks) $$ HX with ⟨Hst, Hr, Hat, Htok⟩
  imodintro
  ihave Hst' := (Entails.of_eq (hX fun g => roundState (ER (F := F)) (Rd D) g 0)) $$ Hst
  ihave Hat' := (Entails.of_eq (hX fun g => atPos (ER (F := F)) g 0 ∅ 0)) $$ Hat
  ihave Hr' := (Entails.of_eq (hX fun g => reached (ER (F := F)) g 0)) $$ Hr
  ihave Htok' := (Entails.of_eq (toks_eq (F := F))) $$ Htok
  unfold Gd; simp only [bigSep_sep']
  isplitl [Hst']; · iexact Hst'
  isplitl [Hat']; · iexact Hat'
  isplitl [Hr']; · iexact Hr'
  iexact Htok'

/-! ## Who holds what -/

/-- Whose duty a kind's events are: a landing is the duty of the device it is written by, a credit of the device it is given by. -/
def payer : K → (Dev nD ≃ Dev nD)
  | .send _ => Equiv.refl _
  | .recv r => nxEquiv r.2
  | .cred r => (nxEquiv r.2).symm
  | .wt _ => Equiv.refl _

/-- The duties device `c` performs. -/
def mine (c : Dev nD) : sProp 𝕄 :=
  iprop((bigSep Finset.univ fun b : Bool => dutyTok (ER (F := F)) (barCell (pv b c)) 0 b) ∗ bigSep Finset.univ fun k : K => Toks (F := F) (payer k c) k 0)

theorem toks_around : (bigSep Finset.univ fun c : Dev nD => toks (F := F) c) ⊢ bigSep Finset.univ fun c : Dev nD => mine (F := F) c := by
  unfold toks mine
  rw [bigSep_sep', bigSep_sep']
  refine BIClass.sep_mono (Entails.of_eq ?_) (Entails.of_eq ?_)
  · rw [Pipeline.bigSep_univ_comm, Pipeline.bigSep_univ_comm (fun c : Dev nD => fun b : Bool => dutyTok (ER (F := F)) (barCell (pv b c)) 0 b)]
    refine bigSep_congr fun b _ => ?_
    exact bigSep_univ_equiv (nxEquiv b).symm (fun c : Dev nD => (dutyTok (ER (F := F)) (barCell c) 0 b : sProp 𝕄))
  · rw [Pipeline.bigSep_univ_comm, Pipeline.bigSep_univ_comm (fun c : Dev nD => fun k : K => Toks (F := F) (payer k c) k 0)]
    refine bigSep_congr fun k _ => ?_
    exact bigSep_univ_equiv (payer k) (fun c : Dev nD => (Toks (F := F) c k 0 : sProp 𝕄))

/-- Where device `c` stands at the launch. -/
def poss (c : Dev nD) : sProp 𝕄 := iprop((bigSep Finset.univ fun k : K => Pos (F := F) c k 0) ∗ atPos (ER (F := F)) (barCell c) 0 ∅ 0)

theorem par_off (k : K) (n : ℕ) : (par (n + off k) = 0 ∧ par (n + 1 + off k) = 1) ∨ (par (n + off k) = 1 ∧ par (n + 1 + off k) = 0) := by
  have h := Nat.mod_two_eq_zero_or_one (n + off k)
  rcases h with h | h
  · exact Or.inl ⟨Fin.ext h, Fin.ext (show (n + 1 + off k) % 2 = 1 by omega)⟩
  · exact Or.inr ⟨Fin.ext h, Fin.ext (show (n + 1 + off k) % 2 = 0 by omega)⟩

theorem pos_start (c : Dev nD) (k : K) : (bigSep Finset.univ fun p : Fin 2 => (atPos (ER (F := F)) (cell c k p) 0 ∅ 0 : sProp 𝕄)) ⊢ Pos (F := F) c k 0 := by
  rw [sep_fin2]
  unfold Pos ev
  rcases par_off k 0 with ⟨h0, h1⟩ | ⟨h0, h1⟩
  · rw [h0, h1]
  · rw [h0, h1]
    iintro ⟨H0, H1⟩
    isplitl [H1]; · iexact H1
    iexact H0

theorem poss_of (c : Dev nD) : (bigSep Finset.univ fun o : Option (K × Fin 2) => (atPos (ER (F := F)) (cellOfI (c, o)) 0 ∅ 0 : sProp 𝕄)) ⊢ poss (F := F) c := by
  rw [sep_option, sep_pairs]
  unfold poss
  exact sep_mono_left (bigSep_mono fun k _ => pos_start (F := F) c k)

/-- What the launch makes of it: the schedule known, and each device's positions and duties. -/
def Gd' (c : Dev nD) : sProp 𝕄 := iprop((bigSep Finset.univ (cinv D) ∗ bigSep Finset.univ (crch (F := F))) ∗ poss (F := F) c ∗ mine (F := F) c)

theorem sems_eq (c : Dev nD) :
    iprop(Pipeline.ownSems0 (Ix := ℕ) (Name := ℕ) (U := UU) (Lvl := ℕ) (Val := Elt F) (τ := τ) osem c ∗ unscopedSems0 c)
      = (bigSep Finset.univ fun o : Option (K × Fin 2) => semVal (cellOfI (c, o)) 0 : sProp 𝕄) := by
  have e : (unscopedSems0 c : sProp 𝕄) = semVal (barCell c) 0 := by
    unfold unscopedSems0; rw [bigSep_eq_bigSepL_of_eq [SemLoc.reg barrier0] (by decide) (by decide)]; rfl
  rw [sep_option, e]; rfl

theorem core_alloc (c : Dev nD) :
    iprop(Pipeline.ownSems0 (Ix := ℕ) (Name := ℕ) (U := UU) (Lvl := ℕ) (Val := Elt F) (τ := τ) osem c ∗ unscopedSems0 c ∗ Gd D c)
      ⊢ |={Set.univ}=> iprop((bigSep Finset.univ fun o : Option (K × Fin 2) => cinv D (c, o))
          ∗ poss (F := F) c ∗ (bigSep Finset.univ fun o : Option (K × Fin 2) => crch (F := F) (c, o)) ∗ toks (F := F) c) := by
  unfold Gd
  iintro ⟨Hos, Hus, Hst, Hat, Hr, Htok⟩
  ihave Hv := (Entails.of_eq (sems_eq (F := F) c)) $$ [Hos Hus]
  · isplitl [Hos] <;> iassumption
  imod (show iprop((bigSep Finset.univ fun o : Option (K × Fin 2) => semVal (cellOfI (c, o)) 0)
      ∗ bigSep Finset.univ fun o : Option (K × Fin 2) => roundState (ER (F := F)) (Rd D) (cellOfI (c, o)) 0)
      ⊢ (|={Set.univ}=> bigSep Finset.univ fun o : Option (K × Fin 2) => cinv D (c, o) : sProp 𝕄) from by
        rw [← bigSep_sep']
        exact (bigSep_mono fun o _ => (Rounds.body_intro (ER (F := F)) (Rd D) (cellOfI (c, o))).trans inv_alloc).trans (bigSep_fupd _ _)) $$ [Hv Hst] with Hinv
  · isplitl [Hv] <;> iassumption
  imodintro
  isplitl [Hinv]; · iexact Hinv
  isplitl [Hat]; · iapply (poss_of (F := F) c); iexact Hat
  isplitl [Hr]; · iexact Hr
  iexact Htok

theorem regroup :
    (bigSep Finset.univ fun c : Dev nD => iprop((bigSep Finset.univ fun o : Option (K × Fin 2) => cinv D (c, o))
          ∗ poss (F := F) c ∗ (bigSep Finset.univ fun o : Option (K × Fin 2) => crch (F := F) (c, o)) ∗ toks (F := F) c))
      ⊢ bigSep Finset.univ (Gd' D) := by
  rw [bigSep_sep', bigSep_sep', bigSep_sep', ← BI.bigSep_univ_prod (fun i : Ci => cinv D i), ← BI.bigSep_univ_prod (fun i : Ci => crch (F := F) i)]
  iintro ⟨#HI, Hp, #HR, Htok⟩
  ihave Htk := (toks_around (F := F)) $$ Htok
  iapply (BI.bigSep_with_persistent (R := iprop(bigSep Finset.univ (cinv D) ∗ bigSep Finset.univ (crch (F := F))))
    (Φ := fun c => iprop(poss (F := F) c ∗ mine (F := F) c)) fun c _ => show _ ⊢ Gd' D c from .rfl)
  isplitr
  · isplitr; · iexact HI
    iexact HR
  · rw [bigSep_sep']
    isplitl [Hp]; · iexact Hp
    iexact Htk

/-- The launch's step over all the semaphores at once. -/
theorem glob : (bigSep Finset.univ fun c => iprop(Pipeline.ownSems0 (Ix := ℕ) (Name := ℕ) (U := UU) (Lvl := ℕ) (Val := Elt F) (τ := τ) osem c ∗ unscopedSems0 c ∗ Gd D c))
    ⊢ |={Set.univ}=> bigSep Finset.univ (Gd' D) :=
  ((bigSep_mono fun c _ => core_alloc D c).trans (bigSep_fupd _ _)).trans (BI.fupd_mono (regroup D))

/-! ## Into the kernel and out of it -/

theorem idle_of (c : Dev nD) (k : K) : iprop(Ctx D ∗ Pos (F := F) c k 0 ∗ Toks (F := F) c k 0) ⊢ Idle (F := F) c k 0 := by
  unfold Idle
  iintro ⟨#HC, Hp, Ht⟩
  isplitl [Hp]; · iexact Hp
  isplitr; · iapply (Ctx_reach0 D c k); iexact HC
  iexact Ht

theorem awaits_of (c : Dev nD) (k : K) : iprop(Ctx D ∗ Pos (F := F) c k 0 ∗ Creds (F := F) c k 0) ⊢ Awaits (F := F) c k 0 := by
  unfold Awaits
  iintro ⟨#HC, Hp, Ht⟩
  isplitl [Hp]; · iexact Hp
  isplitr; · iapply (Ctx_reach0 D c k); iexact HC
  iexact Ht

theorem creds_rings (c : Dev nD) : iprop(AllC (F := F) c true ∗ AllC (F := F) c false)
    ⊢ bigSep Finset.univ fun r : Rg => iprop(Creds (F := F) c (.recv r) 0 ∗ Creds (F := F) c (.cred r) 0) := by
  rw [sep_rings]
  unfold AllC
  iintro ⟨⟨A1, A2, A3, A4⟩, B1, B2, B3, B4⟩
  isplitl [A1 A2]
  · isplitl [A1] <;> iassumption
  isplitl [B1 B2]
  · isplitl [B1] <;> iassumption
  isplitl [A3 A4]
  · isplitl [A3] <;> iassumption
  isplitl [B3] <;> iassumption

theorem ring_start (c : Dev nD) (r : Rg) : iprop(Ctx D ∗ ((Pos (F := F) c (.send r) 0 ∗ Toks (F := F) c (.send r) 0) ∗ (Pos (F := F) c (.recv r) 0 ∗ Toks (F := F) (nx r.2 c) (.recv r) 0)
    ∗ (Pos (F := F) c (.cred r) 0 ∗ Toks (F := F) (pv r.2 c) (.cred r) 0) ∗ (Creds (F := F) c (.recv r) 0 ∗ Creds (F := F) c (.cred r) 0))) ⊢ RingStart (F := F) c r := by
  unfold RingStart
  iintro ⟨#HC, ⟨P1, T1⟩, ⟨P2, T2⟩, ⟨P3, T3⟩, C2, C3⟩
  isplitl [P1 T1]
  · iapply (idle_of D c (.send r))
    isplitr; · iexact HC
    isplitl [P1] <;> iassumption
  isplitl [P2 C2]
  · iapply (awaits_of D c (.recv r))
    isplitr; · iexact HC
    isplitl [P2] <;> iassumption
  isplitl [P3 C3]
  · iapply (awaits_of D c (.cred r))
    isplitr; · iexact HC
    isplitl [P3] <;> iassumption
  isplitl [T2] <;> iassumption

/-- What a device holds at the launch is what the kernel begins with. -/
theorem start_of (c : Dev nD) :
    iprop(Ctx D ∗ (poss (F := F) c ∗ mine (F := F) c) ∗ cred (tallyAt (barCell c) 1 2) ∗ AllC (F := F) c true ∗ AllC (F := F) c false)
      ⊢ iprop(BarStart (F := F) c ∗ (RingStart (F := F) c (false, true) ∗ RingStart c (false, false) ∗ RingStart c (true, true) ∗ RingStart c (true, false))
        ∗ Idle (F := F) c (.wt true) 0 ∗ Idle (F := F) c (.wt false) 0) := by
  unfold poss mine BarStart
  rw [sep_bool, sep_kinds, sep_kinds, ← sep_rings (fun r => RingStart (F := F) c r)]
  iintro ⟨#HC, ⟨⟨⟨P1, P2, P3, P4⟩, Pb⟩, ⟨Bt, Bf⟩, T1, T2, T3, T4⟩, Hb, HA⟩
  isplitl [Bt Bf Pb Hb]
  · isplitl [Bt]; · iexact Bt
    isplitl [Bf]; · iexact Bf
    isplitl [Pb]; · iexact Pb
    iexact Hb
  isplitl [P1 P2 P3 T1 T2 T3 HA]
  · ihave HA' := (creds_rings (F := F) c) $$ HA
    iapply (BI.bigSep_with_persistent (R := Ctx D) fun r _ => ring_start D c r)
    isplitr; · iexact HC
    iapply (sep_join (F := F) (fun r : Rg => iprop(Pos (F := F) c (.send r) 0 ∗ Toks (F := F) c (.send r) 0)) _)
    isplitl [P1 T1]
    · iapply (sep_join (F := F) (fun r : Rg => Pos (F := F) c (.send r) 0) (fun r : Rg => Toks (F := F) c (.send r) 0))
      isplitl [P1]; · iexact P1
      iexact T1
    iapply (sep_join (F := F) (fun r : Rg => iprop(Pos (F := F) c (.recv r) 0 ∗ Toks (F := F) (nx r.2 c) (.recv r) 0)) _)
    isplitl [P2 T2]
    · iapply (sep_join (F := F) (fun r : Rg => Pos (F := F) c (.recv r) 0) (fun r : Rg => Toks (F := F) (nx r.2 c) (.recv r) 0))
      isplitl [P2]; · iexact P2
      iexact T2
    iapply (sep_join (F := F) (fun r : Rg => iprop(Pos (F := F) c (.cred r) 0 ∗ Toks (F := F) (pv r.2 c) (.cred r) 0)) _)
    isplitl [P3 T3]
    · iapply (sep_join (F := F) (fun r : Rg => Pos (F := F) c (.cred r) 0) (fun r : Rg => Toks (F := F) (pv r.2 c) (.cred r) 0))
      isplitl [P3]; · iexact P3
      iexact T3
    iexact HA'
  · ihave P4' := (Entails.of_eq (sep_bool (F := F) fun b => Pos (F := F) c (.wt b) 0)) $$ P4
    ihave T4' := (Entails.of_eq (sep_bool (F := F) fun b => Toks (F := F) (payer (.wt b) c) (.wt b) 0)) $$ T4
    icases P4' with ⟨P4, P5⟩
    icases T4' with ⟨T4, T5⟩
    isplitl [P4 T4]
    · iapply (idle_of D c (.wt true))
      isplitr; · iexact HC
      isplitl [P4]; · iexact P4
      iexact T4
    · iapply (idle_of D c (.wt false))
      isplitr; · iexact HC
      isplitl [P5]; · iexact P5
      iexact T5

/-- A pair of semaphores all whose events are past is at zero. -/
theorem pos_close (c : Dev nD) (k : K) :
    iprop(Ctx D ∗ Pos (F := F) c k (cnt k)) ⊢ |={Set.univ}=> (bigSep Finset.univ fun p : Fin 2 => (semVal (cell c k p) 0 : sProp 𝕄)) := by
  unfold Pos
  iintro ⟨#HC, H0, H1⟩
  ihave HI0 := (Ctx_cell D c k (par (cnt k + off k))) $$ HC
  icases HI0 with ⟨%κ, #HI0⟩
  ihave HI1 := (Ctx_cell D c k (par (cnt k + 1 + off k))) $$ HC
  icases HI1 with ⟨%κ', #HI1⟩
  imod (Rounds.cell_close (ER (F := F)) (Rd D) (g := ev c k (cnt k)) (Set.mem_univ κ) (fun h => h) (R := cnt k / 2)
    (fun r hr => duties_ev_last c (le_refl _) hr)) $$ [H0] with Z0
  · isplitr; · iexact HI0
    iexact H0
  imod (Rounds.cell_close (ER (F := F)) (Rd D) (g := ev c k (cnt k + 1)) (Set.mem_univ κ') (fun h => h) (R := (cnt k + 1) / 2)
    (fun r hr => duties_ev_last c (Nat.le_succ _) hr)) $$ [H1] with Z1
  · isplitr; · iexact HI1
    iexact H1
  imodintro
  rw [sep_fin2]
  unfold ev
  rcases par_off k (cnt k) with ⟨h0, h1⟩ | ⟨h0, h1⟩
  · rw [h0, h1]
    isplitl [Z0]; · iexact Z0
    iexact Z1
  · rw [h0, h1]
    isplitl [Z1]; · iexact Z1
    iexact Z0

theorem bar_close (c : Dev nD) : iprop(Ctx D ∗ atPos (ER (F := F)) (barCell c) 1 ∅ 0) ⊢ |={Set.univ}=> (semVal (barCell c) 0 : sProp 𝕄) := by
  iintro ⟨#HC, H0⟩
  ihave HI0 := (Ctx_bar D c) $$ HC
  icases HI0 with ⟨%κ, #HI0⟩
  imod (Rounds.cell_close (ER (F := F)) (Rd D) (g := barCell c) (Set.mem_univ κ) (fun h => h) (R := 1)
    (fun r hr => duties_bar_last c hr)) $$ [H0] with Z0
  · isplitr; · iexact HI0
    iexact H0
  imodintro
  iexact Z0

/-- All of a device's semaphores are at zero once all events are past. -/
theorem close_all (c : Dev nD) :
    iprop(Ctx D ∗ (bigSep Finset.univ fun k : K => Pos (F := F) c k (cnt k)) ∗ atPos (ER (F := F)) (barCell c) 1 ∅ 0)
      ⊢ |={Set.univ}=> iprop(Pipeline.ownSems0 (Ix := ℕ) (Name := ℕ) (U := UU) (Lvl := ℕ) (Val := Elt F) (τ := τ) osem c ∗ unscopedSems0 c) := by
  rw [sems_eq, sep_option, sep_pairs]
  iintro ⟨#HC, Hp, Hb⟩
  imod (show iprop(Ctx D ∗ bigSep Finset.univ fun k : K => Pos (F := F) c k (cnt k))
      ⊢ (|={Set.univ}=> bigSep Finset.univ fun k : K => bigSep Finset.univ fun p : Fin 2 => semVal (cell c k p) 0 : sProp 𝕄)
    from (BI.bigSep_with_persistent (R := Ctx D) fun k _ => pos_close D c k).trans (bigSep_fupd _ _)) $$ [Hp] with HZ
  · isplitr; · iexact HC
    iexact Hp
  imod (bar_close D c) $$ [Hb] with HB
  · isplitr; · iexact HC
    iexact Hb
  imodintro
  isplitl [HZ]; · iexact HZ
  iexact HB

/-- What the kernel leaves of a ring is where the device stands at the end. -/
theorem ring_pos (c : Dev nD) (r : Rg) : RingDone (F := F) c r ⊢ iprop(Pos (F := F) c (.send r) 15 ∗ Pos (F := F) c (.recv r) 15 ∗ Pos (F := F) c (.cred r) 14) := by
  unfold RingDone Idle Awaits
  iintro ⟨⟨H1, -⟩, ⟨H2, -⟩, H3, -⟩
  isplitl [H1]; · iexact H1
  isplitl [H2]; · iexact H2
  iexact H3

theorem idle_pos (c : Dev nD) (b : Bool) : Idle (F := F) c (.wt b) 64 ⊢ Pos (F := F) c (.wt b) 64 := by
  unfold Idle
  iintro ⟨H1, -⟩
  iexact H1

theorem end_pos (c : Dev nD) :
    iprop((RingDone (F := F) c (false, true) ∗ RingDone (F := F) c (false, false) ∗ RingDone (F := F) c (true, true) ∗ RingDone (F := F) c (true, false))
      ∗ Idle (F := F) c (.wt true) 64 ∗ Idle (F := F) c (.wt false) 64) ⊢ bigSep Finset.univ fun k : K => Pos (F := F) c k (cnt k) := by
  rw [sep_kinds, ← sep_rings (fun r => RingDone (F := F) c r)]
  iintro ⟨HR, HW1, HW2⟩
  ihave HR' := (show (bigSep Finset.univ fun r : Rg => RingDone (F := F) c r) ⊢ bigSep Finset.univ fun r : Rg =>
    iprop(Pos (F := F) c (.send r) 15 ∗ Pos (F := F) c (.recv r) 15 ∗ Pos (F := F) c (.cred r) 14) from bigSep_mono fun r _ => ring_pos (F := F) c r) $$ HR
  ihave HR1 := (sep_part (F := F) _ _) $$ HR'
  icases HR1 with ⟨H1, HR2⟩
  ihave HR3 := (sep_part (F := F) _ _) $$ HR2
  icases HR3 with ⟨H2, H3⟩
  isplitl [H1]; · iexact H1
  isplitl [H2]; · iexact H2
  isplitl [H3]; · iexact H3
  rw [sep_bool]
  isplitl [HW1]; · iapply (idle_pos (F := F) c true); iexact HW1
  iapply (idle_pos (F := F) c false); iexact HW2

end Cert.Rings

end
-- ==== Proof.Slots.lean ====
/-
  The scratch buffers as pairs of blocks, and the weights as four chunks each: a buffer whole is its blocks, and back.
-/
module

public import proofs.«01_k».proof.Proof.Leave

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]
local notation "𝕄" => MT nD τ sig ℕ (Elt F) ℕ UU ℕ

theorem fin2 (Φ : Fin 2 → sProp 𝕄) : bigSep Finset.univ Φ = iprop(Φ 0 ∗ Φ 1) := BI.bigSep_fin_two Φ

section Squeeze
variable {sp : Space} {s s' : Shape} {e : EltTy}

/-- A memref owned is its squeezed form owned, at some contents. -/
theorem owns_squeeze (c : Thread nD τ) (m : Memref sig c.2.kind sp s e) (h : s.Squeezes s') (q : PosShare TreeShare) (X : s.Idx → Elt F e) :
    (owns c m q X : sProp 𝕄) ⊢ iprop(∃ Y, owns c (m.squeeze s' h) q Y) := by
  unfold owns
  iintro ⟨%g, %hg, H⟩
  iexists ((m.squeeze s' h).view.read (Elt F) g)
  iexists g
  isplitr; · ipureintro; rfl
  have e1 : (m.squeeze s' h).view.set = m.view.set := View.set_reshape _ _
  rw [e1]
  iexact H

/-- And back. -/
theorem owns_unsqueeze (c : Thread nD τ) (m : Memref sig c.2.kind sp s e) (h : s.Squeezes s') (q : PosShare TreeShare) (Y : s'.Idx → Elt F e) :
    (owns c (m.squeeze s' h) q Y : sProp 𝕄) ⊢ iprop(∃ X, owns c m q X) := by
  unfold owns
  iintro ⟨%g, %hg, H⟩
  iexists (m.view.read (Elt F) g)
  iexists g
  isplitr; · ipureintro; rfl
  have e1 : (m.squeeze s' h).view.set = m.view.set := View.set_reshape _ _
  rw [e1]
  iexact H

/-- Contents given on two disjoint parts. -/
theorem two_parts (r : Fin 2 → Rect s) (hd : ∀ t t', t ≠ t' → Disjoint (r t).set (r t').set) [Nonempty (Elt F e)] (Y : (t : Fin 2) → (r t).shape.Idx → Elt F e) :
    ∃ X : s.Idx → Elt F e, ∀ t, (fun j => X ((r t).emb j)) = Y t := by
  refine ⟨(r 1).overlay ((r 0).overlay (fun _ => Classical.arbitrary _) (Y 0)) (Y 1), fun t => funext fun j => ?_⟩
  match t with
  | 0 =>
    refine (Rect.overlay_of_not_mem _ _ _ fun h => ?_).trans (Rect.overlay_emb _ _ _ _)
    exact Finset.disjoint_left.mp (hd 0 1 (by decide)) ((r 0).idx_mem j) h
  | 1 => exact Rect.overlay_emb _ _ _ _

end Squeeze

set_option backward.proofsInPublic true in
abbrev slotR (p : Fin 2) : Rect S2x512x1024 := Rect.unit (s := S2x512x1024) ![p.val, 0, 0] S1x512x1024.size (slot_inb p)

set_option backward.proofsInPublic true in
abbrev wslotR (p : Fin 2) : Rect S2x1024x1024 := Rect.unit (s := S2x1024x1024) ![p.val, 0, 0] S1x1024x1024.size (wslot_inb p)

set_option backward.proofsInPublic true in
abbrev chunkR1 (p : Fin 4) : Rect S1024x4096 := Rect.unit (s := S1024x4096) ![0, 1024 * p.val] S1024x1024.size (chunk1_inb p)

set_option backward.proofsInPublic true in
abbrev chunkR2 (p : Fin 4) : Rect S4096x1024 := Rect.unit (s := S4096x1024) ![1024 * p.val, 0] S1024x1024.size (chunk2_inb p)

theorem slotR_disj (t t' : Fin 2) (h : t ≠ t') : Disjoint (slotR t).set (slotR t').set := by
  refine Finset.disjoint_left.mpr fun j hj hj' => h ?_
  rw [Rect.mem_set_unit] at hj hj'
  have a1 : t.val ≤ (j 0).val := (hj 0).1
  have a2 : (j 0).val < t.val + 1 := (hj 0).2
  have b1 : t'.val ≤ (j 0).val := (hj' 0).1
  have b2 : (j 0).val < t'.val + 1 := (hj' 0).2
  exact Fin.ext (by omega)

theorem slotR_cov : (Finset.univ : Finset (Fin 2)).biUnion (fun t => (slotR t).set) = Finset.univ := by
  refine Finset.eq_univ_iff_forall.mpr fun j => ?_
  have h0 : (j 0).val < 2 := (j 0).isLt
  have h1 : (j 1).val < 512 := (j 1).isLt
  have h2 : (j 2).val < 1024 := (j 2).isLt
  refine Finset.mem_biUnion.mpr ⟨⟨(j 0).val, by omega⟩, Finset.mem_univ _, ?_⟩
  rw [Rect.mem_set_unit]
  intro a
  match a with
  | 0 => exact ⟨by show (j 0).val ≤ (j 0).val; omega, by show (j 0).val < (j 0).val + 1; omega⟩
  | 1 => exact ⟨Nat.zero_le _, by show (j 1).val < 0 + 512; omega⟩
  | 2 => exact ⟨Nat.zero_le _, by show (j 2).val < 0 + 1024; omega⟩

theorem wslotR_disj (t t' : Fin 2) (h : t ≠ t') : Disjoint (wslotR t).set (wslotR t').set := by
  refine Finset.disjoint_left.mpr fun j hj hj' => h ?_
  rw [Rect.mem_set_unit] at hj hj'
  have a1 : t.val ≤ (j 0).val := (hj 0).1
  have a2 : (j 0).val < t.val + 1 := (hj 0).2
  have b1 : t'.val ≤ (j 0).val := (hj' 0).1
  have b2 : (j 0).val < t'.val + 1 := (hj' 0).2
  exact Fin.ext (by omega)

theorem wslotR_cov : (Finset.univ : Finset (Fin 2)).biUnion (fun t => (wslotR t).set) = Finset.univ := by
  refine Finset.eq_univ_iff_forall.mpr fun j => ?_
  have h0 : (j 0).val < 2 := (j 0).isLt
  have h1 : (j 1).val < 1024 := (j 1).isLt
  have h2 : (j 2).val < 1024 := (j 2).isLt
  refine Finset.mem_biUnion.mpr ⟨⟨(j 0).val, by omega⟩, Finset.mem_univ _, ?_⟩
  rw [Rect.mem_set_unit]
  intro a
  match a with
  | 0 => exact ⟨by show (j 0).val ≤ (j 0).val; omega, by show (j 0).val < (j 0).val + 1; omega⟩
  | 1 => exact ⟨Nat.zero_le _, by show (j 1).val < 0 + 1024; omega⟩
  | 2 => exact ⟨Nat.zero_le _, by show (j 2).val < 0 + 1024; omega⟩

theorem chunkR1_disj (t t' : Fin 4) (h : t ≠ t') : Disjoint (chunkR1 t).set (chunkR1 t').set := by
  refine Finset.disjoint_left.mpr fun j hj hj' => h ?_
  rw [Rect.mem_set_unit] at hj hj'
  have a1 : 1024 * t.val ≤ (j 1).val := (hj 1).1
  have a2 : (j 1).val < 1024 * t.val + 1024 := (hj 1).2
  have b1 : 1024 * t'.val ≤ (j 1).val := (hj' 1).1
  have b2 : (j 1).val < 1024 * t'.val + 1024 := (hj' 1).2
  exact Fin.ext (by omega)

theorem chunkR1_cov : (Finset.univ : Finset (Fin 4)).biUnion (fun t => (chunkR1 t).set) = Finset.univ := by
  refine Finset.eq_univ_iff_forall.mpr fun j => ?_
  have h0 : (j 0).val < 1024 := (j 0).isLt
  have h1 : (j 1).val < 4096 := (j 1).isLt
  refine Finset.mem_biUnion.mpr ⟨⟨(j 1).val / 1024, by omega⟩, Finset.mem_univ _, ?_⟩
  rw [Rect.mem_set_unit]
  intro a
  match a with
  | 0 => exact ⟨Nat.zero_le _, by show (j 0).val < 0 + 1024; omega⟩
  | 1 => exact ⟨by show 1024 * ((j 1).val / 1024) ≤ (j 1).val; omega, by show (j 1).val < 1024 * ((j 1).val / 1024) + 1024; omega⟩

theorem chunkR2_disj (t t' : Fin 4) (h : t ≠ t') : Disjoint (chunkR2 t).set (chunkR2 t').set := by
  refine Finset.disjoint_left.mpr fun j hj hj' => h ?_
  rw [Rect.mem_set_unit] at hj hj'
  have a1 : 1024 * t.val ≤ (j 0).val := (hj 0).1
  have a2 : (j 0).val < 1024 * t.val + 1024 := (hj 0).2
  have b1 : 1024 * t'.val ≤ (j 0).val := (hj' 0).1
  have b2 : (j 0).val < 1024 * t'.val + 1024 := (hj' 0).2
  exact Fin.ext (by omega)

theorem chunkR2_cov : (Finset.univ : Finset (Fin 4)).biUnion (fun t => (chunkR2 t).set) = Finset.univ := by
  refine Finset.eq_univ_iff_forall.mpr fun j => ?_
  have h0 : (j 0).val < 4096 := (j 0).isLt
  have h1 : (j 1).val < 1024 := (j 1).isLt
  refine Finset.mem_biUnion.mpr ⟨⟨(j 0).val / 1024, by omega⟩, Finset.mem_univ _, ?_⟩
  rw [Rect.mem_set_unit]
  intro a
  match a with
  | 0 => exact ⟨by show 1024 * ((j 0).val / 1024) ≤ (j 0).val; omega, by show (j 0).val < 1024 * ((j 0).val / 1024) + 1024; omega⟩
  | 1 => exact ⟨Nat.zero_le _, by show (j 1).val < 0 + 1024; omega⟩

/-- A double buffer is its two blocks. -/
theorem slots_split (c : Dev nD) (M : Memref sig .tc .vmem S2x512x1024 .f32) (X : Vec F S2x512x1024 .f32) :
    (owns (c : Thread nD τ) M fullShare X : sProp 𝕄)
      ⊢ iprop((∃ Y, owns (c : Thread nD τ) (slotAt M ![(0 : Fin 2).val, 0, 0] (slot_inb 0)) fullShare Y)
        ∗ (∃ Y, owns (c : Thread nD τ) (slotAt M ![(1 : Fin 2).val, 0, 0] (slot_inb 1)) fullShare Y)) := by
  refine (owns_rects (c : Thread nD τ) M fullShare slotR (fun _ _ => rfl) slotR_disj slotR_cov X).trans ?_
  rw [fin2]
  exact BIClass.sep_mono (owns_squeeze (F := F) (c : Thread nD τ) _ squeezes_S1x512x1024_S512x1024 fullShare _) (owns_squeeze (F := F) (c : Thread nD τ) _ squeezes_S1x512x1024_S512x1024 fullShare _)

/-- And back. -/
theorem slots_join (c : Dev nD) (M : Memref sig .tc .vmem S2x512x1024 .f32) :
    iprop((∃ Y, owns (c : Thread nD τ) (slotAt M ![(0 : Fin 2).val, 0, 0] (slot_inb 0)) fullShare Y)
        ∗ (∃ Y, owns (c : Thread nD τ) (slotAt M ![(1 : Fin 2).val, 0, 0] (slot_inb 1)) fullShare Y))
      ⊢ (iprop(∃ X : Vec F S2x512x1024 .f32, owns (c : Thread nD τ) M fullShare X) : sProp 𝕄) := by
  iintro ⟨⟨%Y0, H0⟩, %Y1, H1⟩
  ihave H0' := (owns_unsqueeze (F := F) (c : Thread nD τ) (M.slice (slotR 0) (fun _ => rfl)) squeezes_S1x512x1024_S512x1024 fullShare Y0) $$ H0
  ihave H1' := (owns_unsqueeze (F := F) (c : Thread nD τ) (M.slice (slotR 1) (fun _ => rfl)) squeezes_S1x512x1024_S512x1024 fullShare Y1) $$ H1
  icases H0' with ⟨%Z0, H0⟩
  icases H1' with ⟨%Z1, H1⟩
  haveI : Nonempty (Elt F .f32) := Elt.nonempty F _
  obtain ⟨X, hX⟩ := two_parts (F := F) (e := .f32) slotR slotR_disj (fun t => match t with | 0 => Z0 | 1 => Z1)
  iexists X
  iapply (owns_of_rects (c : Thread nD τ) M fullShare slotR (fun _ _ => rfl) slotR_disj slotR_cov X)
  rw [fin2]
  rw [show (fun j => X ((slotR 0).emb j)) = Z0 from hX 0, show (fun j => X ((slotR 1).emb j)) = Z1 from hX 1]
  isplitl [H0]; · iexact H0
  iexact H1

/-- A double buffer is its two blocks. -/
theorem wslots_split (c : Dev nD) (M : Memref sig .tc .vmem S2x1024x1024 .f32) (X : Vec F S2x1024x1024 .f32) :
    (owns (c : Thread nD τ) M fullShare X : sProp 𝕄)
      ⊢ iprop((∃ Y, owns (c : Thread nD τ) (wslotAt M ![(0 : Fin 2).val, 0, 0] (wslot_inb 0)) fullShare Y)
        ∗ (∃ Y, owns (c : Thread nD τ) (wslotAt M ![(1 : Fin 2).val, 0, 0] (wslot_inb 1)) fullShare Y)) := by
  refine (owns_rects (c : Thread nD τ) M fullShare wslotR (fun _ _ => rfl) wslotR_disj wslotR_cov X).trans ?_
  rw [fin2]
  exact BIClass.sep_mono (owns_squeeze (F := F) (c : Thread nD τ) _ squeezes_S1x1024x1024_S1024x1024 fullShare _) (owns_squeeze (F := F) (c : Thread nD τ) _ squeezes_S1x1024x1024_S1024x1024 fullShare _)

/-- And back. -/
theorem wslots_join (c : Dev nD) (M : Memref sig .tc .vmem S2x1024x1024 .f32) :
    iprop((∃ Y, owns (c : Thread nD τ) (wslotAt M ![(0 : Fin 2).val, 0, 0] (wslot_inb 0)) fullShare Y)
        ∗ (∃ Y, owns (c : Thread nD τ) (wslotAt M ![(1 : Fin 2).val, 0, 0] (wslot_inb 1)) fullShare Y))
      ⊢ (iprop(∃ X : Vec F S2x1024x1024 .f32, owns (c : Thread nD τ) M fullShare X) : sProp 𝕄) := by
  iintro ⟨⟨%Y0, H0⟩, %Y1, H1⟩
  ihave H0' := (owns_unsqueeze (F := F) (c : Thread nD τ) (M.slice (wslotR 0) (fun _ => rfl)) squeezes_S1x1024x1024_S1024x1024 fullShare Y0) $$ H0
  ihave H1' := (owns_unsqueeze (F := F) (c : Thread nD τ) (M.slice (wslotR 1) (fun _ => rfl)) squeezes_S1x1024x1024_S1024x1024 fullShare Y1) $$ H1
  icases H0' with ⟨%Z0, H0⟩
  icases H1' with ⟨%Z1, H1⟩
  haveI : Nonempty (Elt F .f32) := Elt.nonempty F _
  obtain ⟨X, hX⟩ := two_parts (F := F) (e := .f32) wslotR wslotR_disj (fun t => match t with | 0 => Z0 | 1 => Z1)
  iexists X
  iapply (owns_of_rects (c : Thread nD τ) M fullShare wslotR (fun _ _ => rfl) wslotR_disj wslotR_cov X)
  rw [fin2]
  rw [show (fun j => X ((wslotR 0).emb j)) = Z0 from hX 0, show (fun j => X ((wslotR 1).emb j)) = Z1 from hX 1]
  isplitl [H0]; · iexact H0
  iexact H1

/-- The whole of a scratch buffer is the two blocks of its ring. -/
theorem anyR_of (c : Dev nD) (r : Rg) (X : Vec F S2x512x1024 .f32) :
    (owns (c : Thread nD τ) (buf r) fullShare X : sProp 𝕄) ⊢ iprop(anyR (F := F) c r 0 ∗ anyR (F := F) c r 1) := slots_split c (buf r) X
theorem anyR_to (c : Dev nD) (r : Rg) :
    iprop(anyR (F := F) c r 0 ∗ anyR (F := F) c r 1) ⊢ iprop(∃ X, (owns (c : Thread nD τ) (buf r) fullShare X : sProp 𝕄)) := slots_join c (buf r)
theorem anyW_of (c : Dev nD) (b : Bool) (X : Vec F S2x1024x1024 .f32) :
    (owns (c : Thread nD τ) (wbuf b) fullShare X : sProp 𝕄) ⊢ iprop(anyW (F := F) c b 0 ∗ anyW (F := F) c b 1) := wslots_split c (wbuf b) X
theorem anyW_to (c : Dev nD) (b : Bool) :
    iprop(anyW (F := F) c b 0 ∗ anyW (F := F) c b 1) ⊢ iprop(∃ X, (owns (c : Thread nD τ) (wbuf b) fullShare X : sProp 𝕄)) := wslots_join c (wbuf b)

/-- The chunks of a first weight matrix. -/
def chunk1 (Y : Vec F S1024x4096 .f32) (k : Fin 4) : Vec F S1024x1024 .f32 := fun i => Y ((chunkR1 k).emb i)
/-- The chunks of a second weight matrix. -/
def chunk2 (Y : Vec F S4096x1024 .f32) (k : Fin 4) : Vec F S1024x1024 .f32 := fun i => Y ((chunkR2 k).emb i)

theorem chunks1 (c : Dev nD) (q : PosShare TreeShare) (Y : Vec F S1024x4096 .f32) :
    (owns (c : Thread nD τ) (Memref.whole main_arg1) q Y : sProp 𝕄)
      ⊢ bigSep Finset.univ fun k : Fin 4 => owns (c : Thread nD τ) (wsrc1 k) q (chunk1 Y k) :=
  owns_rects (c : Thread nD τ) (Memref.whole main_arg1) q chunkR1 (fun _ _ => rfl) chunkR1_disj chunkR1_cov Y
theorem chunks2 (c : Dev nD) (q : PosShare TreeShare) (Y : Vec F S4096x1024 .f32) :
    (owns (c : Thread nD τ) (Memref.whole main_arg2) q Y : sProp 𝕄)
      ⊢ bigSep Finset.univ fun k : Fin 4 => owns (c : Thread nD τ) (wsrc2 k) q (chunk2 Y k) :=
  owns_rects (c : Thread nD τ) (Memref.whole main_arg2) q chunkR2 (fun _ _ => rfl) chunkR2_disj chunkR2_cov Y

end Cert.Rings

end
-- ==== Proof.Launch.lean ====
/-
  The launch of the kernel on all the devices, and what its run leaves: the result's blocks, the arguments unchanged, every semaphore at zero.
-/
module

public import proofs.«01_k».proof.Proof.Deal
public import proofs.«01_k».proof.Proof.Slots
public import Idealize.ShloMosaic.Lib.Pipeline.CollectiveSegs

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.TalkSites (Pay tallyL tallyL_append tallyL_pos)
open Idealize.ShloMosaic.SiteBlocks (L lv mem_L mem_L' mayWait_of)

variable {F : FTy → Type} [FloatOps F]
local notation "𝕄" => MT nD τ sig ℕ (Elt F) ℕ UU ℕ

/-! ## The scratch buffers -/

theorem buf_open (c : Dev nD) (b : Ref sig .tc) (r : Rg) (h : ∀ f : b.ty.Contents (Elt F),
    (owns (c : Thread nD τ) (Memref.whole b) fullShare f : sProp 𝕄) ⊢ iprop(anyR (F := F) c r 0 ∗ anyR (F := F) c r 1)) :
    iprop(∃ f : Buf (Elt F) ((c : Thread nD τ).loc b), ((c : Thread nD τ).loc b) ↦{fullShare} f) ⊢ iprop(anyR (F := F) c r 0 ∗ anyR (F := F) c r 1) := by
  iintro ⟨%f, H⟩
  ihave H' := (Entails.of_eq (owns_whole (c : Thread nD τ) b fullShare f).symm) $$ H
  iapply (h f)
  iexact H'

theorem wbuf_open (c : Dev nD) (b : Ref sig .tc) (r : Bool) (h : ∀ f : b.ty.Contents (Elt F),
    (owns (c : Thread nD τ) (Memref.whole b) fullShare f : sProp 𝕄) ⊢ iprop(anyW (F := F) c r 0 ∗ anyW (F := F) c r 1)) :
    iprop(∃ f : Buf (Elt F) ((c : Thread nD τ).loc b), ((c : Thread nD τ).loc b) ↦{fullShare} f) ⊢ iprop(anyW (F := F) c r 0 ∗ anyW (F := F) c r 1) := by
  iintro ⟨%f, H⟩
  ihave H' := (Entails.of_eq (owns_whole (c : Thread nD τ) b fullShare f).symm) $$ H
  iapply (h f)
  iexact H'

theorem buf_close (c : Dev nD) (b : Ref sig .tc) {P : sProp 𝕄} (h : P ⊢ iprop(∃ f : b.ty.Contents (Elt F), (owns (c : Thread nD τ) (Memref.whole b) fullShare f : sProp 𝕄))) :
    P ⊢ iprop(∃ f : Buf (Elt F) ((c : Thread nD τ).loc b), ((c : Thread nD τ).loc b) ↦{fullShare} f) := by
  refine h.trans ?_
  iintro ⟨%f, H⟩
  ihave H' := (Entails.of_eq (owns_whole (c : Thread nD τ) b fullShare f)) $$ H
  iexists f
  iexact H'

/-- The blocks of all the scratch buffers. -/
def Scr (c : Dev nD) : sProp 𝕄 :=
  iprop((anyR (F := F) c (false, true) 0 ∗ anyR (F := F) c (false, true) 1) ∗ (anyR (F := F) c (false, false) 0 ∗ anyR (F := F) c (false, false) 1)
    ∗ (anyR (F := F) c (true, true) 0 ∗ anyR (F := F) c (true, true) 1) ∗ (anyR (F := F) c (true, false) 0 ∗ anyR (F := F) c (true, false) 1)
    ∗ (anyW (F := F) c false 0 ∗ anyW (F := F) c false 1) ∗ (anyW (F := F) c true 0 ∗ anyW (F := F) c true 1))

theorem scr_open (c : Dev nD) : (Pipeline.scopedRest cfg0.spec c : sProp 𝕄) ⊢ Scr (F := F) c := by
  refine (Entails.of_eq (scopedRest0_eq (Val := Elt F) c)).trans ?_
  unfold Scr
  exact BIClass.sep_mono (buf_open c cc0_scratch0 (false, true) fun f => anyR_of c (false, true) f)
    (BIClass.sep_mono (buf_open c cc0_scratch1 (false, false) fun f => anyR_of c (false, false) f)
      (BIClass.sep_mono (buf_open c cc0_scratch2 (true, true) fun f => anyR_of c (true, true) f)
        (BIClass.sep_mono (buf_open c cc0_scratch3 (true, false) fun f => anyR_of c (true, false) f)
          (BIClass.sep_mono (wbuf_open c cc0_scratch4 false fun f => anyW_of c false f) (wbuf_open c cc0_scratch5 true fun f => anyW_of c true f)))))

theorem scr_close (c : Dev nD) : Scr (F := F) c ⊢ (Pipeline.scopedRest cfg0.spec c : sProp 𝕄) := by
  refine BIBase.Entails.trans ?_ (Entails.of_eq (scopedRest0_eq (Val := Elt F) c).symm)
  unfold Scr
  exact BIClass.sep_mono (buf_close c cc0_scratch0 (anyR_to c (false, true)))
    (BIClass.sep_mono (buf_close c cc0_scratch1 (anyR_to c (false, false)))
      (BIClass.sep_mono (buf_close c cc0_scratch2 (anyR_to c (true, true)))
        (BIClass.sep_mono (buf_close c cc0_scratch3 (anyR_to c (true, false)))
          (BIClass.sep_mono (buf_close c cc0_scratch4 (anyW_to c false)) (buf_close c cc0_scratch5 (anyW_to c true))))))

/-! ## The launch's memory -/

variable (m : (ℓ : Loc nD τ sig) → Buf (Elt F) ℓ) (ρ : Dev nD → PrngReg)

/-- The memory at the launch: arbitrary contents, every semaphore counter zero, arbitrary generator registers. -/
def s₀ : MemSt nD τ sig (Elt F) := ⟨m, fun _ => 0, ρ⟩

/-- Device `c`'s block of `x`, as staged. -/
def xstg (c : Dev nD) : Vec F S1024x1024 .f32 :=
  (win0_0.blk (0 : Fin 1)).view.read (Elt F) ((s₀ m ρ).mem ((c : Thread nD τ).loc main_arg0))

/-- The data the memory holds. -/
def DM : Data F where
  x d c := halfOf d (xstg m ρ c)
  w b c k := match b with
    | false => chunk1 (m ((c : Thread nD τ).loc main_arg1)) k
    | true => chunk2 (m ((c : Thread nD τ).loc main_arg2)) k

/-- What the kernel leaves as device `c`'s block of the result. -/
def outAt (c : Dev nD) : Vec F S1024x1024 .f32 := glue (outH (DM m ρ) c)

/-- A share of device `c`'s two weight matrices. -/
def Wts (c : Dev nD) (q : PosShare TreeShare) : sProp 𝕄 :=
  iprop((((c : Thread nD τ).loc main_arg1) ↦{q} m ((c : Thread nD τ).loc main_arg1)) ∗ (((c : Thread nD τ).loc main_arg2) ↦{q} m ((c : Thread nD τ).loc main_arg2)))

theorem wts_share (c : Dev nD) : Wts m c fullShare ⊢ iprop(Wts m c fullShare.left ∗ Wts m c fullShare.right) := by
  unfold Wts
  iintro ⟨H1, H2⟩
  ihave H1' := (pointsTo_share (PosShare.mem_left_op_right fullShare)).1 $$ H1
  ihave H2' := (pointsTo_share (PosShare.mem_left_op_right fullShare)).1 $$ H2
  icases H1' with ⟨A1, B1⟩
  icases H2' with ⟨A2, B2⟩
  isplitl [A1 A2]
  · isplitl [A1]; · iexact A1
    iexact A2
  · isplitl [B1]; · iexact B1
    iexact B2

theorem sep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem wts_chunks (c : Dev nD) : Wts m c fullShare.right ⊢
    iprop((ownsSrc (DM m ρ) c false (ck 0) ∗ ownsSrc (DM m ρ) c false (ck 1) ∗ ownsSrc (DM m ρ) c false (ck 2) ∗ ownsSrc (DM m ρ) c false (ck 3))
      ∗ (ownsSrc (DM m ρ) c true (ck 0) ∗ ownsSrc (DM m ρ) c true (ck 1) ∗ ownsSrc (DM m ρ) c true (ck 2) ∗ ownsSrc (DM m ρ) c true (ck 3))) := by
  unfold Wts
  refine BIClass.sep_mono ?_ ?_
  · refine (Entails.of_eq (owns_whole (c : Thread nD τ) main_arg1 _ _).symm).trans ((chunks1 c _ _).trans ?_)
    rw [sep_fin4]; exact .rfl
  · refine (Entails.of_eq (owns_whole (c : Thread nD τ) main_arg2 _ _).symm).trans ((chunks2 c _ _).trans ?_)
    rw [sep_fin4]; exact .rfl

/-! ## The proof data -/

/-- What device `c` takes into the kernel. -/
def start (c : Dev nD) : sProp 𝕄 :=
  iprop(Ctx (DM m ρ) ∗ (poss (F := F) c ∗ mine (F := F) c) ∗ (cred (tallyAt (barCell c) 1 2) ∗ AllC (F := F) c true ∗ AllC (F := F) c false) ∗ Wts m c fullShare.right)

def Phi0 (c : Dev nD) : sProp 𝕄 := iprop(start m ρ c ∗ Pipeline.scopedRest cfg0.spec c)
def Phi1 (c : Dev nD) : sProp 𝕄 :=
  iprop(unscopedSems0 c ∗ Pipeline.ownSems0 (Ix := ℕ) (Name := ℕ) (U := UU) (Lvl := ℕ) (Val := Elt F) (τ := τ) osem c ∗ Pipeline.scopedRest cfg0.spec c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Phi0 m ρ c
    | ⟨_ + 1, _⟩ => Phi1 c
  q _ := fullShare
  owed t := match t with
    | ⟨0, _⟩ => tallyL (dueL c)
    | ⟨_ + 1, _⟩ => 0

/-- A staging buffer at given contents. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_owns (c : Dev nD) (b : Ref sig .tc) (X : b.ty.Contents (Elt F)) : (stg c b X : sProp 𝕄) = owns (c : Thread nD τ) (Memref.whole b) fullShare X :=
  (owns_whole_eq (c : Thread nD τ) b fullShare X).symm

def bodyPre (c : Dev nD) : sProp 𝕄 :=
  iprop(Phi0 m ρ c ∗ (dats m ρ 0 c).owesAt (0 : ℕ) t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Phi1 (F := F) c ∗ (dats m ρ 0 c).owesAt (0 : ℕ) t0_0.succ ∗ stg c cc0_stg0_0 (xstg m ρ c) ∗ stg c cc0_stg1_0 (outAt m ρ c))

theorem fetch_0 (t : Fin cfg0.N) : (cfg0.win (0 : Fin 2)).fetch t = true := by rw [fin_N0 t]; rfl

theorem before_x (c : Dev nD) (d) : (dats m ρ 0 c).before (0 : Fin 2) t0_0 d = xstg m ρ c := by
  unfold Dat.before; rw [if_pos (fetch_0 t0_0)]; rfl

theorem owes_in (c : Dev nD) : (dats m ρ 0 c).owesAt (0 : ℕ) t0_0.castSucc ⊢ Ow (F := F) c (dueL c) := by
  unfold Dat.owesAt Pipeline.owesWithin Ow
  iintro ⟨%W, %hW, HO⟩
  iexists W
  iexact HO

theorem owes_out (c : Dev nD) : Ow (F := F) c [] ⊢ (dats m ρ 0 c).owesAt (0 : ℕ) t0_0.succ := by
  unfold Dat.owesAt Pipeline.owesWithin Ow
  iintro ⟨%W, HO⟩
  iexists W
  isplitr; · ipureintro; exact fun _ _ => Or.inl trivial
  iexact HO

/-- What the launch gives is what the kernel begins with. -/
theorem entry_of (c : Dev nD) (Y : Vec F S1024x1024 .f32) :
    iprop(Phi0 m ρ c ∗ Ow (F := F) c (dueL c) ∗ owns (c : Thread nD τ) (Memref.whole cc0_stg0_0) fullShare (xstg m ρ c) ∗ owns (c : Thread nD τ) (Memref.whole cc0_stg1_0) fullShare Y)
      ⊢ iprop(Ctx (DM m ρ) ∗ Entry (DM m ρ) c (xstg m ρ c) Y) := by
  unfold Phi0 start Entry
  iintro ⟨⟨⟨#HC, HP, HCr, HW⟩, Hs⟩, HO, HX, HY⟩
  ihave Hst := (start_of (DM m ρ) c) $$ [HP HCr]
  · isplitr; · iexact HC
    isplitl [HP]; · iexact HP
    iexact HCr
  icases Hst with ⟨HB, HR, HI1, HI2⟩
  ihave Hs' := (scr_open (F := F) c) $$ Hs
  unfold Scr
  icases Hs' with ⟨S1, S2, S3, S4, ⟨W1, W2⟩, W3, W4⟩
  ihave HW' := (wts_chunks m ρ c) $$ HW
  icases HW' with ⟨⟨K1, K2, K3, K4⟩, L1, L2, L3, L4⟩
  isplitr; · iexact HC
  isplitr; · iexact HC
  isplitl [HB]; · iexact HB
  isplitl [HR]; · iexact HR
  isplitl [S1 S2 S3 S4]
  · isplitl [S1]; · iexact S1
    isplitl [S2]; · iexact S2
    isplitl [S3]; · iexact S3
    iexact S4
  unfold WgtStart
  isplitl [HI2 W1 W2 K1 K2 K3 K4]
  · isplitl [HI2]; · iexact HI2
    isplitl [W1]; · iexact W1
    isplitl [W2]; · iexact W2
    isplitl [K1]; · iexact K1
    isplitl [K2]; · iexact K2
    isplitl [K3]; · iexact K3
    iexact K4
  isplitl [HI1 W3 W4 L1 L2 L3 L4]
  · isplitl [HI1]; · iexact HI1
    isplitl [W3]; · iexact W3
    isplitl [W4]; · iexact W4
    isplitl [L1]; · iexact L1
    isplitl [L2]; · iexact L2
    isplitl [L3]; · iexact L3
    iexact L4
  isplitl [HX]; · iexact HX
  isplitl [HY]; · iexact HY
  iexact HO

/-- What the kernel ends with is what the launch asks back. -/
theorem exit_of (c : Dev nD) : iprop(Ctx (DM m ρ) ∗ Exit (DM m ρ) c (xstg m ρ c)) ⊢ |={Set.univ}=> bodyPost m ρ c := by
  unfold Exit RingEnd WgtEnd bodyPost Phi1
  iintro ⟨#HC, Hb, ⟨⟨R1, S1, S1'⟩, ⟨R2, S2, S2'⟩, ⟨R3, S3, S3'⟩, R4, S4, S4'⟩, ⟨I1, W1, W2, -⟩, ⟨I2, W3, W4, -⟩, HX, HY, HO⟩
  imod (close_all (DM m ρ) c) $$ [Hb R1 R2 R3 R4 I1 I2] with Hz
  · isplitr; · iexact HC
    isplitr [Hb]
    · iapply (end_pos (F := F) c)
      isplitl [R1 R2 R3 R4]
      · isplitl [R1]; · iexact R1
        isplitl [R2]; · iexact R2
        isplitl [R3]; · iexact R3
        iexact R4
      isplitl [I2]; · iexact I2
      iexact I1
    iexact Hb
  icases Hz with ⟨Hos, Hus⟩
  imodintro
  rw [stg_owns, stg_owns]
  isplitr [HX HY HO]
  · isplitl [Hus]; · iexact Hus
    isplitl [Hos]; · iexact Hos
    iapply (scr_close (F := F) c)
    unfold Scr
    isplitl [S1 S1']
    · isplitl [S1]; · iexact S1
      iexact S1'
    isplitl [S2 S2']
    · isplitl [S2]; · iexact S2
      iexact S2'
    isplitl [S3 S3']
    · isplitl [S3]; · iexact S3
      iexact S3'
    isplitl [S4 S4']
    · isplitl [S4]; · iexact S4
      iexact S4'
    isplitl [W1 W2]
    · isplitl [W1]; · iexact W1
      iexact W2
    isplitl [W3]; · iexact W3
    iexact W4
  isplitl [HO]; · iapply (owes_out m ρ c); iexact HO
  isplitl [HX]; · iexact HX
  unfold outAt
  iapply (ownsOut_glue (F := F) c (outH (DM m ρ) c))
  iexact HY

set_option maxRecDepth 4000 in
/-- The kernel's body, from what the launch gives to what it asks back. -/
theorem wp_body (c : Dev nD) : bodyPre m ρ c ⊢ wp frame (wpE (defs₀ (F := F)) 𝒱₀ (c : Thread nD τ) none) Set.univ (cc0_body (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19) (fun _ => bodyPost m ρ c) := by
  refine BIBase.Entails.trans ?_ (wp_fupd frame (wpE (defs₀ (F := F)) 𝒱₀ (c : Thread nD τ) none) Set.univ _ (fun _ => bodyPost m ρ c))
  unfold bodyPre
  iintro ⟨HP, Ho, ⟨%d, Hx⟩, ⟨%d', Hout⟩⟩
  ihave Hx := (Entails.of_eq ((congrArg (stg c cc0_stg0_0) (before_x m ρ c d)).trans (stg_owns c cc0_stg0_0 _))) $$ Hx
  ihave Hout := (Entails.of_eq (stg_owns c cc0_stg1_0 _)) $$ Hout
  ihave HO := (owes_in m ρ c) $$ Ho
  ihave HE := (entry_of m ρ c ((dats m ρ 0 c).before (1 : Fin 2) t0_0 d')) $$ [HP HO Hx Hout]
  · isplitl [HP]; · iexact HP
    isplitl [HO]; · iexact HO
    isplitl [Hx]; · iexact Hx
    iexact Hout
  icases HE with ⟨#HC, HE⟩
  ihave HW := (wp_kernel (DM m ρ) c (xstg m ρ c) _ fun _ => rfl) $$ HE
  iapply (wp_wand_r) $$ [HW]
  isplitl [HW]; · iexact HW
  iintro %_ H
  iapply (exit_of m ρ c)
  isplitr; · iexact HC
  iexact H

set_option maxRecDepth 4000 in
/-- The library's body obligation at device `c`. -/
theorem body_obligation (c : Dev nD) : BodyObligation (dats (F := F) m ρ 0 c) (defs₀ (F := F)) 𝒱₀ (0 : ℕ) Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (cc0_body (F := F) (Memref.whole cc0_stg0_0) (Memref.isWhole_whole _) (Memref.whole main_arg1) (Memref.isWhole_whole _) (Memref.whole main_arg2) (Memref.isWhole_whole _) (Memref.whole cc0_stg1_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19) (fun _ => bodyPost m ρ c)
  exact wp_body m ρ c

/-! ## The launch theorem's side conditions -/

theorem ownSemFacts : Pipeline.OwnSemFacts cfg0.spec osem := by decide

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf ringCells ringToks)

theorem start_intro (c : Dev nD) :
    iprop(Pipeline.unscopedRestP Pipeline.Prefetch.none cfg0.spec c (fun b => m ((c : Thread nD τ).loc b)) ∗ levAts (L NIx) lv
        ∗ Pipeline.launchCred (fun d => tallyL (dueL d)) c ∗ prngReg c (ρ c) ∗ Gd' (DM m ρ) c)
      ⊢ |={Set.univ}=> iprop(start m ρ c ∗ Wts m c fullShare.left) := by
  rw [Pipeline.unscopedRestP_none]
  refine (sep_mono_left (Entails.of_eq (unscopedRest0_eq c _))).trans ?_
  iintro ⟨HW, #Hlev, Hcr, -, HG⟩
  ihave Hc := (launch_creds (F := F) c) $$ Hcr
  ihave HW' := (wts_share (F := F) m c) $$ [HW]
  · unfold Wts; iexact HW
  icases HW' with ⟨HL, HR⟩
  unfold Gd'
  icases HG with ⟨⟨#HI, #HH⟩, HP, HM⟩
  imodintro
  isplitr [HL]
  · unfold start Ctx
    isplitr
    · isplitr; · iexact HI
      isplitr; · iexact HH
      iexact Hlev
    isplitl [HP HM]
    · isplitl [HP]; · iexact HP
      iexact HM
    isplitl [Hc]; · iexact Hc
    iexact HR
  · iexact HL

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  show _ ⊢ Phi0 m ρ c
  unfold Phi0
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  show Phi1 c ⊢ _
  exact .rfl

theorem mayWait_stage (c : Dev nD) (sm : SemLoc sig) (O : CellTallies nD τ sig ℕ) (hO : O = tallyL (dueL c) ∨ O = tallyL []) :
    (levAts (L NIx) lv : sProp 𝕄) ⊢ MayWait (c : Thread nD τ) sm 0 O := by
  rcases hO with rfl | rfl
  · exact mayWait_above (Nat.succ_pos _) c sm (allAbove_launch c)
  · exact mayWait_above (Nat.succ_pos _) c sm (allAbove_nil 0)

theorem waits (c : Dev nD) : (levAts (L NIx) lv : sProp 𝕄) ⊢ Pipeline.cellsWaits cfgs (dats m ρ) (0 : ℕ) 0 c :=
  Pipeline.cellsWaits_intro cfgs (dats m ρ) (0 : ℕ) 0 c fun w s t => by
    rcases t with ⟨_ | _, ht⟩
    · exact mayWait_stage c _ _ (Or.inl rfl)
    · exact mayWait_stage c _ _ (Or.inr rfl)

/-- What the weights' kept shares say at the end. -/
theorem wts_read (c : Dev nD) (s' : Phys nD τ sig (Elt F)) :
    iprop((unscopedSems0 c : sProp 𝕄) ∗ Wts m c fullShare.left ∗ SI s')
      ⊢ |={Set.univ}=> iprop(⌜(∀ sm : SemLoc sig, sm.isScoped .tc = false → s'.mem.sem ((c.tc : Thread nD τ), sm) = 0)
        ∧ s'.mem.mem ((c : Thread nD τ).loc main_arg1) = m ((c : Thread nD τ).loc main_arg1)
        ∧ s'.mem.mem ((c : Thread nD τ).loc main_arg2) = m ((c : Thread nD τ).loc main_arg2)⌝ ∗ SI s') := by
  unfold Wts
  iintro ⟨Hu, ⟨H1, H2⟩, HSI⟩
  ihave %h1 := SI_pointsTo_agree $$ [HSI H1]
  · isplitl [HSI] <;> iassumption
  ihave %h2 := SI_pointsTo_agree $$ [HSI H2]
  · isplitl [HSI] <;> iassumption
  imod (Pipeline.unscopedSems0_read (X := unscopedSems0 c) (c := c) fupd_intro s') $$ [Hu HSI] with ⟨%h0, HSI⟩
  · isplitl [Hu] <;> iassumption
  imodintro
  isplitr
  · ipureintro
    exact ⟨h0, funext fun i => h1 i (Finset.mem_univ i), funext fun i => h2 i (Finset.mem_univ i)⟩
  iexact HSI

/-! ## The run -/

/-- What every final state has: each device's result block, its three arguments unchanged, and all semaphores at zero. -/
def QC : PUnit × MemSt nD τ sig (Elt F) → Prop := fun r =>
  (∀ c : Dev nD, r.2.mem ((c : Thread nD τ).loc main_v1) = (dats m ρ 0 c).arrAt (1 : Fin 2) cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) ∧ r.2.sem = fun _ => 0

set_option maxRecDepth 8000 in
/-- Every weakly fair execution of the program on the sixteen devices, from any memory, terminates in such a state. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := fun c => tallyL (dueL c)) (howed₀ := fun _ => rfl) (howedN := fun _ => rfl)
    (L := L NIx) (lv := lv) (hL := Idealize.ShloMosaic.SiteBlocks.hL NIx) (hwaits := waits m ρ)
    (G := Gd (DM m ρ)) (G' := Gd' (DM m ρ)) (u₀ := u₀)
    (hu₀ := by
      unfold u₀
      iintro Hu
      ihave H := (ownU_pair _ _) $$ Hu
      icases H with ⟨HP, HX⟩
      imod (fund_ring (DM m ρ)) $$ HX with HG
      imodintro
      isplitl [HP] <;> iassumption)
    (hglob := glob (DM m ρ))
    (hA := fun _ _ => rfl) (hpf := fun _ k => k.elim0)
    (X := start m ρ) (Y := fun c => unscopedSems0 c) (Z := fun c => Wts m c fullShare.left)
    (hX := start_intro m ρ) (hin := phi0_intro m ρ) (hout := phi1_exit m ρ)
    (QY := fun c s => (∀ sm : SemLoc sig, sm.isScoped .tc = false → s.sem ((c.tc : Thread nD τ), sm) = 0)
        ∧ s.mem ((c : Thread nD τ).loc main_arg1) = m ((c : Thread nD τ).loc main_arg1)
        ∧ s.mem ((c : Thread nD τ).loc main_arg2) = m ((c : Thread nD τ).loc main_arg2))
    (hY := wts_read m)
    (hQ := fun _ h hs => ⟨fun c => ⟨(h c).1 (1 : Fin 2), ((h c).1 (0 : Fin 2)).trans ((dats (F := F) m ρ 0 c).arrAt_in (0 : Fin 2) rfl _), (h c).2.2.2.1, (h c).2.2.2.2⟩,
      sem_eq_zero hs fun c => (h c).2.2.1⟩)

end Cert.Rings

end
-- ==== Proof.Sums.lean ====
/-
  What the kernel leaves, as sums over devices, chunks and columns of the first weights.
-/
module

public import proofs.«01_k».proof.Proof.Leave
public import Idealize.ShloMosaic.Lib.Pointwise

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

/-- The activation of one product. -/
def gate (h : EReal) : EReal := h * Ideal.logistic h

/-- What one chunk adds to one element of the result. -/
def part (x : Vec Ideal S512x1024 .f32) (w1 w2 : Vec Ideal S1024x1024 .f32) (i : Fin 512) (l : Fin 1024) : EReal :=
  ∑ f : Fin 1024, gate (∑ p : Fin 1024, x (ix2 i p) * w1 (ix2 p f)) * w2 (ix2 f l)

theorem zeroV_apply (j : S512x1024.Idx) : zeroV (F := Ideal) j = (0 : EReal) := by
  unfold zeroV
  exact Ideal.ofBits_zero_f32

theorem actV_apply (x : Vec Ideal S512x1024 .f32) (w1 : Vec Ideal S1024x1024 .f32) (i : Fin 512) (f : Fin 1024) :
    actV x w1 (ix2 i f) = gate (∑ p : Fin 1024, x (ix2 i p) * w1 (ix2 p f)) := by
  unfold actV gate
  pointwise

theorem stepV_apply (x acc : Vec Ideal S512x1024 .f32) (w1 w2 : Vec Ideal S1024x1024 .f32) (i : Fin 512) (l : Fin 1024) :
    stepV x acc w1 w2 (ix2 i l) = (acc (ix2 i l) + part x w1 w2 i l : EReal) := by
  unfold stepV part
  pointwise
  simp only [actV_apply]

variable (D : Data Ideal)

/-- What one device adds to one element of the result for the rows `x`. -/
def devSum (e : Dev nD) (x : Vec Ideal S512x1024 .f32) (i : Fin 512) (l : Fin 1024) : EReal :=
  ∑ k : Fin 4, part x (D.w false e k) (D.w true e k) i l

theorem ck_val (k : Fin 4) : ck k.val = k := Fin.ext (Nat.mod_eq_of_lt k.isLt)

theorem comp_apply (c : Dev nD) (x acc : Vec Ideal S512x1024 .f32) (i : Fin 512) (l : Fin 1024) :
    comp D c x acc 4 (ix2 i l) = (acc (ix2 i l) + devSum D c x i l : EReal) := by
  have h (n : ℕ) : comp D c x acc n (ix2 i l)
      = (acc (ix2 i l) + ∑ k ∈ Finset.range n, part x (D.w false c (ck k)) (D.w true c (ck k)) i l : EReal) := by
    induction n with
    | zero => simp only [Finset.range_zero, Finset.sum_empty, add_zero]; rfl
    | succ n ih => rw [Finset.sum_range_succ, ← add_assoc, ← ih]; exact stepV_apply _ _ _ _ _ _
  rw [h 4, Finset.sum_range]
  unfold devSum
  simp only [ck_val]

theorem accV_apply (d : Bool) (n : ℕ) (c : Dev nD) (i : Fin 512) (l : Fin 1024) :
    accV D d n c (ix2 i l) = (∑ t ∈ Finset.range (n + 1), devSum D (back d t c) (D.x d (back d (n + 1) c)) i l : EReal) := by
  induction n generalizing c with
  | zero =>
    refine (comp_apply D c _ _ i l).trans ?_
    rw [zeroV_apply, zero_add, Finset.sum_range_one]
    rfl
  | succ n ih =>
    refine (comp_apply D c _ _ i l).trans ?_
    rw [ih, Finset.sum_range_succ' _ (n + 1)]
    rfl

theorem back_val (d : Bool) (t : ℕ) (c : Dev nD) : (back d t c).val = (c.val + t * (if d then 15 else 1)) % 16 := by
  induction t generalizing c with
  | zero => have := c.isLt; show c.val = _; rw [Nat.zero_mul, Nat.add_zero, Nat.mod_eq_of_lt this]
  | succ t ih =>
    show (back d t (pv d c)).val = _
    rw [ih]
    cases d
    · show ((c.val + 1) % 16 + t * 1) % 16 = (c.val + (t + 1) * 1) % 16
      omega
    · show ((c.val + 15) % 16 + t * 15) % 16 = (c.val + (t + 1) * 15) % 16
      omega

/-- Going back sixteen times passes every device once. -/
theorem back_bij (d : Bool) (c : Dev nD) : Function.Bijective fun t : Fin 16 => back d t.val c := by
  refine (Finite.injective_iff_bijective).mp fun t t' h => Fin.ext ?_
  have h' := congrArg Fin.val h
  simp only [back_val] at h'
  have := t.isLt
  have := t'.isLt
  cases d
  · simp only [Bool.false_eq_true, if_false] at h'; omega
  · simp only [if_true] at h'; omega

theorem back_16 (d : Bool) (c : Dev nD) : back d 16 c = c := by
  refine Fin.ext ?_
  rw [back_val]
  have : c.val < 16 := c.isLt
  cases d
  · simp only [Bool.false_eq_true, if_false]; omega
  · simp only [if_true]; omega

/-- A half of a device's result sums what every device adds for its rows. -/
theorem outH_apply (c : Dev nD) (d : Bool) (i : Fin 512) (l : Fin 1024) :
    outH D c d (ix2 i l) = (∑ e : Dev nD, devSum D e (D.x d c) i l : EReal) := by
  have h1 : outH D c d (ix2 i l) = (comp D c (D.x d c) zeroV 4 (ix2 i l) + accV D d 14 (pv d c) (ix2 i l) : EReal) := rfl
  rw [h1, comp_apply, accV_apply, zeroV_apply, zero_add]
  rw [show back d (14 + 1) (pv d c) = c from back_16 d c]
  rw [← (back_bij d c).sum_comp (fun e => devSum D e (D.x d c) i l)]
  rw [← Finset.sum_range (f := fun t => devSum D (back d t c) (D.x d c) i l), Finset.sum_range_succ' _ 15, add_comm]
  rfl

/-- A column of the whole first weights, by its device, its chunk and its place there. -/
def colEquiv : (Dev nD × Fin 4) × Fin 1024 ≃ Fin 65536 where
  toFun q := ⟨q.1.1.val * 4096 + (1024 * q.1.2.val + q.2.val), by
    have h1 : q.1.1.val < 16 := q.1.1.isLt
    have := q.1.2.isLt; have := q.2.isLt; omega⟩
  invFun f := ((⟨f.val / 4096, by have := f.isLt; show f.val / 4096 < 16; omega⟩, ⟨f.val % 4096 / 1024, by omega⟩), ⟨f.val % 1024, by omega⟩)
  left_inv q := by
    have h1 : q.1.1.val < 16 := q.1.1.isLt
    have h2 := q.1.2.isLt; have h3 := q.2.isLt
    refine Prod.ext (Prod.ext (Fin.ext ?_) (Fin.ext ?_)) (Fin.ext ?_)
    · show (q.1.1.val * 4096 + (1024 * q.1.2.val + q.2.val)) / 4096 = q.1.1.val; omega
    · show (q.1.1.val * 4096 + (1024 * q.1.2.val + q.2.val)) % 4096 / 1024 = q.1.2.val; omega
    · show (q.1.1.val * 4096 + (1024 * q.1.2.val + q.2.val)) % 1024 = q.2.val; omega
  right_inv f := by
    refine Fin.ext ?_
    show f.val / 4096 * 4096 + (1024 * (f.val % 4096 / 1024) + f.val % 1024) = f.val
    omega

/-- A sum over all columns, device by device and chunk by chunk. -/
theorem sum_cols (g : Fin 65536 → EReal) :
    ∑ f : Fin 65536, g f = ∑ e : Dev nD, ∑ k : Fin 4, ∑ f : Fin 1024, g (colEquiv ((e, k), f)) := by
  rw [← colEquiv.sum_comp g, Fintype.sum_prod_type, Fintype.sum_prod_type]

end Cert.Rings
-- ==== Proof.Whole.lean ====
/-
  What the kernel leaves, from the whole arrays whose blocks the devices begin with.
-/
module

public import proofs.«01_k».proof.Proof.Launch
public import proofs.«01_k».proof.Proof.Sums
public import Idealize.ShloMosaic.Lib.Pipeline.ValueKit.Geometry
public import Idealize.ShloMosaic.Lib.Layout

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

variable {F : FTy → Type} [FloatOps F]

section Final
variable (m : (ℓ : Loc nD τ sig) → Buf (Elt F) ℓ) (ρ : Dev nD → PrngReg)

/-- The staged rows are the device's argument. -/
theorem xstg_eq (c : Dev nD) : xstg m ρ c = m ((c : Thread nD τ).loc main_arg0) := by
  funext i
  unfold xstg s₀
  blk_simp
  refine congrArg (m ((c : Thread nD τ).loc main_arg0)) ?_
  blk_ext [show win0_0.index (0 : Fin 1) = ![0, 0] from by decide +kernel]

/-- The result array ends at the two halves' sums. -/
theorem final_eq (c : Dev nD) : (dats m ρ 0 c).arrAt (1 : Fin 2) cfg0.N = outAt m ρ c := by
  refine (dats m ρ 0 c).arrAt_eq_of_after_last (1 : Fin 2) t0_0 (by decide +kernel) _ fun j => ?_
  rfl

end Final

variable (m : (ℓ : Loc nD τ sig) → Buf (Elt Ideal) ℓ) (ρ : Dev nD → PrngReg)

/-- The whole arrays' shapes: the rows, the first weights, the second weights. -/
abbrev XS : Shape := ⟨2, ![16384, 1024]⟩
abbrev AS : Shape := ⟨2, ![1024, 65536]⟩
abbrev BS : Shape := ⟨2, ![65536, 1024]⟩

/-- The row of the whole array a device's row is. -/
def rowOf (c : Dev nD) (r : Fin 1024) : Fin 16384 :=
  ⟨c.val * 1024 + r.val, by have h1 : c.val < 16 := c.isLt; have := r.isLt; omega⟩

/-- The product of one row with one column of the first weights. -/
def hid (X : XS.Idx → EReal) (A : AS.Idx → EReal) (r : Fin 16384) (f : Fin 65536) : EReal := ∑ p : Fin 1024, X (ix2 r p) * A (ix2 p f)

/-- The result the whole arrays give. -/
def mlp (X : XS.Idx → EReal) (A : AS.Idx → EReal) (B : BS.Idx → EReal) : XS.Idx → EReal :=
  fun j => ∑ f : Fin 65536, gate (hid X A (j 0) f) * B (ix2 f (j 1))

theorem mlp_cols (X : XS.Idx → EReal) (A : AS.Idx → EReal) (B : BS.Idx → EReal) (j : XS.Idx) :
    mlp X A B j = ∑ e : Dev nD, ∑ k : Fin 4, ∑ f : Fin 1024,
      gate (hid X A (j 0) (colEquiv ((e, k), f))) * B (ix2 (colEquiv ((e, k), f)) (j 1)) := by
  unfold mlp
  rw [sum_cols]

section Reads
variable {X : XS.Idx → EReal} {A : AS.Idx → EReal} {B : BS.Idx → EReal} {c : Dev nD}

theorem chunk1_read (k : Fin 4) (h : m ((c : Thread nD τ).loc main_arg1) = Layout.block ⟨2, ![1024, 4096]⟩ ⟨2, ![1024, 65536]⟩ 1 16 c A) (p f : Fin 1024) :
    (DM m ρ).w false c k (ix2 p f) = A (ix2 p (colEquiv ((c, k), f))) := by
  show m ((c : Thread nD τ).loc main_arg1) ((chunkR1 k).emb (ix2 p f)) = _
  rw [h]
  refine congrArg A (funext fun a => Fin.ext ?_)
  match a with
  | 0 => show 0 + 1 * p.val = p.val; omega
  | 1 => show c.val * 4096 + (1024 * k.val + 1 * f.val) = c.val * 4096 + (1024 * k.val + f.val); omega

theorem chunk2_read (k : Fin 4) (h : m ((c : Thread nD τ).loc main_arg2) = Layout.block ⟨2, ![4096, 1024]⟩ ⟨2, ![65536, 1024]⟩ 0 16 c B) (f l : Fin 1024) :
    (DM m ρ).w true c k (ix2 f l) = B (ix2 (colEquiv ((c, k), f)) l) := by
  show m ((c : Thread nD τ).loc main_arg2) ((chunkR2 k).emb (ix2 f l)) = _
  rw [h]
  refine congrArg B (funext fun a => Fin.ext ?_)
  match a with
  | 0 => show c.val * 4096 + (1024 * k.val + 1 * f.val) = c.val * 4096 + (1024 * k.val + f.val); omega
  | 1 => show 0 + 1 * l.val = l.val; omega

theorem x_read (d : Bool) (h : m ((c : Thread nD τ).loc main_arg0) = Layout.block ⟨2, ![1024, 1024]⟩ ⟨2, ![16384, 1024]⟩ 0 16 c X) (i : Fin 512) (p : Fin 1024) :
    (DM m ρ).x d c (ix2 i p) = X (ix2 (rowOf c ((hrect d).emb (ix2 i p) 0)) p) := by
  show halfOf d (xstg m ρ c) (ix2 i p) = _
  rw [xstg_eq, halfOf_apply, h]
  refine congrArg X (funext fun a => Fin.ext ?_)
  match a with
  | 0 => rfl
  | 1 =>
    show ((hrect d).emb (ix2 i p) 1).val = p.val
    cases d
    · show 0 + 1 * p.val = p.val; omega
    · show 0 + 1 * p.val = p.val; omega

end Reads

/-- The kernel's result on every device is its block of the whole result. -/
theorem outAt_eq {X : XS.Idx → EReal} {A : AS.Idx → EReal} {B : BS.Idx → EReal}
    (h : ∀ c : Dev nD, m ((c : Thread nD τ).loc main_arg0) = Layout.block ⟨2, ![1024, 1024]⟩ ⟨2, ![16384, 1024]⟩ 0 16 c X
      ∧ m ((c : Thread nD τ).loc main_arg1) = Layout.block ⟨2, ![1024, 4096]⟩ ⟨2, ![1024, 65536]⟩ 1 16 c A
      ∧ m ((c : Thread nD τ).loc main_arg2) = Layout.block ⟨2, ![4096, 1024]⟩ ⟨2, ![65536, 1024]⟩ 0 16 c B) (c : Dev nD) :
    outAt m ρ c = Layout.block ⟨2, ![1024, 1024]⟩ ⟨2, ![16384, 1024]⟩ 0 16 c (mlp X A B) := by
  refine halves_ext fun d => ?_
  unfold outAt
  rw [halfOf_glue]
  funext j
  obtain ⟨i, l, rfl⟩ : ∃ (i : Fin 512) (l : Fin 1024), j = ix2 i l := ⟨j 0, j 1, eq_ix2 j⟩
  refine (outH_apply (DM m ρ) c d i l).trans ?_
  rw [halfOf_apply]
  rw [Layout.block_apply, mlp_cols]
  unfold devSum part
  refine Finset.sum_congr rfl fun e _ => Finset.sum_congr rfl fun k _ => Finset.sum_congr rfl fun f _ => ?_
  refine congrArg₂ (fun u v : EReal => u * v) (congrArg gate ?_) ?_
  · unfold hid
    refine Finset.sum_congr rfl fun p _ => ?_
    refine congrArg₂ (fun u v : EReal => u * v) ((x_read m ρ d (h c).1 i p).trans ?_) (chunk1_read m ρ k (h e).2.1 p f)
    rfl
  · refine (chunk2_read m ρ k (h e).2.2 f l).trans ?_
    refine congrArg B (congrArg (ix2 _) (Fin.ext ?_))
    cases d
    · show l.val = 0 + 1 * l.val; omega
    · show l.val = 0 + 1 * l.val; omega

end Cert.Rings
-- ==== Proof.Bound.lean ====
/-
  The activation as a quotient, and the bound that keeps a product within the clip.
-/
module

public import proofs.«01_k».proof.Proof.Whole

@[expose] public section

noncomputable section

namespace Cert.Rings

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

/-- The activation is the quotient by one plus the exponential of the negated product. -/
theorem gate_eq (h : EReal) : gate h = Ideal.div h (1 + Ideal.exp (-h)) := by
  have hp : (0 : EReal) ≤ Ideal.exp (-h) := by
    induction (-h : EReal) with
    | bot => exact le_refl _
    | top => exact le_top
    | coe r => exact EReal.coe_nonneg.mpr (Real.exp_pos r).le
  have hn : (1 + Ideal.exp (-h) : EReal) ≠ 0 := ne_of_gt (lt_of_lt_of_le one_pos (le_add_of_nonneg_right hp))
  unfold gate
  show h * Ideal.div 1 (1 + Ideal.exp (-h)) = _
  unfold Ideal.div
  rw [if_neg hn, if_neg hn, one_mul]

theorem sq_nonneg_of (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

theorem coe_total {n : ℕ} (y : Fin n → ℝ) : ((∑ i, y i : ℝ) : EReal) = ∑ i, (y i : EReal) := by
  induction n with
  | zero => rfl
  | succ n ih => rw [Fin.sum_univ_succ, Fin.sum_univ_succ, EReal.coe_add, ih]

/-- Elements whose squares have a real bound are real. -/
theorem real_of_squares {n : ℕ} (x : Fin n → EReal) (b : ℝ) (h : ∑ i, x i * x i ≤ (b : EReal)) :
    ∃ y : Fin n → ℝ, (∀ i, x i = (y i : EReal)) ∧ ∑ i, y i ^ 2 ≤ b := by
  have h1 (i : Fin n) : x i * x i ≤ (b : EReal) :=
    (Finset.single_le_sum (f := fun i => x i * x i) (fun i _ => sq_nonneg_of (x i)) (Finset.mem_univ i)).trans h
  have ht (i : Fin n) : x i ≠ ⊤ := fun e => by
    have := h1 i
    rw [e, EReal.top_mul_top] at this
    exact absurd this (not_le_of_gt (EReal.coe_lt_top b))
  have hb (i : Fin n) : x i ≠ ⊥ := fun e => by
    have := h1 i
    rw [e, EReal.bot_mul_bot] at this
    exact absurd this (not_le_of_gt (EReal.coe_lt_top b))
  refine ⟨fun i => (x i).toReal, fun i => (EReal.coe_toReal (ht i) (hb i)).symm, ?_⟩
  rw [← EReal.coe_le_coe_iff, coe_total]
  refine le_of_eq_of_le (Finset.sum_congr rfl fun i _ => ?_) h
  rw [sq, EReal.coe_mul, EReal.coe_toReal (ht i) (hb i)]

/-- The product of a row and a column within the bounds is within the clip. -/
theorem clip_product {n : ℕ} (x w : Fin n → EReal) (hx : ∑ i, x i * x i ≤ ((1800 : ℝ) : EReal)) (hw : ∑ i, w i * w i ≤ ((2 : ℝ) : EReal)) :
    min ((60 : ℝ) : EReal) (max ((-60 : ℝ) : EReal) (∑ i, x i * w i)) = ∑ i, x i * w i := by
  obtain ⟨y, ey, hy⟩ := real_of_squares x _ hx
  obtain ⟨z, ez, hz⟩ := real_of_squares w _ hw
  have e : ∑ i, x i * w i = ((∑ i, y i * z i : ℝ) : EReal) := by
    rw [coe_total]
    exact Finset.sum_congr rfl fun i _ => by rw [ey, ez, EReal.coe_mul]
  have hs : (∑ i, y i * z i) ^ 2 ≤ 60 ^ 2 := by
    refine (Finset.sum_mul_sq_le_sq_mul_sq Finset.univ y z).trans ?_
    refine (mul_le_mul hy hz (Finset.sum_nonneg fun i _ => sq_nonneg _) (by norm_num)).trans (by norm_num)
  have ha := abs_le_of_sq_le_sq' hs (by norm_num)
  rw [e, max_eq_right (EReal.coe_le_coe_iff.mpr ha.1), min_eq_right (EReal.coe_le_coe_iff.mpr ha.2)]

end Cert.Rings
-- ==== Proof.RefValue.lean ====
/-
  The reference's value, and what the precondition says of the whole arrays.
-/
module

public import proofs.«01_k».proof.Proof.Bound
public import proofs.«01_k».proof.Defs
public import proofs.«01_k».proof.Proof.Gen.ReferenceIdeal.Run

@[expose] public section

noncomputable section

namespace Cert.Rings

open Cert.ReferenceIdeal Cert.ReferenceIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)
open Idealize.ShloMosaic.SiteBlocks (L lv mem_L mem_L' mayWait_of)

/-- The reference's result, as the program composes it. -/
def refOut (X : FVec Ideal S16384x1024 .f32) (A : FVec Ideal S1024x65536 .f32) (B : FVec Ideal S65536x1024 .f32) : FVec Ideal S16384x1024 .f32 :=
  Host.dotGeneral dot_S16384x65536_S65536x1024_S16384x1024_1_0_0_1_n_n none (Host.divf (Host.dotGeneral dot_S16384x1024_S1024x65536_S16384x65536_1_0_0_1_n_n none X A)
    (addf (broadcastInDim S16384x65536 ![] bcast_S_S16384x65536 (constant S_ .f32 0x3F800000#32))
      (Host.exp (Host.negf (minimumf (broadcastInDim S16384x65536 ![] bcast_S_S16384x65536 (sitofp .f32 (constantI S_ 32 60#32)))
        (maximumf (broadcastInDim S16384x65536 ![] bcast_S_S16384x65536 (sitofp .f32 (constantI S_ 32 4294967236#32)))
          (Host.dotGeneral dot_S16384x1024_S1024x65536_S16384x65536_1_0_0_1_n_n none X A))))))) B

/-- Within the bounds the reference computes the whole result. -/
theorem refOut_eq (X : FVec Ideal S16384x1024 .f32) (A : FVec Ideal S1024x65536 .f32) (B : FVec Ideal S65536x1024 .f32)
    (hX : ∀ r : Fin 16384, (∑ p : Fin 1024, X (ix2 r p) * X (ix2 r p) : EReal) ≤ ((1800 : ℝ) : EReal))
    (hA : ∀ f : Fin 65536, (∑ p : Fin 1024, A (ix2 p f) * A (ix2 p f) : EReal) ≤ ((2 : ℝ) : EReal)) : refOut X A B = mlp X A B := by
  funext j
  obtain ⟨r, l, rfl⟩ : ∃ (r : Fin 16384) (l : Fin 1024), j = ix2 r l := ⟨j 0, j 1, eq_ix2 j⟩
  unfold refOut mlp hid
  pointwise
  refine Finset.sum_congr rfl fun f _ => ?_
  have hc := clip_product (fun p => X (ix2 r p)) (fun p => A (ix2 p f)) (hX r) (hA f)
  have e1 : (FloatOps.sitofp .f32 60#32 : Ideal .f32) = ((60 : ℝ) : EReal) := by
    show (((60#32 : BitVec 32).toInt : ℝ) : EReal) = _
    rw [show (60#32 : BitVec 32).toInt = 60 from by decide]
    norm_num
  have e2 : (FloatOps.sitofp .f32 4294967236#32 : Ideal .f32) = ((-60 : ℝ) : EReal) := by
    show (((4294967236#32 : BitVec 32).toInt : ℝ) : EReal) = _
    rw [show (4294967236#32 : BitVec 32).toInt = -60 from by decide]
    norm_num
  rw [e1, e2, hc, gate_eq]

/-- The two bounds of the precondition as real numbers. -/
theorem bound_1800 : Ideal.ofBits .f32 0x44E10000#32 = ((1800 : ℝ) : EReal) := by
  simp [Ideal.ofBits, Ideal.ieee, -EReal.coe_mul]; norm_num

theorem bound_2 : Ideal.ofBits .f32 0x40000000#32 = ((2 : ℝ) : EReal) := by
  simp [Ideal.ofBits, Ideal.ieee, -EReal.coe_mul]; norm_num

theorem true_of_bit {b : Bool} (h : BitVec.ofBool b = 1#1) : b = true := by
  cases b
  · exact absurd h (by decide)
  · rfl

/-- What the precondition says of one device's blocks. -/
theorem pre_rows [Cert.Pre_norms_bounded_KernelIdeal.Facts] (x : Vec Ideal ⟨2, ![1024, 1024]⟩ .f32) (w1 : Vec Ideal ⟨2, ![1024, 4096]⟩ .f32) (w2 : Vec Ideal ⟨2, ![4096, 1024]⟩ .f32)
    (h : (Cert.Pre_norms_bounded_KernelIdeal.fn (F := Ideal) x w1 w2).1 = fun _ => 1#1) (r : Fin 1024) :
    (∑ p : Fin 1024, x (ix2 r p) * x (ix2 r p) : EReal) ≤ ((1800 : ℝ) : EReal) := by
  have h' := congrFun h (ix1 r)
  unfold Cert.Pre_norms_bounded_KernelIdeal.fn at h'
  pointwise at h'
  rw [bound_1800] at h'
  exact of_decide_eq_true (true_of_bit h')

theorem pre_cols [Cert.Pre_norms_bounded_KernelIdeal.Facts] (x : Vec Ideal ⟨2, ![1024, 1024]⟩ .f32) (w1 : Vec Ideal ⟨2, ![1024, 4096]⟩ .f32) (w2 : Vec Ideal ⟨2, ![4096, 1024]⟩ .f32)
    (h : (Cert.Pre_norms_bounded_KernelIdeal.fn (F := Ideal) x w1 w2).2 = fun _ => 1#1) (f : Fin 4096) :
    (∑ p : Fin 1024, w1 (ix2 p f) * w1 (ix2 p f) : EReal) ≤ ((2 : ℝ) : EReal) := by
  have h' := congrFun h (ix1 f)
  unfold Cert.Pre_norms_bounded_KernelIdeal.fn at h'
  pointwise at h'
  rw [bound_2] at h'
  exact of_decide_eq_true (true_of_bit h')

/-- Rows bounded on every device are bounded in the whole array. -/
theorem rows_whole (X : XS.Idx → EReal) (b : EReal)
    (Y : Fin 16 → (⟨2, ![1024, 1024]⟩ : Shape).Idx → EReal) (hY : ∀ c, Y c = Layout.block ⟨2, ![1024, 1024]⟩ ⟨2, ![16384, 1024]⟩ 0 16 c X)
    (h : ∀ (c : Fin 16) (r : Fin 1024), ∑ p : Fin 1024, Y c (ix2 r p) * Y c (ix2 r p) ≤ b) (r : Fin 16384) :
    ∑ p : Fin 1024, X (ix2 r p) * X (ix2 r p) ≤ b := by
  have hr := r.isLt
  refine le_of_eq_of_le (Finset.sum_congr rfl fun p _ => ?_) (h ⟨r.val / 1024, by omega⟩ ⟨r.val % 1024, by omega⟩)
  have e : X (ix2 r p) = Y ⟨r.val / 1024, by omega⟩ (ix2 ⟨r.val % 1024, by omega⟩ p) := by
    rw [hY]
    refine congrArg X (funext fun a => Fin.ext ?_)
    match a with
    | 0 => show r.val = r.val / 1024 * 1024 + r.val % 1024; omega
    | 1 => rfl
  rw [e]

/-- Columns bounded on every device are bounded in the whole array. -/
theorem cols_whole (A : AS.Idx → EReal) (b : EReal)
    (Y : Fin 16 → (⟨2, ![1024, 4096]⟩ : Shape).Idx → EReal) (hY : ∀ c, Y c = Layout.block ⟨2, ![1024, 4096]⟩ ⟨2, ![1024, 65536]⟩ 1 16 c A)
    (h : ∀ (c : Fin 16) (f : Fin 4096), ∑ p : Fin 1024, Y c (ix2 p f) * Y c (ix2 p f) ≤ b) (f : Fin 65536) :
    ∑ p : Fin 1024, A (ix2 p f) * A (ix2 p f) ≤ b := by
  have hf := f.isLt
  refine le_of_eq_of_le (Finset.sum_congr rfl fun p _ => ?_) (h ⟨f.val / 4096, by omega⟩ ⟨f.val % 4096, by omega⟩)
  have e : A (ix2 p f) = Y ⟨f.val / 4096, by omega⟩ (ix2 p ⟨f.val % 4096, by omega⟩) := by
    rw [hY]
    refine congrArg A (funext fun a => Fin.ext ?_)
    match a with
    | 0 => rfl
    | 1 => show f.val = f.val / 4096 * 4096 + f.val % 4096; omega
  rw [e]

end Cert.Rings
-- ==== Proof.lean ====
/- The proof of the certificate's claims. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.RefValue

@[expose] public section

noncomputable section

namespace Cert.Proof

open Idealize.ShloMosaic Idealize.SL.Sem

/-- The two programs' body tables are one. -/
theorem bodies_eq : @Cert.Kernel.defs₀ Bits _ _ = @Cert.KernelIdeal.defs₀ Bits _ _ := by
  unfold Cert.Kernel.defs₀ Cert.KernelIdeal.defs₀
  refine congrArg Defs.onTc (funext fun l => funext fun x => ?_)
  rcases l with ⟨_ | n, h⟩
  · rcases x with ⟨t, s⟩
    rfl
  · exact absurd h (Nat.not_lt.2 (Nat.le_add_left _ _))

theorem defs_eq : @Cert.Kernel.defs Bits _ _ = @Cert.KernelIdeal.defs Bits _ _ :=
  congrArg (Pipeline.defs (Cert.KernelIdeal.pcfgs (F := Bits))) bodies_eq

/-- The kernel, read over bit patterns: the run of KernelIdeal over any floats, with the result dropped. -/
theorem frame_kernel : Cert.quiescent_Kernel := fun m ρ _ => by
  have h := (θ_run Cert.KernelIdeal.defs _ _).mono (fun _ h => And.intro (fun c => (h.1 c).2) h.2) (Cert.Rings.run_main (F := Bits) m ρ)
  rw [defs_eq]
  exact h

theorem frame_ideal : Cert.quiescent_KernelIdeal := fun m ρ _ =>
  (θ_run Cert.KernelIdeal.defs _ _).mono (fun _ h => ⟨fun c => (h.1 c).2, h.2⟩) (Cert.Rings.run_main (F := Ideal) m ρ)

/-- The reference is a straight-line host program, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The shape relations of the precondition, over one device's blocks and over the whole arrays. -/
theorem pre_facts : Cert.Pre_norms_bounded_KernelIdeal.Facts where
  reducesTo_S1024x1024_S1024_d1 := by decide
  h_S_ := by decide
  bcast_S_S1024 := by decide
  reducesTo_S1024x4096_S4096_d0 := by decide
  bcast_S_S4096 := by decide

theorem pre_facts_whole : Cert.Pre_norms_bounded_ReferenceIdeal.Facts where
  reducesTo_S16384x1024_S16384_d1 := by decide
  h_S_ := by decide
  bcast_S_S16384 := by decide
  reducesTo_S1024x65536_S65536_d0 := by decide
  bcast_S_S65536 := by decide

/-- The bounds on every device's blocks, for the whole arrays. -/
theorem bounds_of_pre [Cert.Pre_norms_bounded_KernelIdeal.Facts] (m : (ℓ : Loc Cert.KernelIdeal.nD Cert.KernelIdeal.τ Cert.KernelIdeal.sig) → Buf (Elt Ideal) ℓ)
    (h : Cert.Pre_KernelIdeal_norms_bounded_KernelIdeal m) (X : Cert.Rings.XS.Idx → EReal) (A : Cert.Rings.AS.Idx → EReal)
    (hX : ∀ c : Dev Cert.KernelIdeal.nD, m ((c.tc : Thread Cert.KernelIdeal.nD Cert.KernelIdeal.τ).loc Cert.KernelIdeal.main_arg0) = Layout.block ⟨2, ![1024, 1024]⟩ ⟨2, ![16384, 1024]⟩ 0 16 c X)
    (hA : ∀ c : Dev Cert.KernelIdeal.nD, m ((c.tc : Thread Cert.KernelIdeal.nD Cert.KernelIdeal.τ).loc Cert.KernelIdeal.main_arg1) = Layout.block ⟨2, ![1024, 4096]⟩ ⟨2, ![1024, 65536]⟩ 1 16 c A) :
    (∀ r : Fin 16384, ∑ p : Fin 1024, X (ix2 r p) * X (ix2 r p) ≤ ((1800 : ℝ) : EReal))
      ∧ ∀ f : Fin 65536, ∑ p : Fin 1024, A (ix2 p f) * A (ix2 p f) ≤ ((2 : ℝ) : EReal) :=
  ⟨Cert.Rings.rows_whole X _ _ hX fun c r => Cert.Rings.pre_rows _ _ _ (h c).1 r,
    Cert.Rings.cols_whole A _ _ hA fun c f => Cert.Rings.pre_cols _ _ _ (h c).2 f⟩

/-- Kernel and reference leave one result: the whole of the sums over all columns of the first weights. -/
theorem value [Cert.Pre_norms_bounded_KernelIdeal.Facts] : Cert.algebraic_KernelIdeal_ReferenceIdeal_pre_norms_bounded_KernelIdeal := fun m ρ m' ρ' hpre hm => by
  have hb := bounds_of_pre m hpre (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)) (fun c => (hm c).1) fun c => (hm c).2.1
  refine ⟨Cert.Rings.mlp (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono (fun _ h c => ⟨?_, (h.1 c).2⟩) (Cert.Rings.run_main (F := Ideal) m ρ),
    (θ_run Cert.ReferenceIdeal.defs _ _).mono (fun _ h => ⟨?_, (h 0).2⟩) (Cert.ReferenceIdeal.Value.run (F := Ideal) m' ρ')⟩
  · exact ((h.1 c).1.trans (Cert.Rings.final_eq m ρ c)).trans (Cert.Rings.outAt_eq m ρ hm c)
  · exact (h 0).1.trans (Cert.Rings.refOut_eq _ _ _ hb.1 hb.2)

theorem claim : Cert.Claim :=
  ⟨Cert.Kernel.Gen.facts, Cert.KernelIdeal.Gen.facts, Cert.ReferenceIdeal.Gen.facts, pre_facts, pre_facts_whole,
    frame_kernel, frame_ideal, fun m ρ _ => frame_ideal m ρ trivial, frame_reference, fun m ρ _ => frame_reference m ρ trivial, trivial,
    @value pre_facts⟩

end Cert.Proof

end
